-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x512 : Shape := ⟨2, ![768, 512]⟩
abbrev S512x768 : Shape := ⟨2, ![512, 768]⟩
abbrev S2x512x16x64 : Shape := ⟨4, ![2, 512, 16, 64]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x256x768 .bf16) (main_arg1 : FVec F S768x512 .bf16) (main_arg2 : FVec F S512x768 .bf16) (main_arg3 : FVec F S2x512x16x64 .bf16) (main_arg4 : FVec F S2x512x16x64 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x16x64 .bf16 := Host.absf main_arg3
  let main_cst_2 : FVec F S_ .bf16 := constant S_ .bf16 0x7F80#16
  let main_v10 : FVec F S2x512x16x64 .bf16 := broadcastInDim S2x512x16x64 ![] bcast_S_S2x512x16x64 main_cst_2
  let main_v11 : IVec S2x512x16x64 1 := cmpf .olt main_v9 main_v10
  let main_c_3 : IVec S_ 1 := constantI S_ 1 1#1
  let main_v12 : IVec S_ 1 := (fun x v => Host.reduce IntOp.andi x v reducesTo_S2x512x16x64_S_d0_1_2_3 h_S_) main_v11 main_c_3
  let main_v13 : IVec S_ 1 := andi main_v8 main_v12
  main_v13
-- ==== Pre_finite_scores_ReferenceIdeal.lean ====
abbrev S2x256x768 : Shape := ⟨3, ![2, 256, 768]⟩
abbrev S768x4096 : Shape := ⟨2, ![768, 4096]⟩
abbrev S4096x768 : Shape := ⟨2, ![4096, 768]⟩
abbrev S2x512x16x64 : Shape := ⟨4, ![2, 512, 16, 64]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x256x768 .bf16) (main_arg1 : FVec F S768x4096 .bf16) (main_arg2 : FVec F S4096x768 .bf16) (main_arg3 : FVec F S2x512x16x64 .bf16) (main_arg4 : FVec F S2x512x16x64 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x4096 .bf16 := Host.absf main_arg1
  let main_cst_0 : FVec F S_ .bf16 := constant S_ .bf16 0x7F80#16
  let main_v5 : FVec F S768x4096 .bf16 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x16x64 .bf16 := Host.absf main_arg3
  let main_cst_2 : FVec F S_ .bf16 := constant S_ .bf16 0x7F80#16
  let main_v10 : FVec F S2x512x16x64 .bf16 := broadcastInDim S2x512x16x64 ![] bcast_S_S2x512x16x64 main_cst_2
  let main_v11 : IVec S2x512x16x64 1 := cmpf .olt main_v9 main_v10
  let main_c_3 : IVec S_ 1 := constantI S_ 1 1#1
  let main_v12 : IVec S_ 1 := (fun x v => Host.reduce IntOp.andi x v reducesTo_S2x512x16x64_S_d0_1_2_3 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S512x768 : Shape := ⟨2, ![512, 768]⟩
abbrev S2x512x16x64 : Shape := ⟨4, ![2, 512, 16, 64]⟩
abbrev S_ : Shape := ⟨0, ![]⟩
abbrev S2x512x1024 : Shape := ⟨3, ![2, 512, 1024]⟩
abbrev S2x512x128 : Shape := ⟨3, ![2, 512, 128]⟩
abbrev S16x32x768 : Shape := ⟨3, ![16, 32, 768]⟩
abbrev S2x32x768 : Shape := ⟨3, ![2, 32, 768]⟩
abbrev S16 : Shape := ⟨1, ![16]⟩
abbrev S256x768 : Shape := ⟨2, ![256, 768]⟩
abbrev S256x512 : Shape := ⟨2, ![256, 512]⟩
abbrev S256x64 : Shape := ⟨2, ![256, 64]⟩
abbrev S1024x64 : Shape := ⟨2, ![1024, 64]⟩
abbrev S1x512x64 : Shape := ⟨3, ![1, 512, 64]⟩
abbrev S512x64 : Shape := ⟨2, ![512, 64]⟩
abbrev S1024x512 : Shape := ⟨2, ![1024, 512]⟩
abbrev S1024 : Shape := ⟨1, ![1024]⟩
abbrev S1024x1 : Shape := ⟨2, ![1024, 1]⟩
abbrev S32x768 : Shape := ⟨2, ![32, 768]⟩
abbrev S1x32x768 : Shape := ⟨3, ![1, 32, 768]⟩
abbrev S1 : Shape := ⟨1, ![1]⟩

abbrev nBuf : Space → Nat
  | .hbm => 34
  | .vmem => 10
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S512x768, .bf16⟩
  | .hbm, ⟨3, _⟩ => ⟨S2x512x16x64, .bf16⟩
  | .hbm, ⟨4, _⟩ => ⟨S2x512x16x64, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x512x1024, .bf16⟩
  | .hbm, ⟨12, _⟩ => ⟨S2x512x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x512x128, .bf16⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x512x128, .bf16⟩
  | .hbm, ⟨31, _⟩ => ⟨S512x768, .bf16⟩
  | .hbm, ⟨32, _⟩ => ⟨S512x768, .bf16⟩
  | .hbm, ⟨33, _⟩ => ⟨S2x256x768, .bf16⟩
  | .local _ .vmem, ⟨0, _⟩ => ⟨S512x768, .bf16⟩
  | .local _ .vmem, ⟨1, _⟩ => ⟨S768x512, .bf16⟩
  | .local _ .vmem, ⟨2, _⟩ => ⟨S512x768, .bf16⟩
  | .local _ .vmem, ⟨3, _⟩ => ⟨S2x512x128, .bf16⟩
  | .local _ .vmem, ⟨4, _⟩ => ⟨S2x512x128, .bf16⟩
  | .local _ .vmem, ⟨5, _⟩ => ⟨S512x768, .bf16⟩
  | .local _ .vmem, ⟨6, _⟩ => ⟨S16x32x768, .bf16⟩
  | .local _ .vmem, ⟨7, _⟩ => ⟨S2x32x768, .bf16⟩
  | .local _ .vmem, ⟨8, _⟩ => ⟨S16x32x768, .bf16⟩
  | .local _ .vmem, ⟨9, _⟩ => ⟨S16x32x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_71 : BitVec 32 := 0#32
  let v129 : BitVec 1 := Scalar.cmpi .ne v2 c0_i32_71
  let v130 : BitVec 32 := Scalar.extui v129
  let c0_i32_72 : BitVec 32 := 0#32
  let v131 : BitVec 1 := Scalar.cmpi .ne v130 c0_i32_72
  v131

def k0_off1 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off2 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev8 : Nat :=
  let c0_i32_346 : BitVec 32 := 0#32
  let c0_i32_344 : BitVec 32 := 0#32
  let c1_i32_345 : BitVec 32 := 1#32
  let v558 : BitVec 32 := Scalar.muli c0_i32_344 c1_i32_345
  let v559 : BitVec 32 := Scalar.addi c0_i32_346 v558
  v559.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v132 : BitVec 1 := Scalar.cmpi .ne v2 c1_i32_73
  let v133 : BitVec 32 := Scalar.extui v132
  let c0_i32_74 : BitVec 32 := 0#32
  let v134 : BitVec 1 := Scalar.cmpi .ne v133 c0_i32_74
  v134

def k0_off3 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off4 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev9 : Nat :=
  let c0_i32_346 : BitVec 32 := 0#32
  let c1_i32_344 : BitVec 32 := 1#32
  let c1_i32_345 : BitVec 32 := 1#32
  let v558 : BitVec 32 := Scalar.muli c1_i32_344 c1_i32_345
  let v559 : BitVec 32 := Scalar.addi c0_i32_346 v558
  v559.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_75 : BitVec 32 := 2#32
  let v135 : BitVec 1 := Scalar.cmpi .ne v2 c2_i32_75
  let v136 : BitVec 32 := Scalar.extui v135
  let c0_i32_76 : BitVec 32 := 0#32
  let v137 : BitVec 1 := Scalar.cmpi .ne v136 c0_i32_76
  v137

def k0_off5 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off6 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev10 : Nat :=
  let c0_i32_346 : BitVec 32 := 0#32
  let c2_i32_344 : BitVec 32 := 2#32
  let c1_i32_345 : BitVec 32 := 1#32
  let v558 : BitVec 32 := Scalar.muli c2_i32_344 c1_i32_345
  let v559 : BitVec 32 := Scalar.addi c0_i32_346 v558
  v559.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_77 : BitVec 32 := 3#32
  let v138 : BitVec 1 := Scalar.cmpi .ne v2 c3_i32_77
  let v139 : BitVec 32 := Scalar.extui v138
  let c0_i32_78 : BitVec 32 := 0#32
  let v140 : BitVec 1 := Scalar.cmpi .ne v139 c0_i32_78
  v140

def k0_off7 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off8 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev11 : Nat :=
  let c0_i32_346 : BitVec 32 := 0#32
  let c3_i32_344 : BitVec 32 := 3#32
  let c1_i32_345 : BitVec 32 := 1#32
  let v558 : BitVec 32 := Scalar.muli c3_i32_344 c1_i32_345
  let v559 : BitVec 32 := Scalar.addi c0_i32_346 v558
  v559.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_79 : BitVec 32 := 4#32
  let v141 : BitVec 1 := Scalar.cmpi .ne v2 c4_i32_79
  let v142 : BitVec 32 := Scalar.extui v141
  let c0_i32_80 : BitVec 32 := 0#32
  let v143 : BitVec 1 := Scalar.cmpi .ne v142 c0_i32_80
  v143

def k0_off9 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off10 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev12 : Nat :=
  let c0_i32_346 : BitVec 32 := 0#32
  let c4_i32_344 : BitVec 32 := 4#32
  let c1_i32_345 : BitVec 32 := 1#32
  let v558 : BitVec 32 := Scalar.muli c4_i32_344 c1_i32_345
  let v559 : BitVec 32 := Scalar.addi c0_i32_346 v558
  v559.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_81 : BitVec 32 := 5#32
  let v144 : BitVec 1 := Scalar.cmpi .ne v2 c5_i32_81
  let v145 : BitVec 32 := Scalar.extui v144
  let c0_i32_82 : BitVec 32 := 0#32
  let v146 : BitVec 1 := Scalar.cmpi .ne v145 c0_i32_82
  v146

def k0_off11 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off12 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev13 : Nat :=
  let c0_i32_346 : BitVec 32 := 0#32
  let c5_i32_344 : BitVec 32 := 5#32
  let c1_i32_345 : BitVec 32 := 1#32
  let v558 : BitVec 32 := Scalar.muli c5_i32_344 c1_i32_345
  let v559 : BitVec 32 := Scalar.addi c0_i32_346 v558
  v559.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_83 : BitVec 32 := 6#32
  let v147 : BitVec 1 := Scalar.cmpi .ne v2 c6_i32_83
  let v148 : BitVec 32 := Scalar.extui v147
  let c0_i32_84 : BitVec 32 := 0#32
  let v149 : BitVec 1 := Scalar.cmpi .ne v148 c0_i32_84
  v149

def k0_off13 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off14 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev14 : Nat :=
  let c0_i32_346 : BitVec 32 := 0#32
  let c6_i32_344 : BitVec 32 := 6#32
  let c1_i32_345 : BitVec 32 := 1#32
  let v558 : BitVec 32 := Scalar.muli c6_i32_344 c1_i32_345
  let v559 : BitVec 32 := Scalar.addi c0_i32_346 v558
  v559.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_85 : BitVec 32 := 7#32
  let v150 : BitVec 1 := Scalar.cmpi .ne v2 c7_i32_85
  let v151 : BitVec 32 := Scalar.extui v150
  let c0_i32_86 : BitVec 32 := 0#32
  let v152 : BitVec 1 := Scalar.cmpi .ne v151 c0_i32_86
  v152

def k0_off15 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off16 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev15 : Nat :=
  let c0_i32_346 : BitVec 32 := 0#32
  let c7_i32_344 : BitVec 32 := 7#32
  let c1_i32_345 : BitVec 32 := 1#32
  let v558 : BitVec 32 := Scalar.muli c7_i32_344 c1_i32_345
  let v559 : BitVec 32 := Scalar.addi c0_i32_346 v558
  v559.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_126 : BitVec 32 := 0#32
  let v246 : BitVec 1 := Scalar.cmpi .ne v2 c0_i32_126
  let v247 : BitVec 32 := Scalar.extui v246
  let c0_i32_127 : BitVec 32 := 0#32
  let v248 : BitVec 1 := Scalar.cmpi .ne v247 c0_i32_127
  v248

def k0_off17 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off18 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_347 : BitVec 32 := 0#32
  let c0_i32_348 : BitVec 32 := 0#32
  ![v556.toNat, 0, 0]
def k0_dev16 : Nat :=
  let c0_i32_346 : BitVec 32 := 0#32
  let c0_i32_344 : BitVec 32 := 0#32
  let c1_i32_345 : BitVec 32 := 1#32
  let v558 : BitVec 32 := Scalar.muli c0_i32_344 c1_i32_345
  let v559 : BitVec 32 := Scalar.addi c0_i32_346 v558
  v559.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_128 : BitVec 32 := 1#32
  let v249 : BitVec 1 := Scalar.cmpi .ne v2 c1_i32_128
  let v250 : BitVec 32 := Scalar.extui v249
  let c0_i32_129 : BitVec 32 := 0#32
  let v251 : BitVec 1 := Scalar.cmpi .ne v250 c0_i32_129
  v251

def k0_off19 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off20 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev17 : Nat :=
  let c0_i32_345 : BitVec 32 := 0#32
  let c1_i32_343 : BitVec 32 := 1#32
  let c1_i32_344 : BitVec 32 := 1#32
  let v558 : BitVec 32 := Scalar.muli c1_i32_343 c1_i32_344
  let v559 : BitVec 32 := Scalar.addi c0_i32_345 v558
  v559.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_130 : BitVec 32 := 2#32
  let v252 : BitVec 1 := Scalar.cmpi .ne v2 c2_i32_130
  let v253 : BitVec 32 := Scalar.extui v252
  let c0_i32_131 : BitVec 32 := 0#32
  let v254 : BitVec 1 := Scalar.cmpi .ne v253 c0_i32_131
  v254

def k0_off21 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off22 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev18 : Nat :=
  let c0_i32_345 : BitVec 32 := 0#32
  let c2_i32_343 : BitVec 32 := 2#32
  let c1_i32_344 : BitVec 32 := 1#32
  let v558 : BitVec 32 := Scalar.muli c2_i32_343 c1_i32_344
  let v559 : BitVec 32 := Scalar.addi c0_i32_345 v558
  v559.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v255 : BitVec 1 := Scalar.cmpi .ne v2 c3_i32_132
  let v256 : BitVec 32 := Scalar.extui v255
  let c0_i32_133 : BitVec 32 := 0#32
  let v257 : BitVec 1 := Scalar.cmpi .ne v256 c0_i32_133
  v257

def k0_off23 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off24 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev19 : Nat :=
  let c0_i32_345 : BitVec 32 := 0#32
  let c3_i32_343 : BitVec 32 := 3#32
  let c1_i32_344 : BitVec 32 := 1#32
  let v558 : BitVec 32 := Scalar.muli c3_i32_343 c1_i32_344
  let v559 : BitVec 32 := Scalar.addi c0_i32_345 v558
  v559.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v258 : BitVec 1 := Scalar.cmpi .ne v2 c4_i32_134
  let v259 : BitVec 32 := Scalar.extui v258
  let c0_i32_135 : BitVec 32 := 0#32
  let v260 : BitVec 1 := Scalar.cmpi .ne v259 c0_i32_135
  v260

def k0_off25 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off26 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev20 : Nat :=
  let c0_i32_345 : BitVec 32 := 0#32
  let c4_i32_343 : BitVec 32 := 4#32
  let c1_i32_344 : BitVec 32 := 1#32
  let v558 : BitVec 32 := Scalar.muli c4_i32_343 c1_i32_344
  let v559 : BitVec 32 := Scalar.addi c0_i32_345 v558
  v559.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v261 : BitVec 1 := Scalar.cmpi .ne v2 c5_i32_136
  let v262 : BitVec 32 := Scalar.extui v261
  let c0_i32_137 : BitVec 32 := 0#32
  let v263 : BitVec 1 := Scalar.cmpi .ne v262 c0_i32_137
  v263

def k0_off27 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off28 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev21 : Nat :=
  let c0_i32_345 : BitVec 32 := 0#32
  let c5_i32_343 : BitVec 32 := 5#32
  let c1_i32_344 : BitVec 32 := 1#32
  let v558 : BitVec 32 := Scalar.muli c5_i32_343 c1_i32_344
  let v559 : BitVec 32 := Scalar.addi c0_i32_345 v558
  v559.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_138 : BitVec 32 := 6#32
  let v264 : BitVec 1 := Scalar.cmpi .ne v2 c6_i32_138
  let v265 : BitVec 32 := Scalar.extui v264
  let c0_i32_139 : BitVec 32 := 0#32
  let v266 : BitVec 1 := Scalar.cmpi .ne v265 c0_i32_139
  v266

def k0_off29 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off30 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev22 : Nat :=
  let c0_i32_345 : BitVec 32 := 0#32
  let c6_i32_343 : BitVec 32 := 6#32
  let c1_i32_344 : BitVec 32 := 1#32
  let v558 : BitVec 32 := Scalar.muli c6_i32_343 c1_i32_344
  let v559 : BitVec 32 := Scalar.addi c0_i32_345 v558
  v559.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_140 : BitVec 32 := 7#32
  let v267 : BitVec 1 := Scalar.cmpi .ne v2 c7_i32_140
  let v268 : BitVec 32 := Scalar.extui v267
  let c0_i32_141 : BitVec 32 := 0#32
  let v269 : BitVec 1 := Scalar.cmpi .ne v268 c0_i32_141
  v269

def k0_off31 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off32 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev23 : Nat :=
  let c0_i32_345 : BitVec 32 := 0#32
  let c7_i32_343 : BitVec 32 := 7#32
  let c1_i32_344 : BitVec 32 := 1#32
  let v558 : BitVec 32 := Scalar.muli c7_i32_343 c1_i32_344
  let v559 : BitVec 32 := Scalar.addi c0_i32_345 v558
  v559.toNat
def k0_off33 (d0 : Dev nD) (c0_i32_142 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v270 : BitVec 32 := Scalar.addi c0_i32_142 v2
  let v271 : Index := Scalar.indexCast v270
  let c0_143 : Index := 0#32
  let c0_144 : Index := 0#32
  ![v271.toNat, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_191 : BitVec 32 := 0#32
  let v337 : BitVec 1 := Scalar.cmpi .ne v2 c0_i32_191
  let v338 : BitVec 32 := Scalar.extui v337
  let c0_i32_192 : BitVec 32 := 0#32
  let v339 : BitVec 1 := Scalar.cmpi .ne v338 c0_i32_192
  v339

def k0_off34 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off35 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev24 : Nat :=
  let c0_i32_346 : BitVec 32 := 0#32
  let c0_i32_344 : BitVec 32 := 0#32
  let c1_i32_345 : BitVec 32 := 1#32
  let v558 : BitVec 32 := Scalar.muli c0_i32_344 c1_i32_345
  let v559 : BitVec 32 := Scalar.addi c0_i32_346 v558
  v559.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_193 : BitVec 32 := 1#32
  let v340 : BitVec 1 := Scalar.cmpi .ne v2 c1_i32_193
  let v341 : BitVec 32 := Scalar.extui v340
  let c0_i32_194 : BitVec 32 := 0#32
  let v342 : BitVec 1 := Scalar.cmpi .ne v341 c0_i32_194
  v342

def k0_off36 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off37 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev25 : Nat :=
  let c0_i32_346 : BitVec 32 := 0#32
  let c1_i32_344 : BitVec 32 := 1#32
  let c1_i32_345 : BitVec 32 := 1#32
  let v558 : BitVec 32 := Scalar.muli c1_i32_344 c1_i32_345
  let v559 : BitVec 32 := Scalar.addi c0_i32_346 v558
  v559.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_195 : BitVec 32 := 2#32
  let v343 : BitVec 1 := Scalar.cmpi .ne v2 c2_i32_195
  let v344 : BitVec 32 := Scalar.extui v343
  let c0_i32_196 : BitVec 32 := 0#32
  let v345 : BitVec 1 := Scalar.cmpi .ne v344 c0_i32_196
  v345

def k0_off38 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off39 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev26 : Nat :=
  let c0_i32_346 : BitVec 32 := 0#32
  let c2_i32_344 : BitVec 32 := 2#32
  let c1_i32_345 : BitVec 32 := 1#32
  let v558 : BitVec 32 := Scalar.muli c2_i32_344 c1_i32_345
  let v559 : BitVec 32 := Scalar.addi c0_i32_346 v558
  v559.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v346 : BitVec 1 := Scalar.cmpi .ne v2 c3_i32_197
  let v347 : BitVec 32 := Scalar.extui v346
  let c0_i32_198 : BitVec 32 := 0#32
  let v348 : BitVec 1 := Scalar.cmpi .ne v347 c0_i32_198
  v348

def k0_off40 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off41 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev27 : Nat :=
  let c0_i32_346 : BitVec 32 := 0#32
  let c3_i32_344 : BitVec 32 := 3#32
  let c1_i32_345 : BitVec 32 := 1#32
  let v558 : BitVec 32 := Scalar.muli c3_i32_344 c1_i32_345
  let v559 : BitVec 32 := Scalar.addi c0_i32_346 v558
  v559.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_199 : BitVec 32 := 4#32
  let v349 : BitVec 1 := Scalar.cmpi .ne v2 c4_i32_199
  let v350 : BitVec 32 := Scalar.extui v349
  let c0_i32_200 : BitVec 32 := 0#32
  let v351 : BitVec 1 := Scalar.cmpi .ne v350 c0_i32_200
  v351

def k0_off42 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off43 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev28 : Nat :=
  let c0_i32_346 : BitVec 32 := 0#32
  let c4_i32_344 : BitVec 32 := 4#32
  let c1_i32_345 : BitVec 32 := 1#32
  let v558 : BitVec 32 := Scalar.muli c4_i32_344 c1_i32_345
  let v559 : BitVec 32 := Scalar.addi c0_i32_346 v558
  v559.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_201 : BitVec 32 := 5#32
  let v352 : BitVec 1 := Scalar.cmpi .ne v2 c5_i32_201
  let v353 : BitVec 32 := Scalar.extui v352
  let c0_i32_202 : BitVec 32 := 0#32
  let v354 : BitVec 1 := Scalar.cmpi .ne v353 c0_i32_202
  v354

def k0_off44 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off45 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev29 : Nat :=
  let c0_i32_346 : BitVec 32 := 0#32
  let c5_i32_344 : BitVec 32 := 5#32
  let c1_i32_345 : BitVec 32 := 1#32
  let v558 : BitVec 32 := Scalar.muli c5_i32_344 c1_i32_345
  let v559 : BitVec 32 := Scalar.addi c0_i32_346 v558
  v559.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_203 : BitVec 32 := 6#32
  let v355 : BitVec 1 := Scalar.cmpi .ne v2 c6_i32_203
  let v356 : BitVec 32 := Scalar.extui v355
  let c0_i32_204 : BitVec 32 := 0#32
  let v357 : BitVec 1 := Scalar.cmpi .ne v356 c0_i32_204
  v357

def k0_off46 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off47 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev30 : Nat :=
  let c0_i32_346 : BitVec 32 := 0#32
  let c6_i32_344 : BitVec 32 := 6#32
  let c1_i32_345 : BitVec 32 := 1#32
  let v558 : BitVec 32 := Scalar.muli c6_i32_344 c1_i32_345
  let v559 : BitVec 32 := Scalar.addi c0_i32_346 v558
  v559.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_205 : BitVec 32 := 7#32
  let v358 : BitVec 1 := Scalar.cmpi .ne v2 c7_i32_205
  let v359 : BitVec 32 := Scalar.extui v358
  let c0_i32_206 : BitVec 32 := 0#32
  let v360 : BitVec 1 := Scalar.cmpi .ne v359 c0_i32_206
  v360

def k0_off48 (d0 : Dev nD) : Fin 1 → Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c0_i32_341 v2
  ![v557.toNat]
def k0_off49 (d0 : Dev nD) : Fin 3 → Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c0_i32_340 v2
  let c0_i32_347 : BitVec 32 := 0#32
  let c0_i32_348 : BitVec 32 := 0#32
  ![v556.toNat, 0, 0]
def k0_dev31 : Nat :=
  let c0_i32_346 : BitVec 32 := 0#32
  let c7_i32_344 : BitVec 32 := 7#32
  let c1_i32_345 : BitVec 32 := 1#32
  let v558 : BitVec 32 := Scalar.muli c7_i32_344 c1_i32_345
  let v559 : BitVec 32 := Scalar.addi c0_i32_346 v558
  v559.toNat
def k0_off50 (d0 : Dev nD) (c0_i32_207 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v361 : BitVec 32 := Scalar.muli v2 c32_i32
  let v362 : BitVec 32 := Scalar.addi c0_i32_207 v361
  let v363 : Index := Scalar.indexCast v362
  let c0_208 : Index := 0#32
  ![v363.toNat, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_258 : BitVec 32 := 0#32
  let v432 : BitVec 1 := Scalar.cmpi .ne v2 c0_i32_258
  let v433 : BitVec 32 := Scalar.extui v432
  let c0_i32_259 : BitVec 32 := 0#32
  let v434 : BitVec 1 := Scalar.cmpi .ne v433 c0_i32_259
  v434

def k0_off51 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off52 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_347 : BitVec 32 := 0#32
  let c0_i32_348 : BitVec 32 := 0#32
  ![v556.toNat, 0, 0]
def k0_dev32 : Nat :=
  let c0_i32_346 : BitVec 32 := 0#32
  let c0_i32_344 : BitVec 32 := 0#32
  let c1_i32_345 : BitVec 32 := 1#32
  let v558 : BitVec 32 := Scalar.muli c0_i32_344 c1_i32_345
  let v559 : BitVec 32 := Scalar.addi c0_i32_346 v558
  v559.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  let v435 : BitVec 1 := Scalar.cmpi .ne v2 c1_i32_260
  let v436 : BitVec 32 := Scalar.extui v435
  let c0_i32_261 : BitVec 32 := 0#32
  let v437 : BitVec 1 := Scalar.cmpi .ne v436 c0_i32_261
  v437

def k0_off53 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off54 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev33 : Nat :=
  let c0_i32_345 : BitVec 32 := 0#32
  let c1_i32_343 : BitVec 32 := 1#32
  let c1_i32_344 : BitVec 32 := 1#32
  let v558 : BitVec 32 := Scalar.muli c1_i32_343 c1_i32_344
  let v559 : BitVec 32 := Scalar.addi c0_i32_345 v558
  v559.toNat
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_262 : BitVec 32 := 2#32
  let v438 : BitVec 1 := Scalar.cmpi .ne v2 c2_i32_262
  let v439 : BitVec 32 := Scalar.extui v438
  let c0_i32_263 : BitVec 32 := 0#32
  let v440 : BitVec 1 := Scalar.cmpi .ne v439 c0_i32_263
  v440

def k0_off55 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off56 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev34 : Nat :=
  let c0_i32_345 : BitVec 32 := 0#32
  let c2_i32_343 : BitVec 32 := 2#32
  let c1_i32_344 : BitVec 32 := 1#32
  let v558 : BitVec 32 := Scalar.muli c2_i32_343 c1_i32_344
  let v559 : BitVec 32 := Scalar.addi c0_i32_345 v558
  v559.toNat
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_264 : BitVec 32 := 3#32
  let v441 : BitVec 1 := Scalar.cmpi .ne v2 c3_i32_264
  let v442 : BitVec 32 := Scalar.extui v441
  let c0_i32_265 : BitVec 32 := 0#32
  let v443 : BitVec 1 := Scalar.cmpi .ne v442 c0_i32_265
  v443

def k0_off57 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off58 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev35 : Nat :=
  let c0_i32_345 : BitVec 32 := 0#32
  let c3_i32_343 : BitVec 32 := 3#32
  let c1_i32_344 : BitVec 32 := 1#32
  let v558 : BitVec 32 := Scalar.muli c3_i32_343 c1_i32_344
  let v559 : BitVec 32 := Scalar.addi c0_i32_345 v558
  v559.toNat
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_266 : BitVec 32 := 4#32
  let v444 : BitVec 1 := Scalar.cmpi .ne v2 c4_i32_266
  let v445 : BitVec 32 := Scalar.extui v444
  let c0_i32_267 : BitVec 32 := 0#32
  let v446 : BitVec 1 := Scalar.cmpi .ne v445 c0_i32_267
  v446

def k0_off59 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off60 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev36 : Nat :=
  let c0_i32_345 : BitVec 32 := 0#32
  let c4_i32_343 : BitVec 32 := 4#32
  let c1_i32_344 : BitVec 32 := 1#32
  let v558 : BitVec 32 := Scalar.muli c4_i32_343 c1_i32_344
  let v559 : BitVec 32 := Scalar.addi c0_i32_345 v558
  v559.toNat
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_268 : BitVec 32 := 5#32
  let v447 : BitVec 1 := Scalar.cmpi .ne v2 c5_i32_268
  let v448 : BitVec 32 := Scalar.extui v447
  let c0_i32_269 : BitVec 32 := 0#32
  let v449 : BitVec 1 := Scalar.cmpi .ne v448 c0_i32_269
  v449

def k0_off61 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off62 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev37 : Nat :=
  let c0_i32_345 : BitVec 32 := 0#32
  let c5_i32_343 : BitVec 32 := 5#32
  let c1_i32_344 : BitVec 32 := 1#32
  let v558 : BitVec 32 := Scalar.muli c5_i32_343 c1_i32_344
  let v559 : BitVec 32 := Scalar.addi c0_i32_345 v558
  v559.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_270 : BitVec 32 := 6#32
  let v450 : BitVec 1 := Scalar.cmpi .ne v2 c6_i32_270
  let v451 : BitVec 32 := Scalar.extui v450
  let c0_i32_271 : BitVec 32 := 0#32
  let v452 : BitVec 1 := Scalar.cmpi .ne v451 c0_i32_271
  v452

def k0_off63 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off64 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev38 : Nat :=
  let c0_i32_345 : BitVec 32 := 0#32
  let c6_i32_343 : BitVec 32 := 6#32
  let c1_i32_344 : BitVec 32 := 1#32
  let v558 : BitVec 32 := Scalar.muli c6_i32_343 c1_i32_344
  let v559 : BitVec 32 := Scalar.addi c0_i32_345 v558
  v559.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_272 : BitVec 32 := 7#32
  let v453 : BitVec 1 := Scalar.cmpi .ne v2 c7_i32_272
  let v454 : BitVec 32 := Scalar.extui v453
  let c0_i32_273 : BitVec 32 := 0#32
  let v455 : BitVec 1 := Scalar.cmpi .ne v454 c0_i32_273
  v455

def k0_off65 (d0 : Dev nD) : Fin 1 → Nat :=
  let c8_i32_341 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.addi c8_i32_341 v2
  ![v557.toNat]
def k0_off66 (d0 : Dev nD) : Fin 3 → Nat :=
  let c8_i32_340 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.addi c8_i32_340 v2
  let c0_i32_346 : BitVec 32 := 0#32
  let c0_i32_347 : BitVec 32 := 0#32
  ![v556.toNat, 0, 0]
def k0_dev39 : Nat :=
  let c0_i32_345 : BitVec 32 := 0#32
  let c7_i32_343 : BitVec 32 := 7#32
  let c1_i32_344 : BitVec 32 := 1#32
  let v558 : BitVec 32 := Scalar.muli c7_i32_343 c1_i32_344
  let v559 : BitVec 32 := Scalar.addi c0_i32_345 v558
  v559.toNat
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x4096 : Shape := ⟨2, ![768, 4096]⟩
abbrev S4096x768 : Shape := ⟨2, ![4096, 768]⟩
abbrev S2x512x16x64 : Shape := ⟨4, ![2, 512, 16, 64]⟩
abbrev S512x768 : Shape := ⟨2, ![512, 768]⟩
abbrev S512x4096 : Shape := ⟨2, ![512, 4096]⟩
abbrev S2x256x64x64 : Shape := ⟨4, ![2, 256, 64, 64]⟩
abbrev S2x512x16x4x64 : Shape := ⟨5, ![2, 512, 16, 4, 64]⟩
abbrev S2x512x64x64 : Shape := ⟨4, ![2, 512, 64, 64]⟩
abbrev S2x64x256x512 : Shape := ⟨4, ![2, 64, 256, 512]⟩
abbrev S_ : Shape := ⟨0, ![]⟩
abbrev S2x64x256 : Shape := ⟨3, ![2, 64, 256]⟩
abbrev S2x64x256x1 : Shape := ⟨4, ![2, 64, 256, 1]⟩
abbrev S2x64x64x256 : Shape := ⟨4, ![2, 64, 64, 256]⟩
abbrev S2x256x64x1 : Shape := ⟨4, ![2, 256, 64, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x4096, .bf16⟩
  | .hbm, ⟨2, _⟩ => ⟨S4096x768, .bf16⟩
  | .hbm, ⟨3, _⟩ => ⟨S2x512x16x64, .bf16⟩
  | .hbm, ⟨4, _⟩ => ⟨S2x512x16x64, .bf16⟩
  | .hbm, ⟨5, _⟩ => ⟨S2x256x768, .f32⟩
  | .hbm, ⟨6, _⟩ => ⟨S512x768, .f32⟩
  | .hbm, ⟨7, _⟩ => ⟨S768x4096, .f32⟩
  | .hbm, ⟨8, _⟩ => ⟨S512x4096, .f32⟩
  | .hbm, ⟨9, _⟩ => ⟨S2x256x64x64, .f32⟩
  | .hbm, ⟨10, _⟩ => ⟨S2x512x16x64, .f32⟩
  | .hbm, ⟨11, _⟩ => ⟨S2x512x16x4x64, .f32⟩
  | .hbm, ⟨12, _⟩ => ⟨S2x512x64x64, .f32⟩
  | .hbm, ⟨13, _⟩ => ⟨S2x512x16x64, .f32⟩
  | .hbm, ⟨14, _⟩ => ⟨S2x512x16x4x64, .f32⟩
  | .hbm, ⟨15, _⟩ => ⟨S2x512x64x64, .f32⟩
  | .hbm, ⟨16, _⟩ => ⟨S2x64x256x512, .f32⟩
  | .hbm, ⟨17, _⟩ => ⟨S_, .f32⟩
  | .hbm, ⟨18, _⟩ => ⟨S2x64x256x512, .f32⟩
  | .hbm, ⟨19, _⟩ => ⟨S2x64x256x512, .f32⟩
  | .hbm, ⟨20, _⟩ => ⟨S_, .f32⟩
  | .hbm, ⟨21, _⟩ => ⟨S2x64x256, .f32⟩
  | .hbm, ⟨22, _⟩ => ⟨S2x64x256x1, .f32⟩
  | .hbm, ⟨23, _⟩ => ⟨S2x64x256x512, .f32⟩
  | .hbm, ⟨24, _⟩ => ⟨S2x64x256x512, .f32⟩
  | .hbm, ⟨25, _⟩ => ⟨S2x64x256x512, .f32⟩
  | .hbm, ⟨26, _⟩ => ⟨S_, .f32⟩
  | .hbm, ⟨27, _⟩ => ⟨S2x64x256, .f32⟩
  | .hbm, ⟨28, _⟩ => ⟨S2x64x256x1, .f32⟩
  | .hbm, ⟨29, _⟩ => ⟨S2x64x64x256, .f32⟩
  | .hbm, ⟨30, _⟩ => ⟨S2x256x64x64, .f32⟩
  | .hbm, ⟨31, _⟩ => ⟨S2x256x64x1, .f32⟩
  | .hbm, ⟨32, _⟩ => ⟨S2x256x64x64, .f32⟩
  | .hbm, ⟨33, _⟩ => ⟨S2x256x64x64, .f32⟩
  | .hbm, ⟨34, _⟩ => ⟨S512x4096, .f32⟩
  | .hbm, ⟨35, _⟩ => ⟨S4096x768, .f32⟩
  | .hbm, ⟨36, _⟩ => ⟨S512x768, .f32⟩
  | .hbm, ⟨37, _⟩ => ⟨S512x768, .bf16⟩
  | .hbm, ⟨38, _⟩ => ⟨S2x256x768, .bf16⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Same.lean ====
/-
  The program as printed and the program printed for the ideal reading are the same text, under two names.
-/
module

public import proofs.«01_k».proof.Defs
public import proofs.«01_k».proof.Proof.Gen.Kernel
public import proofs.«01_k».proof.Proof.Gen.KernelIdeal
public import Idealize.ShloMosaic.Adequacy

@[expose] public section

noncomputable section

namespace Cert.Mesh

open Idealize.ShloMosaic Idealize.ShloMosaic.TcCoe Idealize.SL.Sem

set_option maxRecDepth 20000

variable {F : FTy → Type} [FloatOps F]

theorem body_eq : @Cert.Kernel.cc0_body F _ Cert.Kernel.Gen.facts = @Cert.KernelIdeal.cc0_body F _ Cert.KernelIdeal.Gen.facts := rfl

/-- The two tables of bodies: one label, the same body under it. -/
theorem defs₀_eq : Cert.Kernel.defs₀ (F := F) = Cert.KernelIdeal.defs₀ (F := F) := by
  funext k ℓ a
  cases k with
  | tc =>
    obtain ⟨n, hn⟩ := ℓ
    have hn : n < 1 := hn
    obtain rfl : n = 0 := by omega
    obtain ⟨t, s⟩ := a
    rfl
  | scScalar _ => rfl
  | scVector _ _ => rfl

theorem defs_eq : Cert.Kernel.defs (F := F) = Cert.KernelIdeal.defs (F := F) :=
  congrArg (Pipeline.defs (Cert.KernelIdeal.pcfgs (F := F))) (defs₀_eq (F := F))

theorem main_eq : Cert.Kernel.main (F := F) = Cert.KernelIdeal.main (F := F) := rfl

end Cert.Mesh

end
-- ==== Proof.Contents.lean ====
/-
  What the kernel's buffers hold, as functions of what every device's five inputs hold: the partial product of a batch, its eight
  chunks of rows, the chunks as they stand after the first exchange, their sum, and the result after the second exchange.
  Written once over the float operations; the rounding and the exact reading are its instances.
-/
module

public import proofs.«01_k».proof.Proof.Gen.KernelIdeal.Skeleton
public import Idealize.ShloMosaic.Lib.ValueLayout
public import Idealize.ShloMosaic.Lib.Pipeline.Value

@[expose] public section

noncomputable section

namespace Cert.Mesh

open Idealize.ShloMosaic Idealize.ShloMosaic.TcCoe
open Cert.KernelIdeal Cert.KernelIdeal.Gen
open Idealize.ShloMosaic.ValueIdx

variable {F : FTy → Type} [FloatOps F]

/-! ## Slots

A slot is a number below sixteen: eight times the batch, plus the device the slot stands for. -/

/-- The device a slot stands for. -/
def pk (k : Fin 16) : Dev nD := ⟨k.val % 8, Nat.mod_lt _ (by decide)⟩
/-- The batch a slot stands for. -/
def bt (k : Fin 16) : Fin 2 := ⟨k.val / 8, by have := k.isLt; omega⟩
/-- Device `c`'s slot in the batch of slot `k`. -/
def own (c : Dev nD) (k : Fin 16) : Fin 16 := ⟨8 * (k.val / 8) + c.val, by have h := k.isLt; have h' : c.val < 8 := c.isLt; omega⟩
/-- The slot of batch `b` and device `j`. -/
def sl (b : Fin 2) (j : Dev nD) : Fin 16 := ⟨8 * b.val + j.val, by have h := b.isLt; have h' : j.val < 8 := j.isLt; omega⟩

theorem pk_own : ∀ (c : Dev nD) (k : Fin 16), pk (own c k) = c := by decide
theorem bt_own : ∀ (c : Dev nD) (k : Fin 16), bt (own c k) = bt k := by decide
theorem own_own : ∀ (c d : Dev nD) (k : Fin 16), own c (own d k) = own c k := by decide
theorem own_pk : ∀ k : Fin 16, own (pk k) k = k := by decide
theorem pk_sl : ∀ (b : Fin 2) (j : Dev nD), pk (sl b j) = j := by decide
theorem bt_sl : ∀ (b : Fin 2) (j : Dev nD), bt (sl b j) = b := by decide
theorem sl_bt_pk : ∀ k : Fin 16, sl (bt k) (pk k) = k := by decide
theorem own_eq : ∀ (c : Dev nD) (k : Fin 16), own c k = sl (bt k) c := by decide

theorem slot_inb (k : Fin 16) : ∀ a, (![k.val, 0, 0] : Fin 3 → ℕ) a + S1x32x768.size a ≤ S16x32x768.size a := by
  intro a; have := k.isLt; fin_cases a
  · show k.val + 1 ≤ 16; omega
  · show 0 + 32 ≤ 32; omega
  · show 0 + 768 ≤ 768; omega

/-- The rows of slot `k` in a buffer of sixteen slots. -/
abbrev slotR (k : Fin 16) : Rect S16x32x768 := Rect.unit (s := S16x32x768) ![k.val, 0, 0] S1x32x768.size (slot_inb k)

theorem red_inb (b : Fin 2) : ∀ a, (![b.val, 0, 0] : Fin 3 → ℕ) a + S1x32x768.size a ≤ S2x32x768.size a := by
  intro a; have := b.isLt; fin_cases a
  · show b.val + 1 ≤ 2; omega
  · show 0 + 32 ≤ 32; omega
  · show 0 + 768 ≤ 768; omega

/-- The rows of batch `b` in the buffer of the two sums. -/
abbrev redR (b : Fin 2) : Rect S2x32x768 := Rect.unit (s := S2x32x768) ![b.val, 0, 0] S1x32x768.size (red_inb b)

theorem out_inb (k : Fin 16) : ∀ a, (![32 * k.val, 0] : Fin 2 → ℕ) a + S32x768.size a ≤ S512x768.size a := by
  intro a; have := k.isLt; fin_cases a
  · show 32 * k.val + 32 ≤ 512; omega
  · show 0 + 768 ≤ 768; omega

/-- The rows of slot `k` in the result. -/
abbrev outR (k : Fin 16) : Rect S512x768 := Rect.unit (s := S512x768) ![32 * k.val, 0] S32x768.size (out_inb k)

/-! ## What each buffer holds -/

/-- What one device's five inputs hold. -/
structure Inp (F : FTy → Type) where
  x : Vec F S512x768 .bf16
  wq : Vec F S768x512 .bf16
  wo : Vec F S512x768 .bf16
  k : Vec F S2x512x128 .bf16
  v : Vec F S2x512x128 .bf16

theorem x_inb (b : Fin 2) : ∀ a, (![256 * b.val, 0] : Fin 2 → ℕ) a + S256x768.size a ≤ S512x768.size a := by
  intro a; have := b.isLt; fin_cases a
  · show 256 * b.val + 256 ≤ 512; omega
  · show 0 + 768 ≤ 768; omega

theorem kv_inb (b g : Fin 2) : ∀ a, (![b.val, 0, 64 * g.val] : Fin 3 → ℕ) a + S1x512x64.size a ≤ S2x512x128.size a := by
  intro a; have := b.isLt; have := g.isLt; fin_cases a
  · show b.val + 1 ≤ 2; omega
  · show 0 + 512 ≤ 512; omega
  · show 64 * g.val + 64 ≤ 128; omega

/-- The rows of `x` in batch `b`. -/
def xB (I : Inp F) (b : Fin 2) : Vec F S256x768 .bf16 :=
  View.ld (Val := Elt F) (e' := .bf16) I.x (Rect.unit (s := S512x768) ![256 * b.val, 0] S256x768.size (x_inb b))
/-- The keys of batch `b` and group `g`. -/
def kB (I : Inp F) (b g : Fin 2) : Vec F S1x512x64 .bf16 :=
  View.ld (Val := Elt F) (e' := .bf16) I.k (Rect.unit (s := S2x512x128) ![b.val, 0, 64 * g.val] S1x512x64.size (kv_inb b g))
/-- The values of batch `b` and group `g`. -/
def vB (I : Inp F) (b g : Fin 2) : Vec F S1x512x64 .bf16 :=
  View.ld (Val := Elt F) (e' := .bf16) I.v (Rect.unit (s := S2x512x128) ![b.val, 0, 64 * g.val] S1x512x64.size (kv_inb b g))

/-- The partial product of batch `b` on one device: its eight heads through its rows of the output weights. -/
def att (I : Inp F) (b : Fin 2) : FVec F S256x768 .f32 :=
  k0_pay7 (k0_pay2 I.wo) (k0_pay3 I.wq (xB I b)) (k0_pay5 I.wq (xB I b) (kB I b 0) (vB I b 0)) (k0_pay6 I.wq (xB I b) (kB I b 0))
    (kB I b 1) (vB I b 1)

theorem chunk_slices (j : Dev nD) : S32x768.ShapeCasts S32x768 ∧ ∀ a, (![32 * j.val, 0] : Fin 2 → ℕ) a + S32x768.size a ≤ S256x768.size a := by
  refine ⟨by decide, fun a => ?_⟩
  have h : j.val < 8 := j.isLt
  fin_cases a
  · show 32 * j.val + 32 ≤ 256; omega
  · show 0 + 768 ≤ 768; omega

/-- Rows `32 j …` of a partial product, rounded. -/
def chunk (A : FVec F S256x768 .f32) (j : Dev nD) : FVec F S32x768 .bf16 :=
  truncf .bf16 (extractStridedSlice S32x768 ![32 * j.val, 0] A ⟨rfl, (chunk_slices j).2⟩) bitsLt_bf16_f32

/-- The staging slots: slot `k` holds the chunk of its batch its device will sum. -/
def stg (I : Inp F) : Vec F S16x32x768 .bf16 := fun i => chunk (att I (bt (i 0))) (pk (i 0)) (ix2 (i 1) (i 2))

/-- The receive slots of the first exchange on device `c`: slot `k` holds the chunk of `c` made by the slot's device. -/
def rsV (I : Dev nD → Inp F) (c : Dev nD) : Vec F S16x32x768 .bf16 := fun i => stg (I (pk (i 0))) (ix3 (own c (i 0)) (i 1) (i 2))

/-- One slot of a buffer of sixteen, as a load reads it. -/
def slotV (G : Vec F S16x32x768 .bf16) (k : Fin 16) : Vec F S1x32x768 .bf16 := View.ld (Val := Elt F) (e' := .bf16) G (slotR k)

/-- The sum of batch `b` on device `c`, rounded. -/
def redV (I : Dev nD → Inp F) (c : Dev nD) (b : Fin 2) : FVec F S32x768 .bf16 :=
  k0_pay31 (k0_pay30 (slotV (rsV I c) (sl b 0)) (slotV (rsV I c) (sl b 1)) (slotV (rsV I c) (sl b 2)) (slotV (rsV I c) (sl b 3))
    (slotV (rsV I c) (sl b 4)) (slotV (rsV I c) (sl b 5)) (slotV (rsV I c) (sl b 6)) (slotV (rsV I c) (sl b 7)))

/-- The two sums on device `c`. -/
def redB (I : Dev nD → Inp F) (c : Dev nD) : Vec F S2x32x768 .bf16 := fun i => redV I c (i 0) (ix2 (i 1) (i 2))

/-- The receive slots of the second exchange: slot `k` holds the sum of its batch made by its device. -/
def agV (I : Dev nD → Inp F) : Vec F S16x32x768 .bf16 := fun i => redV I (pk (i 0)) (bt (i 0)) (ix2 (i 1) (i 2))

/-- The slot a row of the result belongs to. -/
def rowSlot (r : Fin 512) : Fin 16 := ⟨r.val / 32, by have := r.isLt; omega⟩
/-- The row within it. -/
def rowIn (r : Fin 512) : Fin 32 := ⟨r.val % 32, Nat.mod_lt _ (by decide)⟩

/-- The result: row `32 k + r` holds row `r` of slot `k`'s sum. -/
def outV (I : Dev nD → Inp F) : Vec F S512x768 .bf16 :=
  fun i => redV I (pk (rowSlot (i 0))) (bt (rowSlot (i 0))) (ix2 (rowIn (i 0)) (i 1))

/-! ## The stored payloads are these contents -/

/-- An index of a slot is its row and lane. -/
theorem eta1 (y : S1x32x768.Idx) : y = ix3 (0 : Fin 1) (y 1) (y 2) := by
  funext a; fin_cases a
  · exact Fin.ext (by have : (y 0).val < 1 := (y 0).isLt; show (y 0).val = 0; omega)
  · rfl
  · rfl

theorem slot_emb (k : Fin 16) (y : S1x32x768.Idx) : (slotR k).emb y = ix3 k (y 1) (y 2) := by
  funext a; fin_cases a
  · refine Fin.ext ?_
    have : (y 0).val < 1 := (y 0).isLt
    show k.val + 1 * (y 0).val = k.val; omega
  · exact Fin.ext (by show 0 + 1 * (y 1).val = (y 1).val; omega)
  · exact Fin.ext (by show 0 + 1 * (y 2).val = (y 2).val; omega)

theorem red_emb (b : Fin 2) (y : S1x32x768.Idx) : (redR b).emb y = ix3 b (y 1) (y 2) := by
  funext a; fin_cases a
  · refine Fin.ext ?_
    have : (y 0).val < 1 := (y 0).isLt
    show b.val + 1 * (y 0).val = b.val; omega
  · exact Fin.ext (by show 0 + 1 * (y 1).val = (y 1).val; omega)
  · exact Fin.ext (by show 0 + 1 * (y 2).val = (y 2).val; omega)

theorem out_emb (k : Fin 16) (y : S32x768.Idx) :
    rowSlot ((outR k).emb y 0) = k ∧ rowIn ((outR k).emb y 0) = y 0 ∧ (outR k).emb y 1 = y 1 := by
  have h0 : ((outR k).emb y 0).val = 32 * k.val + 1 * (y 0).val := rfl
  have hy : (y 0).val < 32 := (y 0).isLt
  refine ⟨Fin.ext ?_, Fin.ext ?_, Fin.ext ?_⟩
  · show ((outR k).emb y 0).val / 32 = k.val; omega
  · show ((outR k).emb y 0).val % 32 = (y 0).val; omega
  · show 0 + 1 * (y 1).val = (y 1).val; omega

/-- A chunk, cast to one slot's shape, is what the staging slot holds. -/
theorem stg_pay (I : Inp F) (k : Fin 16) (h : S32x768.ShapeCasts S1x32x768) (y : S1x32x768.Idx) :
    shapeCast S1x32x768 (chunk (att I (bt k)) (pk k)) h y = stg I ((slotR k).emb y) := by
  rw [slot_emb, eta1 y]
  exact shapeCast_ab_1ab_apply _ h _ _ _

/-- A sum, cast to one slot's shape, is what its slot of the two holds. -/
theorem red_pay (I : Dev nD → Inp F) (c : Dev nD) (b : Fin 2) (h : S32x768.ShapeCasts S1x32x768) (y : S1x32x768.Idx) :
    shapeCast S1x32x768 (redV I c b) h y = redB I c ((redR b).emb y) := by
  rw [red_emb, eta1 y]
  exact shapeCast_ab_1ab_apply _ h _ _ _

theorem out_at (I : Dev nD → Inp F) (k : Fin 16) (y : S32x768.Idx) : outV I ((outR k).emb y) = redV I (pk k) (bt k) y := by
  obtain ⟨h0, h1, h2⟩ := out_emb k y
  show redV I (pk (rowSlot ((outR k).emb y 0))) (bt (rowSlot ((outR k).emb y 0))) (ix2 (rowIn ((outR k).emb y 0)) ((outR k).emb y 1)) = _
  rw [h0, h1, h2]
  exact congrArg _ (eq_ix2 (n0 := 32) (n1 := 768) y).symm

/-- The own sum stored to the own rows. -/
theorem out_own (I : Dev nD → Inp F) (c : Dev nD) (b : Fin 2) (y : S32x768.Idx) :
    redV I c b y = outV I ((outR (sl b c)).emb y) := by
  rw [out_at, pk_sl, bt_sl]

/-- A received sum, cast to the result's rows. -/
theorem out_pay (I : Dev nD → Inp F) (k : Fin 16) (h : S1x32x768.ShapeCasts S32x768) (y : S32x768.Idx) :
    shapeCast S32x768 (slotV (agV I) k) h y = outV I ((outR k).emb y) := by
  rw [out_at]
  obtain ⟨a, b, rfl⟩ : ∃ (a : Fin 32) (b : Fin 768), y = ix2 a b := ⟨y 0, y 1, eq_ix2 (n0 := 32) (n1 := 768) y⟩
  refine (shapeCast_1ab_ab_apply (a := 32) (b := 768) _ h a b).trans ?_
  show agV I ((slotR k).emb _) = _
  rw [slot_emb]
  rfl

/-- What a receive slot of the first exchange takes from the sender. -/
theorem rs_land (I : Dev nD → Inp F) (c d : Dev nD) (k : Fin 16) (hk : pk k = d) (y : S1x32x768.Idx) :
    stg (I c) ((slotR k).emb y) = rsV I d ((slotR (own c k)).emb y) := by
  rw [slot_emb, slot_emb]
  show _ = stg (I (pk (own c k))) (ix3 (own d (own c k)) (y 1) (y 2))
  rw [pk_own, own_own, ← hk, own_pk]
  rfl

/-- The own chunk copied to the own receive slot. -/
theorem rs_own (I : Dev nD → Inp F) (c : Dev nD) (k : Fin 16) (hk : pk k = c) (y : S1x32x768.Idx) :
    stg (I c) ((slotR k).emb y) = rsV I c ((slotR k).emb y) := by
  have e : own c k = k := by rw [← hk, own_pk]
  have := rs_land I c c k hk y
  rwa [e] at this

/-- What a receive slot of the second exchange takes from the sender. -/
theorem ag_land (I : Dev nD → Inp F) (c : Dev nD) (k : Fin 16) (y : S1x32x768.Idx) :
    redB I c ((redR (bt k)).emb y) = agV I ((slotR (own c k)).emb y) := by
  rw [red_emb, slot_emb]
  show redV I c (bt k) _ = redV I (pk (own c k)) (bt (own c k)) _
  rw [pk_own, bt_own]

end Cert.Mesh

end
-- ==== Proof.Proto.lean ====
/-
  The protocol of the two exchanges: the cells, what each payment carries, what a device owes, in what order the waits stand.
-/
module

public import proofs.«01_k».proof.Proof.Contents
public import proofs.«01_k».proof.Proof.Gen.KernelIdeal.Launch
public import Idealize.ShloMosaic.Lib.ShareLeaves

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg)
open Cert.KernelIdeal Cert.KernelIdeal.Gen

variable {F : FTy → Type} [FloatOps F]

/-- The pipeline's copy of the rounds, and the exchanges' own. -/
abbrev UU : Type := URounds (GSem nD τ sig) Unit × URounds (GSem nD τ sig) (Dev nD)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Dev nD)) (MT nD τ sig Unit (Elt F) ℕ UU ℕ) := embR

/-! ## Cells -/

/-- The transfer semaphores: number `q` of the four arrays, slot `k`. -/
def dsem (q : Fin 4) (k : Fin 16) : DmaSem sig :=
  ⟨6 + 16 * q.val + k.val, by have h := q.isLt; have h' := k.isLt; show 6 + 16 * q.val + k.val < 70; omega⟩

/-- Which array and slot a transfer semaphore is, unless it is a staging one. -/
def cls (s : DmaSem sig) : Option (Fin 4 × Fin 16) :=
  if 6 ≤ s.val then
    some (⟨(s.val - 6) / 16 % 4, Nat.mod_lt _ (by decide)⟩, ⟨(s.val - 6) % 16, Nat.mod_lt _ (by decide)⟩)
  else none

theorem cls_dsem (q : Fin 4) (k : Fin 16) : cls (dsem q k) = some (q, k) := by
  have h := q.isLt; have h' := k.isLt
  have hv : (dsem q k).val = 6 + 16 * q.val + k.val := rfl
  unfold cls
  rw [if_pos (by omega)]
  refine congrArg some (Prod.ext (Fin.ext ?_) (Fin.ext ?_))
  · show ((dsem q k).val - 6) / 16 % 4 = q.val; omega
  · show ((dsem q k).val - 6) % 16 = k.val; omega

abbrev bar (c : Dev nD) : GSem nD τ sig := ((c : Thread nD τ), .reg barrier0)
abbrev cell (c : Dev nD) (q : Fin 4) (k : Fin 16) : GSem nD τ sig := ((c : Thread nD τ), .dma (dsem q k))

/-! ## The pieces of the buffers -/

/-- What one transfer counts: the credit of one slot. -/
def N : ℕ := (((Memref.whole cc0_scratch2).slice (Rect.unit (s := S16x32x768) ![0, 0, 0] S1x32x768.size inb_S16x32x768_S1x32x768_0_0_0)
  (fun _ => rfl)).squeeze S32x768 squeezes_S1x32x768_S32x768).view.dmaCredit
theorem N_pos : 0 < N := View.dmaCredit_pos _ (by decide)

abbrev stgPt (c : Dev nD) (k : Fin 16) (f : Vec F S16x32x768 .bf16) : sProp 𝕄 :=
  ((c : Thread nD τ).loc cc0_scratch0) ↦[(slotR k).set]{fullShare} f
abbrev rsPt (c : Dev nD) (k : Fin 16) (f : Vec F S16x32x768 .bf16) : sProp 𝕄 :=
  ((c : Thread nD τ).loc cc0_scratch2) ↦[(slotR k).set]{fullShare} f
abbrev agPt (c : Dev nD) (k : Fin 16) (f : Vec F S16x32x768 .bf16) : sProp 𝕄 :=
  ((c : Thread nD τ).loc cc0_scratch3) ↦[(slotR k).set]{fullShare} f
abbrev redPt (c : Dev nD) (b : Fin 2) (q : PosShare TreeShare) (f : Vec F S2x32x768 .bf16) : sProp 𝕄 :=
  ((c : Thread nD τ).loc cc0_scratch1) ↦[(redR b).set]{q} f
abbrev outPt (c : Dev nD) (k : Fin 16) (f : Vec F S512x768 .bf16) : sProp 𝕄 :=
  ((c : Thread nD τ).loc cc0_stg5_0) ↦[(outR k).set]{fullShare} f

/-- A slot of the first exchange at contents not chosen, and of the second. -/
abbrev rsRaw (c : Dev nD) (k : Fin 16) : sProp 𝕄 := iprop(∃ f : Vec F S16x32x768 .bf16, rsPt c k f)
abbrev agRaw (c : Dev nD) (k : Fin 16) : sProp 𝕄 := iprop(∃ f : Vec F S16x32x768 .bf16, agPt c k f)

/-- The eighth of a sum's slot that the copy to the slot's device carries. -/
def leafQ (k : Fin 16) : PosShare TreeShare := ShareLeaves.leaf 3 fullShare (pk k)

variable (I : Dev nD → Inp F)

/-! ## The schedule -/

/-- What device `p` hands over with its signal to device `c`: `p`'s own two slots of `c` in either exchange, and that the cells which
    count their filling stand at their first round. -/
def grant (p c : Dev nD) (b : Fin 2) : sProp 𝕄 :=
  iprop((rsRaw p (sl b c) ∗ agRaw p (sl b c)) ∗ reached ER (cell p 1 (sl b c)) 0 ∗ reached ER (cell p 3 (sl b c)) 0)
def barPay (c p : Dev nD) : sProp 𝕄 := iprop(grant (F := F) p c 0 ∗ grant (F := F) p c 1)

/-- What the transfer counted at array `q`, slot `k` of device `c` gives. -/
def dmaPay (c : Dev nD) (q : Fin 4) (k : Fin 16) : sProp 𝕄 :=
  if q = 0 then stgPt c k (stg (I c))
  else if q = 1 then rsPt c k (rsV I c)
  else if q = 2 then redPt c (bt k) (leafQ k) (redB I c)
  else agPt c k (agV I)

def dutyOf (c : Dev nD) : SemLoc sig → Finset (Dev nD)
  | .reg _ => Finset.univ.erase c
  | .dma s => match cls s with
    | some x => if pk x.2 = c then ∅ else {pk x.2}
    | none => ∅

def payOf (c : Dev nD) (p : Dev nD) : SemLoc sig → sProp 𝕄
  | .reg _ => barPay c p
  | .dma s => match cls s with
    | some x => dmaPay I c x.1 x.2
    | none => iprop(emp)

def amtOf : SemLoc sig → ℕ
  | .reg _ => 1
  | .dma _ => N

theorem amtOf_pos (s : SemLoc sig) : 0 < amtOf s := by
  cases s with
  | reg _ => exact Nat.one_pos
  | dma _ => exact N_pos

def rd : Rounds.Schedule (GSem nD τ sig) (Dev nD) 𝕄 where
  duties g r := if r = 0 ∧ g.1.2 = .tc then dutyOf g.1.1 g.2 else ∅
  unitless _ := False
  amount g _ _ := amtOf g.2
  payload g _ p := payOf I g.1.1 p g.2
  amount_pos g _ _ _ := amtOf_pos g.2

instance dmaPay_storable (c : Dev nD) (q : Fin 4) (k : Fin 16) : BI.Storable (upEmb : UEmb _ 𝕄) (dmaPay I c q k) := by
  unfold dmaPay
  (repeat' split) <;> infer_instance

instance payOf_storable (c p : Dev nD) (s : SemLoc sig) : BI.Storable (upEmb : UEmb _ 𝕄) (payOf I c p s) := by
  cases s with
  | reg s =>
    show BI.Storable (upEmb : UEmb _ 𝕄) (barPay c p)
    unfold barPay grant
    infer_instance
  | dma s =>
    show BI.Storable (upEmb : UEmb _ 𝕄) (match cls s with | some x => dmaPay I c x.1 x.2 | none => iprop(emp))
    split <;> infer_instance

instance rd_payload_storable (g : GSem nD τ sig) (r : ℕ) (p : Dev nD) : BI.Storable (upEmb : UEmb _ 𝕄) ((rd I).payload g r p) :=
  payOf_storable I g.1.1 p g.2

theorem duties_bar (c : Dev nD) : (rd I).duties (bar c) 0 = Finset.univ.erase c := by dsimp only [rd]; exact if_pos ⟨rfl, rfl⟩
theorem duties_cell (c : Dev nD) (q : Fin 4) (k : Fin 16) :
    (rd I).duties (cell c q k) 0 = if pk k = c then ∅ else {pk k} := by
  dsimp only [rd]
  rw [if_pos ⟨rfl, rfl⟩]
  show (match cls (dsem q k) with | some x => if pk x.2 = c then ∅ else {pk x.2} | none => ∅) = _
  rw [cls_dsem]
theorem duties_peer (c : Dev nD) (q : Fin 4) (k : Fin 16) (h : pk k ≠ c) : (rd I).duties (cell c q k) 0 = {pk k} := by
  rw [duties_cell, if_neg h]
theorem duties_own (c : Dev nD) (q : Fin 4) (k : Fin 16) (h : pk k = c) (r : ℕ) : (rd I).duties (cell c q k) r = ∅ := by
  by_cases hr : r = 0
  · subst hr; rw [duties_cell, if_pos h]
  · dsimp only [rd]; exact if_neg fun h' => hr h'.1
theorem duties_later (g : GSem nD τ sig) : ∀ r, 1 ≤ r → (rd I).duties g r = ∅ :=
  fun r hr => by dsimp only [rd]; exact if_neg fun h => by omega

theorem amount_bar (c : Dev nD) (r : ℕ) (p : Dev nD) : (rd I).amount (bar c) r p = 1 := rfl
theorem amount_cell (c : Dev nD) (q : Fin 4) (k : Fin 16) (r : ℕ) (p : Dev nD) : (rd I).amount (cell c q k) r p = N := rfl

theorem expect_bar (c : Dev nD) : (rd I).expect (bar c) 0 = 7 := by
  unfold Schedule.expect Schedule.amountOf
  rw [duties_bar]
  simp only [amount_bar]
  rw [Finset.sum_const, Finset.card_erase_of_mem (Finset.mem_univ _), Finset.card_univ]
  rfl
theorem expect_peer (c : Dev nD) (q : Fin 4) (k : Fin 16) (h : pk k ≠ c) : (rd I).expect (cell c q k) 0 = N := by
  unfold Schedule.expect Schedule.amountOf
  rw [duties_peer I c q k h, Finset.sum_singleton, amount_cell]

theorem payload_bar (c : Dev nD) (r : ℕ) (p : Dev nD) : (rd I).payload (bar c) r p = barPay c p := rfl
theorem payload_cell (c : Dev nD) (q : Fin 4) (k : Fin 16) (r : ℕ) (p : Dev nD) :
    (rd I).payload (cell c q k) r p = dmaPay I c q k := by
  show (match cls (dsem q k) with | some x => dmaPay I c x.1 x.2 | none => iprop(emp)) = _
  rw [cls_dsem]

theorem rest_bar (c : Dev nD) :
    bigSep ((rd I).duties (bar c) 0 \ ∅) (fun p => (rd I).payload (bar c) 0 p) = bigSep (Finset.univ.erase c) fun p => barPay (F := F) c p := by
  rw [Finset.sdiff_empty, duties_bar]
  rfl
theorem rest_peer (c : Dev nD) (q : Fin 4) (k : Fin 16) (h : pk k ≠ c) :
    bigSep ((rd I).duties (cell c q k) 0 \ ∅) (fun p => (rd I).payload (cell c q k) 0 p) = dmaPay I c q k := by
  rw [Finset.sdiff_empty, duties_peer I c q k h, bigSep_singleton, payload_cell]

/-! ## Runs of slots -/

/-- The slots from `a` up to `b`. -/
def iv (a b : ℕ) : Finset (Fin 16) := Finset.univ.filter fun k => a ≤ k.val ∧ k.val < b

theorem mem_iv {a b : ℕ} {k : Fin 16} : k ∈ iv a b ↔ a ≤ k.val ∧ k.val < b := by unfold iv; rw [Finset.mem_filter]; exact ⟨fun h => h.2, fun h => ⟨Finset.mem_univ _, h⟩⟩
theorem iv_nil (a : ℕ) : iv a a = ∅ := by
  ext k; rw [mem_iv]; constructor
  · intro h; omega
  · intro h; exact absurd h (Finset.notMem_empty _)
theorem iv_all : iv 0 16 = Finset.univ := by
  ext k; rw [mem_iv]; exact ⟨fun _ => Finset.mem_univ _, fun _ => ⟨Nat.zero_le _, k.isLt⟩⟩
theorem iv_front {a b : ℕ} (h : a < b) (ha : a < 16) : iv a b = insert ⟨a, ha⟩ (iv (a + 1) b) := by
  ext k; rw [Finset.mem_insert, mem_iv, mem_iv, Fin.ext_iff]
  show _ ↔ k.val = a ∨ _
  omega
theorem iv_back {a b : ℕ} (h : a ≤ b) (hb : b < 16) : iv a (b + 1) = insert ⟨b, hb⟩ (iv a b) := by
  ext k; rw [Finset.mem_insert, mem_iv, mem_iv, Fin.ext_iff]
  show _ ↔ k.val = b ∨ _
  omega
theorem iv_not_front {a b : ℕ} (ha : a < 16) : (⟨a, ha⟩ : Fin 16) ∉ iv (a + 1) b := by rw [mem_iv]; show ¬ (a + 1 ≤ a ∧ _); omega
theorem iv_not_back {a b : ℕ} (hb : b < 16) : (⟨b, hb⟩ : Fin 16) ∉ iv a b := by rw [mem_iv]; show ¬ (_ ∧ b < b); omega

theorem peel {M : Type} [URA M] (Φ : Fin 16 → sProp M) {a b : ℕ} (h : a < b) (ha : a < 16) :
    bigSep (iv a b) Φ = iprop(Φ ⟨a, ha⟩ ∗ bigSep (iv (a + 1) b) Φ) := by
  rw [iv_front h ha, bigSep_insert (iv_not_front ha)]
  rfl
theorem push {M : Type} [URA M] (Φ : Fin 16 → sProp M) {a b : ℕ} (h : a ≤ b) (hb : b < 16) :
    bigSep (iv a (b + 1)) Φ = iprop(Φ ⟨b, hb⟩ ∗ bigSep (iv a b) Φ) := by
  rw [iv_back h hb, bigSep_insert (iv_not_back hb)]
  rfl
theorem nil {M : Type} [URA M] (Φ : Fin 16 → sProp M) (a : ℕ) : bigSep (iv a a) Φ = (BI.emp : sProp M) := by
  rw [iv_nil]; exact bigSep_empty
theorem iv_split {M : Type} [URA M] (Φ : Fin 16 → sProp M) {a b d : ℕ} (h : a ≤ b) (h' : b ≤ d) :
    bigSep (iv a d) Φ = iprop(bigSep (iv a b) Φ ∗ bigSep (iv b d) Φ) := by
  have e : iv a d = iv a b ∪ iv b d := by
    ext k; rw [Finset.mem_union, mem_iv, mem_iv, mem_iv]; omega
  rw [e, bigSep_union (by
    rw [Finset.disjoint_left]; intro k hk hk'
    rw [mem_iv] at hk hk'; omega)]
  rfl

/-! ## What a device owes -/

/-- What device `c` owes for slot `k` in array `q`: a slot's credit to the slot's device, at `c`'s slot there. -/
def due (q : Fin 4) (c : Dev nD) (k : Fin 16) : CellTallies nD τ sig Unit :=
  if pk k = c then 0 else tallyAt (cell (pk k) q (own c k)) () N
/-- From slot `n` on. -/
def dues (q : Fin 4) (c : Dev nD) (n : ℕ) : CellTallies nD τ sig Unit := ∑ k ∈ iv n 16, due q c k

theorem dues_peel (q : Fin 4) (c : Dev nD) (n : ℕ) (h : n < 16) : dues q c n = due q c ⟨n, h⟩ + dues q c (n + 1) := by
  unfold dues; rw [iv_front h h, Finset.sum_insert (iv_not_front h)]
theorem dues_nil (q : Fin 4) (c : Dev nD) : dues q c 16 = 0 := by unfold dues; rw [iv_nil, Finset.sum_empty]

/-- The devices' offsets from `n` on. -/
def ov (n : ℕ) : Finset (Fin 8) := Finset.univ.filter fun o => n ≤ o.val
theorem mem_ov {n : ℕ} {o : Fin 8} : o ∈ ov n ↔ n ≤ o.val := by unfold ov; rw [Finset.mem_filter]; exact ⟨fun h => h.2, fun h => ⟨Finset.mem_univ _, h⟩⟩
theorem ov_front (n : ℕ) (h : n < 8) : ov n = insert ⟨n, h⟩ (ov (n + 1)) := by
  ext o; rw [Finset.mem_insert, mem_ov, mem_ov, Fin.ext_iff]
  show _ ↔ o.val = n ∨ _
  omega
theorem ov_not (n : ℕ) (h : n < 8) : (⟨n, h⟩ : Fin 8) ∉ ov (n + 1) := by rw [mem_ov]; show ¬ (n + 1 ≤ n); omega
theorem ov_end : ov 8 = ∅ := by
  ext o; rw [mem_ov]; constructor
  · intro h; have := o.isLt; omega
  · intro h; exact absurd h (Finset.notMem_empty _)

/-- The device `o` further on. -/
def fwd (c : Dev nD) (o : Fin 8) : Dev nD := ⟨(c.val + o.val) % 8, Nat.mod_lt _ (by decide)⟩

/-- The barrier units device `c` owes to the devices from offset `n` on. -/
def bars (c : Dev nD) (n : ℕ) : CellTallies nD τ sig Unit := ∑ o ∈ ov n, tallyAt (bar (fwd c o)) () 1
theorem bars_peel (c : Dev nD) (n : ℕ) (h : n < 8) : bars c n = tallyAt (bar (fwd c ⟨n, h⟩)) () 1 + bars c (n + 1) := by
  unfold bars; rw [ov_front n h, Finset.sum_insert (ov_not n h)]
theorem bars_nil (c : Dev nD) : bars c 8 = 0 := by unfold bars; rw [ov_end, Finset.sum_empty]

/-- What device `c` owes at launch. -/
def O₀ (c : Dev nD) : CellTallies nD τ sig Unit := dues 3 c 0 + dues 1 c 0 + bars c 1

/-! ## Levels: the barrier below the first exchange's arrivals, those below the second's -/

def L (g : GSem nD τ sig) : Finset Unit := if g.1.2 = .tc then {()} else ∅
def lvS : SemLoc sig → ℕ
  | .reg _ => 1
  | .dma s => match cls s with
    | some x => if x.1 = 1 then 2 else if x.1 = 3 then 3 else 0
    | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (q : Fin 4) (k : Fin 16) : lv (cell c q k) () = if q = 1 then 2 else if q = 3 then 3 else 0 := by
  show (match cls (dsem q k) with | some x => if x.1 = 1 then 2 else if x.1 = 3 then 3 else 0 | none => 0) = _
  rw [cls_dsem]
theorem lv_bar (c : Dev nD) : lv (bar c) () = 1 := rfl

/-- Tallies standing above level `n` on the devices' main cells. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  have e : (O + O') g u = O g u + O' g u := rfl
  rw [e] at hg
  by_cases h0 : 0 < O g u
  · exact h g u h0
  · exact h' g u (by omega)
theorem above_at (n : ℕ) (c : Dev nD) (q : Fin 4) (k : Fin 16) (a : ℕ) (h : n < if q = 1 then 2 else if q = 3 then 3 else 0) :
    Above n (tallyAt (cell c q k) () a) := fun g u hg => by
  rw [tallyAt_apply] at hg
  by_cases e : g = cell c q k ∧ u = ()
  · rw [e.1, e.2]; exact ⟨rfl, by rw [lv_cell]; exact h⟩
  · rw [if_neg e] at hg; exact absurd hg (Nat.lt_irrefl 0)
theorem above_due (n : ℕ) (q : Fin 4) (c : Dev nD) (k : Fin 16) (h : n < if q = 1 then 2 else if q = 3 then 3 else 0) :
    Above n (due q c k) := by
  unfold due; split
  · exact above_zero n
  · exact above_at n _ q _ _ h
theorem above_sum {J : Type} [DecidableEq J] (n : ℕ) (s : Finset J) (O : J → CellTallies nD τ sig Unit) (h : ∀ j, Above n (O j)) :
    Above n (∑ j ∈ s, O j) := by
  induction s using Finset.induction_on with
  | empty => rw [Finset.sum_empty]; exact above_zero n
  | insert j s hj ih => rw [Finset.sum_insert hj]; exact above_add (h j) ih
theorem above_dues (n : ℕ) (q : Fin 4) (c : Dev nD) (m : ℕ) (h : n < if q = 1 then 2 else if q = 3 then 3 else 0) : Above n (dues q c m) :=
  above_sum n _ _ fun k => above_due n q c k h

theorem mayWait_of (c : Dev nD) (sm : SemLoc sig) (n : ℕ) (O : CellTallies nD τ sig Unit) (hn : lv ((c : Thread nD τ), sm) () ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨h1, -⟩ := h g u hg
      unfold L; rw [if_pos h1]; exact Finset.mem_singleton_self _)
    (fun p hp => by rw [Finset.mem_singleton.mp hp]; exact hn)
    (fun g u hg => (h g u hg).2)

end Cert.Mesh

end
-- ==== Proof.Blocks.lean ====
/-
  The kernel's repeated steps, each at a slot: a remote copy of either exchange, its waits, the final waits.
-/
module

public import proofs.«01_k».proof.Proof.Proto

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

abbrev 𝒱₀ : Variants := Variants.none

variable (I : Dev nD → Inp F)

/-! ## Views of a slot -/

/-- A slot of a buffer of sixteen as the program names it. -/
abbrev slotM (b : Memref sig .tc .vmem S16x32x768 .bf16) (o : Fin 3 → ℕ) (h : ∀ a, o a + S1x32x768.size a ≤ S16x32x768.size a) :
    Memref sig .tc .vmem S32x768 .bf16 :=
  (b.slice (Rect.unit (s := S16x32x768) o S1x32x768.size h) (fun _ => rfl)).squeeze S32x768 squeezes_S1x32x768_S32x768

/-- A slot of the buffer of the two sums. -/
abbrev redM (o : Fin 3 → ℕ) (h : ∀ a, o a + S1x32x768.size a ≤ S2x32x768.size a) : Memref sig .tc .vmem S32x768 .bf16 :=
  ((Memref.whole cc0_scratch1).slice (Rect.unit (s := S2x32x768) o S1x32x768.size h) (fun _ => rfl)).squeeze S32x768 squeezes_S1x32x768_S32x768

/-- A slot's semaphore. -/
abbrev semM (A : DmaSems sig S16) (o : Fin 1 → ℕ) (h : ∀ a, o a + S1.size a ≤ S16.size a) : DmaSem sig :=
  ((A.slice (Rect.unit (s := S16) o S1.size h)).squeeze S_ squeezes_S1_S_).sem

theorem sem_inb (k : Fin 16) : ∀ a, (![k.val] : Fin 1 → ℕ) a + S1.size a ≤ S16.size a := by
  intro a; have := k.isLt; fin_cases a; show k.val + 1 ≤ 16; omega

theorem sem0 : ∀ k : Fin 16, semM cc0_scratch4 ![k.val] (sem_inb k) = dsem 0 k := by decide
theorem sem1 : ∀ k : Fin 16, semM cc0_scratch5 ![k.val] (sem_inb k) = dsem 1 k := by decide
theorem sem2 : ∀ k : Fin 16, semM cc0_scratch6 ![k.val] (sem_inb k) = dsem 2 k := by decide
theorem sem3 : ∀ k : Fin 16, semM cc0_scratch7 ![k.val] (sem_inb k) = dsem 3 k := by decide

/-! ## What a slot's copy leaves -/

section Land

variable (c : Dev nD) (k : Fin 16)

/-- What the first exchange's copy leaves in its target slot. -/
theorem land1 (f : Vec F S16x32x768 .bf16) :
    (((pk k : Dev nD) : Thread nD τ).loc cc0_scratch2
        ↦[(slotM (Memref.whole cc0_scratch2) ![(own c k).val, 0, 0] (slot_inb _)).view.set]{fullShare}
          (slotM (Memref.whole cc0_scratch2) ![(own c k).val, 0, 0] (slot_inb _)).view.write (Elt F) f
            ((slotM (Memref.whole cc0_scratch0) ![k.val, 0, 0] (slot_inb _)).view.read (Elt F) (stg (I c))) Finset.univ : sProp 𝕄)
      ⊢ rsPt (pk k) (own c k) (rsV I (pk k)) := by
  rw [Memref.set_view_squeeze]
  refine Entails.of_eq ((pointsTo_congr fun i hi => ?_).trans (congrArg (fun S => (((pk k : Dev nD) : Thread nD τ).loc cc0_scratch2 ↦[S]{fullShare} rsV I (pk k) : sProp 𝕄)) (View.set_slice_whole _ _)))
  rw [← Memref.set_view_squeeze _ squeezes_S1x32x768_S32x768] at hi
  obtain ⟨y, rfl⟩ := View.exists_emb_of_mem_set _ hi
  refine (View.write_emb_of_mem _ _ (Finset.mem_univ y)).trans ?_
  exact rs_land I c (pk k) k rfl _

/-- What the second exchange's copy leaves in its target slot. -/
theorem land3 (f : Vec F S16x32x768 .bf16) :
    (((pk k : Dev nD) : Thread nD τ).loc cc0_scratch3
        ↦[(slotM (Memref.whole cc0_scratch3) ![(own c k).val, 0, 0] (slot_inb _)).view.set]{fullShare}
          (slotM (Memref.whole cc0_scratch3) ![(own c k).val, 0, 0] (slot_inb _)).view.write (Elt F) f
            ((redM ![(bt k).val, 0, 0] (red_inb _)).view.read (Elt F) (redB I c)) Finset.univ : sProp 𝕄)
      ⊢ agPt (pk k) (own c k) (agV I) := by
  rw [Memref.set_view_squeeze]
  refine Entails.of_eq ((pointsTo_congr fun i hi => ?_).trans (congrArg (fun S => (((pk k : Dev nD) : Thread nD τ).loc cc0_scratch3 ↦[S]{fullShare} agV I : sProp 𝕄)) (View.set_slice_whole _ _)))
  rw [← Memref.set_view_squeeze _ squeezes_S1x32x768_S32x768] at hi
  obtain ⟨y, rfl⟩ := View.exists_emb_of_mem_set _ hi
  refine (View.write_emb_of_mem _ _ (Finset.mem_univ y)).trans ?_
  exact ag_land I c k _

end Land

/-! ## Families of a device's sixteen slots -/

section Fam

variable (c : Dev nD) (k : Fin 16)

/-- What it owes, whatever it has waited for. -/
def ow (O : CellTallies nD τ sig Unit) : sProp 𝕄 := iprop(∃ W, owes (c : Thread nD τ) O W)
/-- How many rounds of slot `k`'s cells the device passes. -/
def fin (c : Dev nD) (k : Fin 16) : ℕ := if pk k = c then 0 else 1
/-- The tokens of a copy out of slot `k`, counted at arrays `q` here and `q'` there. -/
def tok (q q' : Fin 4) : sProp 𝕄 :=
  if pk k = c then iprop(emp)
  else iprop(dutyTok ER (cell c q k) 0 (pk k) ∗ reached ER (cell c q k) 0 ∗ dutyTok ER (cell (pk k) q' (own c k)) 0 c)
/-- The slot a copy of the first exchange goes to, and of the second. -/
def dst1 : sProp 𝕄 := if pk k = c then iprop(emp) else iprop(rsRaw (F := F) (pk k) (own c k) ∗ reached ER (cell (pk k) 1 (own c k)) 0)
def dst3 : sProp 𝕄 := if pk k = c then iprop(emp) else iprop(agRaw (F := F) (pk k) (own c k) ∗ reached ER (cell (pk k) 3 (own c k)) 0)
/-- A staged slot, once its copy is on its way. -/
def sent0 : sProp 𝕄 := if pk k = c then stgPt c k (stg (I c)) else cred (tallyAt (cell c 0 k) () N)
/-- An eighth of a sum, once its copy is on its way. -/
def eighth : sProp 𝕄 := redPt c (bt k) (leafQ k) (redB I c)
def sent2 : sProp 𝕄 := if pk k = c then eighth I c k else cred (tallyAt (cell c 2 k) () N)
/-- A receive slot of the first exchange before its wait, and after. -/
def got1 : sProp 𝕄 :=
  iprop(atPos ER (cell c 1 k) 0 ∅ 0 ∗ (if pk k = c then rsPt c k (rsV I c) else cred (tallyAt (cell c 1 k) () N)))
def had1 : sProp 𝕄 := iprop(atPos ER (cell c 1 k) (fin c k) ∅ 0 ∗ rsPt c k (rsV I c))
/-- A receive slot of the second exchange and its rows of the result before its wait, and after. -/
def got3 : sProp 𝕄 :=
  iprop(atPos ER (cell c 3 k) 0 ∅ 0
    ∗ (if pk k = c then outPt c k (outV I) else iprop(cred (tallyAt (cell c 3 k) () N) ∗ ∃ f : Vec F S512x768 .bf16, outPt c k f)))
def had3 : sProp 𝕄 :=
  iprop(atPos ER (cell c 3 k) (fin c k) ∅ 0 ∗ outPt c k (outV I) ∗ (if pk k = c then iprop(emp) else agPt c k (agV I)))
/-- A slot before the final waits, and after. -/
def got02 : sProp 𝕄 := iprop((atPos ER (cell c 0 k) 0 ∅ 0 ∗ sent0 I c k) ∗ (atPos ER (cell c 2 k) 0 ∅ 0 ∗ sent2 I c k))
def had02 : sProp 𝕄 :=
  iprop((atPos ER (cell c 0 k) (fin c k) ∅ 0 ∗ stgPt c k (stg (I c))) ∗ (atPos ER (cell c 2 k) (fin c k) ∅ 0 ∗ eighth I c k))

end Fam

/-- Every cell's invariant. -/
def invs (K : GSem nD τ sig → ℕ) : sProp 𝕄 :=
  iprop((bigSep Finset.univ fun c : Dev nD => cellInv ER (rd I) (K (bar c)) (bar c))
    ∗ bigSep Finset.univ fun x : Dev nD × Fin 4 × Fin 16 => cellInv ER (rd I) (K (cell x.1 x.2.1 x.2.2)) (cell x.1 x.2.1 x.2.2))

instance invs_persistent (K : GSem nD τ sig → ℕ) : BI.Persistent (invs I K) := by unfold invs; infer_instance

theorem inv_bar (K : GSem nD τ sig → ℕ) (c : Dev nD) : invs I K ⊢ cellInv ER (rd I) (K (bar c)) (bar c) := by
  unfold invs
  iintro ⟨H, -⟩
  have h : (bigSep Finset.univ fun c : Dev nD => cellInv ER (rd I) (K (bar c)) (bar c)) ⊢ (cellInv ER (rd I) (K (bar c)) (bar c) : sProp 𝕄) :=
    BI.bigSep_elim (Finset.mem_univ c)
  iapply h; iexact H
theorem inv_cell (K : GSem nD τ sig → ℕ) (c : Dev nD) (q : Fin 4) (k : Fin 16) :
    invs I K ⊢ cellInv ER (rd I) (K (cell c q k)) (cell c q k) := by
  unfold invs
  iintro ⟨-, H⟩
  have h : (bigSep Finset.univ fun x : Dev nD × Fin 4 × Fin 16 => cellInv ER (rd I) (K (cell x.1 x.2.1 x.2.2)) (cell x.1 x.2.1 x.2.2))
      ⊢ (cellInv ER (rd I) (K (cell c q k)) (cell c q k) : sProp 𝕄) := BI.bigSep_elim (i := (c, q, k)) (Finset.mem_univ _)
  iapply h; iexact H

/-! ## A copy of the first exchange -/

section Send

variable (K : GSem nD τ sig → ℕ) (c : Dev nD)

/-- The state between the first exchange's copies: those from slot `n` on to come, slots up to `e` staged. -/
def rsS (e n : ℕ) : sProp 𝕄 :=
  iprop(bigSep (iv n e) (fun k => stgPt c k (stg (I c))) ∗ bigSep (iv n 16) (fun k => tok (F := F) c k 0 1)
    ∗ bigSep (iv n 16) (fun k => dst1 (F := F) c k) ∗ bigSep (iv 0 n) (fun k => sent0 I c k) ∗ ow (F := F) c (dues 3 c 0 + dues 1 c n))

/-- One copy. -/
theorem send1 (k : Fin 16) (hk : pk k ≠ c) (s0 s1 : DmaSem sig) (h0 : s0 = dsem 0 k) (h1 : s1 = dsem 1 (own c k))
    (O : CellTallies nD τ sig Unit) {α : Type} (k' : PUnit → Prog (TpuEff nD τ sig (Elt F) Λ₀ .tc) α)
    (Q : α → sProp 𝕄) {hs hd ht} :
    iprop(invs I K ∗ stgPt c k (stg (I c)) ∗ tok (F := F) c k 0 1 ∗ dst1 (F := F) c k ∗ ow (F := F) c (O + due 1 c k))
      ⊢ iprop(((sent0 I c k ∗ ow (F := F) c O) -∗ wp frame (wpE (defs₀ (F := F)) 𝒱₀ c none) Set.univ (k' ⟨⟩) Q)
        -∗ wp frame (wpE (defs₀ (F := F)) 𝒱₀ c none) Set.univ
          (.op (.enqueueDma (slotM (Memref.whole cc0_scratch0) ![k.val, 0, 0] (slot_inb k))
            (.remote (Dev.tc (pk k)) (slotM (Memref.whole cc0_scratch2) ![(own c k).val, 0, 0] (slot_inb _)) (.dma s0))
            (.dma s1) hs hd ht) k') Q) := by
  subst h0 h1
  unfold tok dst1 due ow sent0
  rw [if_neg hk, if_neg hk, if_neg hk, if_neg hk]
  iintro ⟨#HI, Hs, ⟨Ht, Hr, Ht'⟩, ⟨⟨%f, Hd⟩, Hr'⟩, ⟨%W, HO⟩⟩ Hk
  iapply (Rounds.wp_send_pointsTo 𝒱₀ ER (rd I) (c : Thread nD τ) none (c' := (pk k : Thread nD τ))
      (src := slotM (Memref.whole cc0_scratch0) ![k.val, 0, 0] (slot_inb k))
      (dst := slotM (Memref.whole cc0_scratch2) ![(own c k).val, 0, 0] (slot_inb _))
      (sS := .dma (dsem 0 k)) (sem := .dma (dsem 1 (own c k))) (q := fullShare) (fs := stg (I c)) (fd := f)
      (κ₁ := K (cell c 0 k)) (κ₂ := K (cell (pk k) 1 (own c k)))
      (r₁ := 0) (r₂ := 0) (d₁ := pk k) (d₂ := c)
      (by rw [duties_peer I c 0 k hk]; exact Finset.mem_singleton_self _)
      (by rw [duties_peer I (pk k) 1 (own c k) (by rw [pk_own]; exact fun h => hk h.symm), pk_own]; exact Finset.mem_singleton_self _)
      () () N rfl (amount_cell I c 0 k 0 _) (amount_cell I (pk k) 1 (own c k) 0 _) O rfl (W := W)
      (by
        rw [payload_cell, Memref.set_view_squeeze]
        unfold dmaPay
        rw [if_pos rfl]
        exact Entails.of_eq (congrArg (fun S => ((c : Thread nD τ).loc cc0_scratch0 ↦[S]{fullShare} stg (I c) : sProp 𝕄)) (View.set_slice_whole _ _)))
      (by
        rw [payload_cell]
        unfold dmaPay
        rw [if_neg (by decide), if_pos rfl]
        exact land1 I c k f)) $$ [Hs Ht Hr Ht' Hd Hr' HO]
  · isplitr; · iapply (inv_cell I K c 0 k); iexact HI
    isplitr; · iapply (inv_cell I K (pk k) 1 (own c k)); iexact HI
    isplitl [Hs]
    · rw [Memref.set_view_squeeze]
      iapply (Entails.of_eq (congrArg (fun S => ((c : Thread nD τ).loc cc0_scratch0 ↦[S]{fullShare} stg (I c) : sProp 𝕄)) (View.set_slice_whole _ _).symm))
      iexact Hs
    isplitl [Hd]
    · rw [Memref.set_view_squeeze]
      iapply (Entails.of_eq (congrArg (fun S => (((pk k : Dev nD) : Thread nD τ).loc cc0_scratch2 ↦[S]{fullShare} f : sProp 𝕄)) (View.set_slice_whole _ _).symm))
      iexact Hd
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- One guarded copy of the first exchange, as the program writes it. -/
theorem rs_block (e n : ℕ) (hn : n < 16) (he : n < e) (cond : BitVec 1) (hc : cond = 1#1 ↔ pk ⟨n, hn⟩ ≠ c)
    (dv : ℕ) (hdv : dv = (pk ⟨n, hn⟩).val) (oi : Fin 1 → ℕ) (hoi : oi = ![(own c ⟨n, hn⟩).val]) (od : Fin 3 → ℕ)
    (hod : od = ![(own c ⟨n, hn⟩).val, 0, 0])
    {hdl : ∀ _ : cond = 1#1, dv < nD} {hsb hs0} {hib : ∀ _ : cond = 1#1, _} {hdb : ∀ _ : cond = 1#1, _} {hs : ∀ _ : cond = 1#1, _}
    {hd : ∀ _ : cond = 1#1, _} {ht : ∀ _ : cond = 1#1, _} {α : Type}
    (Kp : Prog (TpuEff nD τ sig (Elt F) Λ₀ .tc) α) (Q : α → sProp 𝕄) :
    iprop(invs I K ∗ rsS I c e n)
      ⊢ iprop((rsS I c e (n + 1) -∗ wp frame (wpE (defs₀ (F := F)) 𝒱₀ c none) Set.univ Kp Q)
        -∗ wp frame (wpE (defs₀ (F := F)) 𝒱₀ c none) Set.univ
          (if h : cond = 1#1 then
            (Prog.lift (.enqueueDma (slotM (Memref.whole cc0_scratch0) ![n, 0, 0] hsb)
              (.remote (Dev.tc (⟨dv, hdl h⟩ : Dev nD)) (slotM (Memref.whole cc0_scratch2) od (hdb h)) (.dma (semM cc0_scratch4 ![n] hs0)))
              (.dma (semM cc0_scratch5 oi (hib h))) (hs h) (hd h) (ht h)) >>= fun _ => Kp)
          else Kp) Q) := by
  subst hdv hoi hod
  have e1 : (bigSep (iv n e) (fun k => stgPt c k (stg (I c))) : sProp 𝕄) = _ := peel _ he hn
  have e2 : (bigSep (iv n 16) (fun k => tok (F := F) c k 0 1) : sProp 𝕄) = _ := peel _ hn hn
  have e3 : (bigSep (iv n 16) (fun k => dst1 (F := F) c k) : sProp 𝕄) = _ := peel _ hn hn
  have e4 : (bigSep (iv 0 (n + 1)) (fun k => sent0 I c k) : sProp 𝕄) = _ := push _ (Nat.zero_le n) hn
  unfold rsS
  rw [e1, e2, e3, e4, dues_peel 1 c n hn]
  by_cases h : cond = 1#1
  · have hk := hc.mp h
    rw [dif_pos h, wp_bind]
    iintro ⟨#HI, ⟨Hs, Hss⟩, ⟨Ht, Hts⟩, ⟨Hd, Hds⟩, Hdone, HO⟩ Hk
    have e5 : dues 3 c 0 + (due 1 c ⟨n, hn⟩ + dues 1 c (n + 1)) = (dues 3 c 0 + dues 1 c (n + 1)) + due 1 c ⟨n, hn⟩ := by
      rw [add_comm (due 1 c _), add_assoc]
    rw [e5]
    iapply (send1 I K c ⟨n, hn⟩ hk _ _ (sem0 ⟨n, hn⟩) (sem1 (own c ⟨n, hn⟩)) (dues 3 c 0 + dues 1 c (n + 1)) Prog.ret _ ) $$ [Hs Ht Hd HO]
    · isplitr; · iexact HI
      isplitl [Hs]; · iexact Hs
      isplitl [Ht]; · iexact Ht
      isplitl [Hd]; · iexact Hd
      iexact HO
    iintro ⟨Hc, HO⟩
    rw [wp_ret]
    imodintro
    iapply Hk
    isplitl [Hss]; · iexact Hss
    isplitl [Hts]; · iexact Hts
    isplitl [Hds]; · iexact Hds
    isplitr [HO]
    · isplitl [Hc] <;> iassumption
    iexact HO
  · have hk : pk ⟨n, hn⟩ = c := by by_contra h'; exact h (hc.mpr h')
    rw [dif_neg h]
    have e5 : due 1 c ⟨n, hn⟩ = 0 := by unfold due; rw [if_pos hk]
    rw [e5, zero_add]
    iintro ⟨#HI, ⟨Hs, Hss⟩, ⟨Ht, Hts⟩, ⟨Hd, Hds⟩, Hdone, HO⟩ Hk
    iapply Hk
    isplitl [Hss]; · iexact Hss
    isplitl [Hts]; · iexact Hts
    isplitl [Hds]; · iexact Hds
    isplitr [HO]
    · isplitl [Hs]
      · unfold sent0; rw [if_pos hk]; iexact Hs
      iexact Hdone
    iexact HO

end Send

end Cert.Mesh

end
-- ==== Proof.Blocks2.lean ====
/-
  The kernel's remaining repeated steps: the second exchange's copies, the waits of either exchange, the final waits.
-/
module

public import proofs.«01_k».proof.Proof.Blocks

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

variable (I : Dev nD → Inp F)

/-! ## A copy of the second exchange -/

section Send

variable (K : GSem nD τ sig → ℕ) (c : Dev nD)

/-- The state between the second exchange's copies: those from slot `n` on to come, the sums up to slot `e` at hand. -/
def agS (e n : ℕ) : sProp 𝕄 :=
  iprop(bigSep (iv n e) (fun k => eighth I c k) ∗ bigSep (iv n 16) (fun k => tok (F := F) c k 2 3)
    ∗ bigSep (iv n 16) (fun k => dst3 (F := F) c k) ∗ bigSep (iv 0 n) (fun k => sent2 I c k) ∗ ow (F := F) c (dues 3 c n))

/-- One copy. -/
theorem send3 (k : Fin 16) (hk : pk k ≠ c) (s0 s1 : DmaSem sig) (h0 : s0 = dsem 2 k) (h1 : s1 = dsem 3 (own c k))
    (O : CellTallies nD τ sig Unit) {α : Type} (k' : PUnit → Prog (TpuEff nD τ sig (Elt F) Λ₀ .tc) α)
    (Q : α → sProp 𝕄) {hs hd ht} :
    iprop(invs I K ∗ eighth I c k ∗ tok (F := F) c k 2 3 ∗ dst3 (F := F) c k ∗ ow (F := F) c (O + due 3 c k))
      ⊢ iprop(((sent2 I c k ∗ ow (F := F) c O) -∗ wp frame (wpE (defs₀ (F := F)) 𝒱₀ c none) Set.univ (k' ⟨⟩) Q)
        -∗ wp frame (wpE (defs₀ (F := F)) 𝒱₀ c none) Set.univ
          (.op (.enqueueDma (redM ![(bt k).val, 0, 0] (red_inb (bt k)))
            (.remote (Dev.tc (pk k)) (slotM (Memref.whole cc0_scratch3) ![(own c k).val, 0, 0] (slot_inb _)) (.dma s0))
            (.dma s1) hs hd ht) k') Q) := by
  subst h0 h1
  unfold tok dst3 due ow sent2 eighth
  rw [if_neg hk, if_neg hk, if_neg hk, if_neg hk]
  iintro ⟨#HI, Hs, ⟨Ht, Hr, Ht'⟩, ⟨⟨%f, Hd⟩, Hr'⟩, ⟨%W, HO⟩⟩ Hk
  iapply (Rounds.wp_send_pointsTo 𝒱₀ ER (rd I) (c : Thread nD τ) none (c' := (pk k : Thread nD τ))
      (src := redM ![(bt k).val, 0, 0] (red_inb (bt k)))
      (dst := slotM (Memref.whole cc0_scratch3) ![(own c k).val, 0, 0] (slot_inb _))
      (sS := .dma (dsem 2 k)) (sem := .dma (dsem 3 (own c k))) (q := leafQ k) (fs := redB I c) (fd := f)
      (κ₁ := K (cell c 2 k)) (κ₂ := K (cell (pk k) 3 (own c k)))
      (r₁ := 0) (r₂ := 0) (d₁ := pk k) (d₂ := c)
      (by rw [duties_peer I c 2 k hk]; exact Finset.mem_singleton_self _)
      (by rw [duties_peer I (pk k) 3 (own c k) (by rw [pk_own]; exact fun h => hk h.symm), pk_own]; exact Finset.mem_singleton_self _)
      () () N rfl (amount_cell I c 2 k 0 _) (amount_cell I (pk k) 3 (own c k) 0 _) O rfl (W := W)
      (by
        rw [payload_cell, Memref.set_view_squeeze]
        unfold dmaPay
        rw [if_neg (by decide), if_neg (by decide), if_pos rfl]
        exact Entails.of_eq (congrArg (fun S => ((c : Thread nD τ).loc cc0_scratch1 ↦[S]{leafQ k} redB I c : sProp 𝕄)) (View.set_slice_whole _ _)))
      (by
        rw [payload_cell]
        unfold dmaPay
        rw [if_neg (by decide), if_neg (by decide), if_neg (by decide)]
        exact land3 I c k f)) $$ [Hs Ht Hr Ht' Hd Hr' HO]
  · isplitr; · iapply (inv_cell I K c 2 k); iexact HI
    isplitr; · iapply (inv_cell I K (pk k) 3 (own c k)); iexact HI
    isplitl [Hs]
    · rw [Memref.set_view_squeeze]
      iapply (Entails.of_eq (congrArg (fun S => ((c : Thread nD τ).loc cc0_scratch1 ↦[S]{leafQ k} redB I c : sProp 𝕄)) (View.set_slice_whole _ _).symm))
      iexact Hs
    isplitl [Hd]
    · rw [Memref.set_view_squeeze]
      iapply (Entails.of_eq (congrArg (fun S => (((pk k : Dev nD) : Thread nD τ).loc cc0_scratch3 ↦[S]{fullShare} f : sProp 𝕄)) (View.set_slice_whole _ _).symm))
      iexact Hd
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- One guarded copy of the second exchange, as the program writes it. -/
theorem ag_block (e n : ℕ) (hn : n < 16) (he : n < e) (b : ℕ) (hb : b = (bt ⟨n, hn⟩).val) (cond : BitVec 1)
    (hc : cond = 1#1 ↔ pk ⟨n, hn⟩ ≠ c)
    (dv : ℕ) (hdv : dv = (pk ⟨n, hn⟩).val) (oi : Fin 1 → ℕ) (hoi : oi = ![(own c ⟨n, hn⟩).val]) (od : Fin 3 → ℕ)
    (hod : od = ![(own c ⟨n, hn⟩).val, 0, 0])
    {hdl : ∀ _ : cond = 1#1, dv < nD} {hsb hs0} {hib : ∀ _ : cond = 1#1, _} {hdb : ∀ _ : cond = 1#1, _} {hs : ∀ _ : cond = 1#1, _}
    {hd : ∀ _ : cond = 1#1, _} {ht : ∀ _ : cond = 1#1, _} {α : Type}
    (Kp : Prog (TpuEff nD τ sig (Elt F) Λ₀ .tc) α) (Q : α → sProp 𝕄) :
    iprop(invs I K ∗ agS I c e n)
      ⊢ iprop((agS I c e (n + 1) -∗ wp frame (wpE (defs₀ (F := F)) 𝒱₀ c none) Set.univ Kp Q)
        -∗ wp frame (wpE (defs₀ (F := F)) 𝒱₀ c none) Set.univ
          (if h : cond = 1#1 then
            (Prog.lift (.enqueueDma (redM ![b, 0, 0] hsb)
              (.remote (Dev.tc (⟨dv, hdl h⟩ : Dev nD)) (slotM (Memref.whole cc0_scratch3) od (hdb h)) (.dma (semM cc0_scratch6 ![n] hs0)))
              (.dma (semM cc0_scratch7 oi (hib h))) (hs h) (hd h) (ht h)) >>= fun _ => Kp)
          else Kp) Q) := by
  subst hdv hoi hod hb
  have e1 : (bigSep (iv n e) (fun k => eighth I c k) : sProp 𝕄) = _ := peel _ he hn
  have e2 : (bigSep (iv n 16) (fun k => tok (F := F) c k 2 3) : sProp 𝕄) = _ := peel _ hn hn
  have e3 : (bigSep (iv n 16) (fun k => dst3 (F := F) c k) : sProp 𝕄) = _ := peel _ hn hn
  have e4 : (bigSep (iv 0 (n + 1)) (fun k => sent2 I c k) : sProp 𝕄) = _ := push _ (Nat.zero_le n) hn
  unfold agS
  rw [e1, e2, e3, e4, dues_peel 3 c n hn]
  by_cases h : cond = 1#1
  · have hk := hc.mp h
    rw [dif_pos h, wp_bind]
    iintro ⟨#HI, ⟨Hs, Hss⟩, ⟨Ht, Hts⟩, ⟨Hd, Hds⟩, Hdone, HO⟩ Hk
    rw [add_comm (due 3 c _)]
    iapply (send3 I K c ⟨n, hn⟩ hk _ _ (sem2 ⟨n, hn⟩) (sem3 (own c ⟨n, hn⟩)) (dues 3 c (n + 1)) Prog.ret _ ) $$ [Hs Ht Hd HO]
    · isplitr; · iexact HI
      isplitl [Hs]; · iexact Hs
      isplitl [Ht]; · iexact Ht
      isplitl [Hd]; · iexact Hd
      iexact HO
    iintro ⟨Hc, HO⟩
    rw [wp_ret]
    imodintro
    iapply Hk
    isplitl [Hss]; · iexact Hss
    isplitl [Hts]; · iexact Hts
    isplitl [Hds]; · iexact Hds
    isplitr [HO]
    · isplitl [Hc] <;> iassumption
    iexact HO
  · have hk : pk ⟨n, hn⟩ = c := by by_contra h'; exact h (hc.mpr h')
    rw [dif_neg h]
    have e5 : due 3 c ⟨n, hn⟩ = 0 := by unfold due; rw [if_pos hk]
    rw [e5, zero_add]
    iintro ⟨#HI, ⟨Hs, Hss⟩, ⟨Ht, Hts⟩, ⟨Hd, Hds⟩, Hdone, HO⟩ Hk
    iapply Hk
    isplitl [Hss]; · iexact Hss
    isplitl [Hts]; · iexact Hts
    isplitl [Hds]; · iexact Hds
    isplitr [HO]
    · isplitl [Hs]
      · unfold sent2; rw [if_pos hk]; iexact Hs
      iexact Hdone
    iexact HO

end Send

/-! ## The waits -/

section Wait

variable (K : GSem nD τ sig → ℕ) (c : Dev nD)

/-- One wait for a slot's transfer: its payload comes, the cell one round on. -/
theorem wait_cell (q : Fin 4) (k : Fin 16) (hk : pk k ≠ c) (s : DmaSem sig) (hs : s = dsem q k) (O : CellTallies nD τ sig Unit)
    (hO : Above (if q = 1 then 2 else if q = 3 then 3 else 0) O)
    {S S' : Shape} {e e' : EltTy} (src : Memref sig .tc .vmem S e) (dst : Memref sig .tc .vmem S' e') (hd : dst.view.dmaCredit = N) {hw hw'}
    {α : Type} (k' : PUnit → Prog (TpuEff nD τ sig (Elt F) Λ₀ .tc) α) (Q : α → sProp 𝕄) :
    iprop(invs I K ∗ levAts L lv ∗ cred (tallyAt (cell c q k) () N) ∗ atPos ER (cell c q k) 0 ∅ 0 ∗ ow (F := F) c O)
      ⊢ iprop(((atPos ER (cell c q k) 1 ∅ 0 ∗ dmaPay I c q k ∗ ow (F := F) c O) -∗ wp frame (wpE (defs₀ (F := F)) 𝒱₀ c none) Set.univ (k' ⟨⟩) Q)
        -∗ wp frame (wpE (defs₀ (F := F)) 𝒱₀ c none) Set.univ (.op (.waitDma2 s src dst hw hw') k') Q) := by
  subst hs
  unfold ow
  iintro ⟨#HI, #Hlev, Hc, Hat, ⟨%W, HO⟩⟩ Hk
  iapply (Rounds.wp_wait_rest_token 𝒱₀ ER (rd I) (c : Thread nD τ) none (κ := K (cell c q k))
      (wpE_waitDma2_eq 𝒱₀ (c : Thread nD τ) none Set.univ) (Set.mem_univ _) () (O := O) (W := W) (R := 0) (m := 0) (T := ∅)
      (by rw [Nat.zero_add, hd]; exact (expect_peer I c q k hk).symm)) $$ [Hc HO Hat]
  · isplitr; · iapply (inv_cell I K c q k); iexact HI
    isplitl [Hc]; · rw [hd]; iexact Hc
    isplitl [HO]; · iexact HO
    isplitr
    · iapply (mayWait_of c (.dma (dsem q k)) (if q = 1 then 2 else if q = 3 then 3 else 0) O (le_of_eq (lv_cell c q k)) hO)
      iexact Hlev
    iexact Hat
  iintro ⟨HO, Hat, -, Hpay⟩
  ihave Hp := (Entails.of_eq (rest_peer I c q k hk)) $$ Hpay
  iapply Hk
  isplitl [Hat]; · iexact Hat
  isplitl [Hp]; · iexact Hp
  iexists _; iexact HO

theorem fin_peer {c : Dev nD} {k : Fin 16} (h : pk k ≠ c) : fin c k = 1 := if_neg h
theorem fin_own {c : Dev nD} {k : Fin 16} (h : pk k = c) : fin c k = 0 := if_pos h

/-- The state between the first exchange's waits of a batch: slots from `a`, those from `n` on to come, up to `e`. -/
def rwS (O : CellTallies nD τ sig Unit) (a e n : ℕ) : sProp 𝕄 :=
  iprop(bigSep (iv n e) (fun k => got1 I c k) ∗ bigSep (iv a n) (fun k => had1 I c k) ∗ ow (F := F) c O)

/-- One guarded wait of the first exchange. -/
theorem rw_block (O : CellTallies nD τ sig Unit) (hO : Above 2 O) (a e n : ℕ) (hn : n < 16) (ha : a ≤ n) (he : n < e) (cond : BitVec 1)
    (hc : cond = 1#1 ↔ pk ⟨n, hn⟩ ≠ c) {hb0 hb1 hb2 hw hw'} {α : Type}
    (Kp : Prog (TpuEff nD τ sig (Elt F) Λ₀ .tc) α) (Q : α → sProp 𝕄) :
    iprop(invs I K ∗ levAts L lv ∗ rwS I c O a e n)
      ⊢ iprop((rwS I c O a e (n + 1) -∗ wp frame (wpE (defs₀ (F := F)) 𝒱₀ c none) Set.univ Kp Q)
        -∗ wp frame (wpE (defs₀ (F := F)) 𝒱₀ c none) Set.univ
          (if _ : cond = 1#1 then
            (Prog.lift (.waitDma2 (semM cc0_scratch5 ![n] hb0) (slotM (Memref.whole cc0_scratch0) ![n, 0, 0] hb1)
              (slotM (Memref.whole cc0_scratch2) ![n, 0, 0] hb2) hw hw') >>= fun _ => Kp)
          else Kp) Q) := by
  have e1 : (bigSep (iv n e) (fun k => got1 I c k) : sProp 𝕄) = _ := peel _ he hn
  have e2 : (bigSep (iv a (n + 1)) (fun k => had1 I c k) : sProp 𝕄) = _ := push _ ha hn
  unfold rwS
  rw [e1, e2]
  unfold got1 had1
  by_cases h : cond = 1#1
  · have hk := hc.mp h
    rw [dif_pos h, wp_bind, fin_peer hk, if_neg hk]
    iintro ⟨#HI, #Hlev, ⟨⟨Hat, Hc⟩, Hrest⟩, Hdone, HO⟩ Hk
    iapply (wait_cell I K c 1 ⟨n, hn⟩ hk _ (sem1 ⟨n, hn⟩) O hO _ (slotM (Memref.whole cc0_scratch2) ![n, 0, 0] hb2) rfl Prog.ret _) $$ [Hat Hc HO]
    · isplitr; · iexact HI
      isplitr; · iexact Hlev
      isplitl [Hc]; · iexact Hc
      isplitl [Hat] <;> iassumption
    iintro ⟨Hat, Hp, HO⟩
    rw [wp_ret]
    imodintro
    iapply Hk
    isplitl [Hrest]; · iexact Hrest
    isplitr [HO]
    · isplitr [Hdone]
      · isplitl [Hat]; · iexact Hat
        iapply (Entails.of_eq (show (dmaPay I c 1 ⟨n, hn⟩ : sProp 𝕄) = rsPt c ⟨n, hn⟩ (rsV I c) from by
          unfold dmaPay; rw [if_neg (by decide), if_pos rfl]))
        iexact Hp
      iexact Hdone
    iexact HO
  · have hk : pk ⟨n, hn⟩ = c := by by_contra h'; exact h (hc.mpr h')
    rw [dif_neg h, fin_own hk, if_pos hk]
    iintro ⟨#HI, #Hlev, ⟨Hown, Hrest⟩, Hdone, HO⟩ Hk
    iapply Hk
    isplitl [Hrest]; · iexact Hrest
    isplitr [HO]
    · isplitl [Hown] <;> iassumption
    iexact HO

/-- The state between the second exchange's waits: those from slot `n` on to come. -/
def awS (n : ℕ) : sProp 𝕄 :=
  iprop(bigSep (iv n 16) (fun k => got3 I c k) ∗ bigSep (iv 0 n) (fun k => had3 I c k) ∗ ow (F := F) c 0)

/-- What the store of a received sum leaves. -/
theorem out_land (k : Fin 16) (f : Vec F S512x768 .bf16) (pay : Vec F S1x32x768 .bf16 → FVec F S32x768 .bf16)
    (hpay : ∀ v y, pay v y = shapeCast S32x768 v (by decide) y) :
    ((((Memref.whole cc0_stg5_0).access (outR k)).loc (c : Thread nD τ)) ↦[(outR k).set]{fullShare}
      (((Memref.whole cc0_stg5_0).access (outR k)).write (Elt F) f (pay (slotV (agV I) k)) Finset.univ) : sProp 𝕄) ⊢ outPt c k (outV I) := by
  refine Entails.of_eq (pointsTo_congr fun i hi => ?_)
  have hi' : i ∈ ((Memref.whole cc0_stg5_0).access (outR k)).set := by rw [View.set_slice_whole]; exact hi
  obtain ⟨y, rfl⟩ := View.exists_emb_of_mem_set _ hi'
  refine (View.write_emb_of_mem _ _ (Finset.mem_univ y)).trans ?_
  exact (hpay _ y).trans (out_pay I k _ y)

/-- One guarded wait of the second exchange, with the store of what arrived. -/
theorem aw_block (n : ℕ) (hn : n < 16) (b r : ℕ) (hb : b = (bt ⟨n, hn⟩).val) (hr : r = 32 * n) (cond : BitVec 1)
    (hc : cond = 1#1 ↔ pk ⟨n, hn⟩ ≠ c) (pay : Vec F S1x32x768 .bf16 → FVec F S32x768 .bf16)
    (hpay : ∀ v y, pay v y = shapeCast S32x768 v (by decide) y)
    {hb0 hb1 hb2 hb3 hb4 hw hw' hl hl' hx hm} {α : Type}
    (Kp : Prog (TpuEff nD τ sig (Elt F) Λ₀ .tc) α) (Q : α → sProp 𝕄) :
    iprop(invs I K ∗ levAts L lv ∗ awS I c n)
      ⊢ iprop((awS I c (n + 1) -∗ wp frame (wpE (defs₀ (F := F)) 𝒱₀ c none) Set.univ Kp Q)
        -∗ wp frame (wpE (defs₀ (F := F)) 𝒱₀ c none) Set.univ
          (if _ : cond = 1#1 then
            (Prog.lift (.waitDma2 (semM cc0_scratch7 ![n] hb0) (redM ![b, 0, 0] hb1)
              (slotM (Memref.whole cc0_scratch3) ![n, 0, 0] hb2) hw hw') >>= fun _ =>
             Prog.lift (.load (Memref.whole cc0_scratch3) (Rect.unit (s := S16x32x768) ![n, 0, 0] S1x32x768.size hb3).toLoadRect hl) >>= fun v =>
             Prog.lift (.load (Memref.whole cc0_stg5_0) (Rect.unit (s := S512x768) ![r, 0] S32x768.size hb4).toLoadRect hl') >>= fun _ =>
             Prog.lift (.store (Memref.whole cc0_stg5_0) (Rect.unit (s := S512x768) ![r, 0] S32x768.size hb4) (pay v) Finset.univ hx hm) >>= fun _ => Kp)
          else Kp) Q) := by
  subst hb hr
  have e1 : (bigSep (iv n 16) (fun k => got3 I c k) : sProp 𝕄) = _ := peel _ hn hn
  have e2 : (bigSep (iv 0 (n + 1)) (fun k => had3 I c k) : sProp 𝕄) = _ := push _ (Nat.zero_le n) hn
  unfold awS
  rw [e1, e2]
  unfold got3 had3
  by_cases h : cond = 1#1
  · have hk := hc.mp h
    rw [dif_pos h, wp_bind, fin_peer hk, if_neg hk, if_neg hk]
    iintro ⟨#HI, #Hlev, ⟨⟨Hat, Hc, ⟨%f, Ho⟩⟩, Hrest⟩, Hdone, HO⟩ Hk
    iapply (wait_cell I K c 3 ⟨n, hn⟩ hk _ (sem3 ⟨n, hn⟩) 0 (above_zero _) _ (slotM (Memref.whole cc0_scratch3) ![n, 0, 0] hb2) rfl Prog.ret _) $$ [Hat Hc HO]
    · isplitr; · iexact HI
      isplitr; · iexact Hlev
      isplitl [Hc]; · iexact Hc
      isplitl [Hat] <;> iassumption
    iintro ⟨Hat, Hp, HO⟩
    rw [wp_ret]
    imodintro
    ihave Hag := (Entails.of_eq (show (dmaPay I c 3 ⟨n, hn⟩ : sProp 𝕄) = agPt c ⟨n, hn⟩ (agV I) from by
      unfold dmaPay; rw [if_neg (by decide), if_neg (by decide), if_neg (by decide)])) $$ Hp
    rw [wp_bind]
    iapply (wp_load_rect 𝒱₀ (c : Thread nD τ) none Set.univ (m := Memref.whole cc0_scratch3) (r := slotR ⟨n, hn⟩) (f := agV I)
      (S := (slotR ⟨n, hn⟩).set) (by rw [View.set_slice_whole])) $$ [Hag]
    · iexact Hag
    iintro Hag
    rw [wp_ret]
    imodintro
    rw [wp_bind]
    iapply (wp_load_rect 𝒱₀ (c : Thread nD τ) none Set.univ (m := Memref.whole cc0_stg5_0) (r := outR ⟨n, hn⟩) (f := f)
      (S := (outR ⟨n, hn⟩).set) (by rw [View.set_slice_whole])) $$ [Ho]
    · iexact Ho
    iintro Ho
    rw [wp_ret]
    imodintro
    rw [wp_bind]
    iapply (wp_store 𝒱₀ (c : Thread nD τ) none Set.univ (m := Memref.whole cc0_stg5_0) (r := outR ⟨n, hn⟩) (f := f)
      (S := (outR ⟨n, hn⟩).set) (by rw [View.setOn_univ, View.set_slice_whole])) $$ [Ho]
    · iexact Ho
    iintro Ho
    rw [wp_ret]
    imodintro
    iapply Hk
    isplitl [Hrest]; · iexact Hrest
    isplitr [HO]
    · isplitr [Hdone]
      · isplitl [Hat]; · iexact Hat
        isplitl [Ho]
        · iapply (out_land I c ⟨n, hn⟩ f pay hpay)
          iexact Ho
        iexact Hag
      iexact Hdone
    iexact HO
  · have hk : pk ⟨n, hn⟩ = c := by by_contra h'; exact h (hc.mpr h')
    rw [dif_neg h, fin_own hk, if_pos hk, if_pos hk]
    iintro ⟨#HI, #Hlev, ⟨⟨Hat, Ho⟩, Hrest⟩, Hdone, HO⟩ Hk
    iapply Hk
    isplitl [Hrest]; · iexact Hrest
    isplitr [HO]
    · isplitr [Hdone]
      · isplitl [Hat]; · iexact Hat
        isplitl [Ho]; · iexact Ho
        iempintro
      iexact Hdone
    iexact HO

/-- The state between the final waits: those from slot `n` on to come. -/
def fwS (n : ℕ) : sProp 𝕄 :=
  iprop(bigSep (iv n 16) (fun k => got02 I c k) ∗ bigSep (iv 0 n) (fun k => had02 I c k) ∗ ow (F := F) c 0)

/-- The two guarded final waits of a slot. -/
theorem fw_block (n : ℕ) (hn : n < 16) (b : ℕ) (hb : b = (bt ⟨n, hn⟩).val) (cond : BitVec 1)
    (hc : cond = 1#1 ↔ pk ⟨n, hn⟩ ≠ c) {hb0 hb1 hb2 hb3 hb4 hb5 hw hw' hv hv'} {α : Type}
    (Kp : Prog (TpuEff nD τ sig (Elt F) Λ₀ .tc) α) (Q : α → sProp 𝕄) :
    iprop(invs I K ∗ levAts L lv ∗ fwS I c n)
      ⊢ iprop((fwS I c (n + 1) -∗ wp frame (wpE (defs₀ (F := F)) 𝒱₀ c none) Set.univ Kp Q)
        -∗ wp frame (wpE (defs₀ (F := F)) 𝒱₀ c none) Set.univ
          (if _ : cond = 1#1 then
            (Prog.lift (.waitDma2 (semM cc0_scratch4 ![n] hb0) (slotM (Memref.whole cc0_scratch2) ![n, 0, 0] hb1)
              (slotM (Memref.whole cc0_scratch0) ![n, 0, 0] hb2) hw hw') >>= fun _ =>
             Prog.lift (.waitDma2 (semM cc0_scratch6 ![n] hb3) (slotM (Memref.whole cc0_scratch3) ![n, 0, 0] hb4)
              (redM ![b, 0, 0] hb5) hv hv') >>= fun _ => Kp)
          else Kp) Q) := by
  subst hb
  have e1 : (bigSep (iv n 16) (fun k => got02 I c k) : sProp 𝕄) = _ := peel _ hn hn
  have e2 : (bigSep (iv 0 (n + 1)) (fun k => had02 I c k) : sProp 𝕄) = _ := push _ (Nat.zero_le n) hn
  unfold fwS
  rw [e1, e2]
  unfold got02 had02 sent0 sent2
  by_cases h : cond = 1#1
  · have hk := hc.mp h
    rw [dif_pos h, wp_bind, fin_peer hk, if_neg hk, if_neg hk]
    iintro ⟨#HI, #Hlev, ⟨⟨⟨Hat, Hc⟩, ⟨Hat', Hc'⟩⟩, Hrest⟩, Hdone, HO⟩ Hk
    iapply (wait_cell I K c 0 ⟨n, hn⟩ hk _ (sem0 ⟨n, hn⟩) 0 (above_zero _) _ (slotM (Memref.whole cc0_scratch0) ![n, 0, 0] hb2) rfl Prog.ret _) $$ [Hat Hc HO]
    · isplitr; · iexact HI
      isplitr; · iexact Hlev
      isplitl [Hc]; · iexact Hc
      isplitl [Hat] <;> iassumption
    iintro ⟨Hat, Hp, HO⟩
    rw [wp_ret]
    imodintro
    rw [wp_bind]
    iapply (wait_cell I K c 2 ⟨n, hn⟩ hk _ (sem2 ⟨n, hn⟩) 0 (above_zero _) _ (redM ![(bt ⟨n, hn⟩).val, 0, 0] hb5) rfl Prog.ret _) $$ [Hat' Hc' HO]
    · isplitr; · iexact HI
      isplitr; · iexact Hlev
      isplitl [Hc']; · iexact Hc'
      isplitl [Hat'] <;> iassumption
    iintro ⟨Hat', Hp', HO⟩
    rw [wp_ret]
    imodintro
    iapply Hk
    isplitl [Hrest]; · iexact Hrest
    isplitr [HO]
    · isplitr [Hdone]
      · isplitl [Hat Hp]
        · isplitl [Hat]; · iexact Hat
          iapply (Entails.of_eq (show (dmaPay I c 0 ⟨n, hn⟩ : sProp 𝕄) = stgPt c ⟨n, hn⟩ (stg (I c)) from by
            unfold dmaPay; rw [if_pos rfl]))
          iexact Hp
        isplitl [Hat']; · iexact Hat'
        iapply (Entails.of_eq (show (dmaPay I c 2 ⟨n, hn⟩ : sProp 𝕄) = eighth I c ⟨n, hn⟩ from by
          unfold dmaPay eighth; rw [if_neg (by decide), if_neg (by decide), if_pos rfl]))
        iexact Hp'
      iexact Hdone
    iexact HO
  · have hk : pk ⟨n, hn⟩ = c := by by_contra h'; exact h (hc.mpr h')
    rw [dif_neg h, fin_own hk, if_pos hk, if_pos hk]
    iintro ⟨#HI, #Hlev, ⟨Hown, Hrest⟩, Hdone, HO⟩ Hk
    iapply Hk
    isplitl [Hrest]; · iexact Hrest
    isplitr [HO]
    · isplitl [Hown] <;> iassumption
    iexact HO

end Wait

end Cert.Mesh

end
-- ==== Proof.Blocks3.lean ====
/-
  The kernel's loads, its stores of slots, its barrier; and how the families of slots are dealt out and taken back.
-/
module

public import proofs.«01_k».proof.Proof.Blocks2

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

variable (I : Dev nD → Inp F)

/-! ## The barrier -/

section Bar

variable (K : GSem nD τ sig → ℕ) (c : Dev nD)

/-- The barrier's semaphore as the program names it. -/
abbrev barM : Sems sig S_ := SemArray.scalar (sig.barrier 0 rfl)

/-- The token of the signal to the device `o` further on. -/
def tokB (o : Fin 8) : sProp 𝕄 := iprop(dutyTok ER (bar (fwd c o)) 0 c ∗ reached ER (bar (fwd c o)) 0)

/-- The state between the signals: those from offset `n` on to come. -/
def sgS (R : CellTallies nD τ sig Unit) (n : ℕ) : sProp 𝕄 :=
  iprop(bigSep (ov n) (fun o => tokB (F := F) c o) ∗ bigSep (ov n) (fun o => barPay (F := F) (fwd c o) c)
    ∗ ow (F := F) c (R + bars c n))

theorem fwd_ne : ∀ (c : Dev nD) (o : Fin 8), 1 ≤ o.val → c ≠ fwd c o := by decide

/-- One signal. -/
theorem sg_block (R : CellTallies nD τ sig Unit) (n : ℕ) (hn : n < 8) (h1 : 1 ≤ n) (dv : ℕ) (hdv : dv = (fwd c ⟨n, hn⟩).val)
    {hdl : dv < nD} {α : Type} (Kp : Prog (TpuEff nD τ sig (Elt F) Λ₀ .tc) α) (Q : α → sProp 𝕄) :
    iprop(invs I K ∗ sgS (F := F) c R n)
      ⊢ iprop((sgS (F := F) c R (n + 1) -∗ wp frame (wpE (defs₀ (F := F)) 𝒱₀ c none) Set.univ Kp Q)
        -∗ wp frame (wpE (defs₀ (F := F)) 𝒱₀ c none) Set.univ
          (semSignalWord (⟨dv, hdl⟩ : Dev nD) barM.sem 1#32 >>= fun _ => Kp) Q) := by
  subst hdv
  have e1 : (bigSep (ov n) (fun o => tokB (F := F) c o) : sProp 𝕄) = iprop(tokB (F := F) c ⟨n, hn⟩ ∗ bigSep (ov (n + 1)) (fun o => tokB (F := F) c o)) := by
    rw [ov_front n hn, bigSep_insert (ov_not n hn)]; rfl
  have e2 : (bigSep (ov n) (fun o => barPay (F := F) (fwd c o) c) : sProp 𝕄)
      = iprop(barPay (F := F) (fwd c ⟨n, hn⟩) c ∗ bigSep (ov (n + 1)) (fun o => barPay (F := F) (fwd c o) c)) := by
    rw [ov_front n hn, bigSep_insert (ov_not n hn)]; rfl
  unfold sgS
  rw [e1, e2, bars_peel c n hn, add_comm (tallyAt (bar (fwd c ⟨n, hn⟩)) () 1), ← add_assoc, wp_bind]
  unfold tokB ow
  iintro ⟨#HI, ⟨⟨Ht, Hr⟩, Hts⟩, ⟨Hp, Hps⟩, ⟨%W, HO⟩⟩ Hk
  iapply (Rounds.wp_signal 𝒱₀ ER (rd I) (c : Thread nD τ) none (dst := ((fwd c ⟨n, hn⟩ : Dev nD) : Thread nD τ)) (sem := barrier0) (r := 0) (d := c)
      (κ := K (bar (fwd c ⟨n, hn⟩)))
      (by rw [duties_bar]; exact Finset.mem_erase.mpr ⟨fwd_ne c ⟨n, hn⟩ h1, Finset.mem_univ _⟩) (amount_bar I (fwd c ⟨n, hn⟩) 0 c) ()
      (R + bars c (n + 1)) rfl) $$ [HO Ht Hp Hr]
  · isplitr; · iapply (inv_bar I K (fwd c ⟨n, hn⟩)); iexact HI
    isplitl [HO]; · iexact HO
    isplitl [Ht]; · iexact Ht
    isplitl [Hp]; · rw [payload_bar]; iexact Hp
    iexact Hr
  iintro HO
  rw [wp_ret]
  imodintro
  iapply Hk
  isplitl [Hts]; · iexact Hts
  isplitl [Hps]; · iexact Hps
  iexists W; iexact HO

/-- The wait for the seven others. -/
theorem bw_block (O : CellTallies nD τ sig Unit) (hO : Above 1 O) {α : Type} (Kp : Prog (TpuEff nD τ sig (Elt F) Λ₀ .tc) α) (Q : α → sProp 𝕄) :
    iprop(invs I K ∗ levAts L lv ∗ cred (tallyAt (bar c) () 7) ∗ atPos ER (bar c) 0 ∅ 0 ∗ ow (F := F) c O)
      ⊢ iprop(((atPos ER (bar c) 1 ∅ 0 ∗ bigSep (Finset.univ.erase c) (fun p => barPay (F := F) c p) ∗ ow (F := F) c O)
          -∗ wp frame (wpE (defs₀ (F := F)) 𝒱₀ c none) Set.univ Kp Q)
        -∗ wp frame (wpE (defs₀ (F := F)) 𝒱₀ c none) Set.univ (semWaitWord barM.sem 7#32 >>= fun _ => Kp) Q) := by
  unfold ow
  rw [wp_bind]
  iintro ⟨#HI, #Hlev, Hc, Hat, ⟨%W, HO⟩⟩ Hk
  iapply (Rounds.wp_wait_rest_token 𝒱₀ ER (rd I) (c : Thread nD τ) none (κ := K (bar c))
      (wpE_semWait_eq 𝒱₀ (c : Thread nD τ) none Set.univ) (Set.mem_univ _) () (O := O) (W := W) (R := 0) (m := 0) (T := ∅)
      ((Nat.zero_add 7).trans (expect_bar I c).symm)) $$ [Hc HO Hat]
  · isplitr; · iapply (inv_bar I K c); iexact HI
    isplitl [Hc]; · iexact Hc
    isplitl [HO]; · iexact HO
    isplitr
    · iapply (mayWait_of c (.reg barrier0) 1 O (le_of_eq (lv_bar c)) hO)
      iexact Hlev
    iexact Hat
  iintro ⟨HO, Hat, -, Hpay⟩
  ihave Hp := (Entails.of_eq (rest_bar I c)) $$ Hpay
  rw [wp_ret]
  imodintro
  iapply Hk
  isplitl [Hat]; · iexact Hat
  isplitl [Hp]; · iexact Hp
  iexists _; iexact HO

end Bar

/-! ## Loads and stores -/

section Mem

variable (c : Dev nD)

/-- A load of part of a buffer held whole. -/
theorem ld_in {cs : CoreSpace} {s : Shape} {e : EltTy} (m : Memref sig .tc cs s e) (r : Rect s) (f : Buf (Elt F) ((m.access r).loc (c : Thread nD τ)))
    {hl : m.view.LoadsAt r.toLoadRect}
    {α : Type} (Kp : (r.shape.Idx → Elt F e) → Prog (TpuEff nD τ sig (Elt F) Λ₀ .tc) α) (Q : α → sProp 𝕄) :
    (((m.access r).loc (c : Thread nD τ) ↦{fullShare} f : sProp 𝕄))
      ⊢ iprop((((m.access r).loc (c : Thread nD τ) ↦{fullShare} f)
          -∗ wp frame (wpE (defs₀ (F := F)) 𝒱₀ c none) Set.univ (Kp ((m.access r).read (Elt F) f)) Q)
        -∗ wp frame (wpE (defs₀ (F := F)) 𝒱₀ c none) Set.univ (Prog.lift (.load m r.toLoadRect hl) >>= Kp) Q) := by
  rw [wp_bind]
  iintro Hb Hk
  iapply (wp_load_rect 𝒱₀ (c : Thread nD τ) none Set.univ (m := m) (r := r) (f := f)
    (S := Finset.univ) (Finset.subset_univ _)) $$ [Hb]
  · iexact Hb
  iintro Hb
  rw [wp_ret]
  imodintro
  iapply Hk
  iexact Hb

/-- The state between the stores of staged chunks: slots from `n` up to `e` not yet stored, those from `a` to `n` stored. -/
def stS (a e n : ℕ) : sProp 𝕄 :=
  iprop(bigSep (iv n e) (fun k => iprop(∃ f : Vec F S16x32x768 .bf16, stgPt c k f)) ∗ bigSep (iv a n) (fun k => stgPt c k (stg (I c))))

/-- What the store of a slot leaves, in each buffer. -/
theorem stg_land (k : Fin 16) (f : Vec F S16x32x768 .bf16) (w : FVec F S1x32x768 .bf16)
    (hw : ∀ y, w y = stg (I c) ((slotR k).emb y)) :
    ((((Memref.whole cc0_scratch0).access (slotR k)).loc (c : Thread nD τ)) ↦[(slotR k).set]{fullShare}
      (((Memref.whole cc0_scratch0).access (slotR k)).write (Elt F) f w Finset.univ) : sProp 𝕄) ⊢ stgPt c k (stg (I c)) := by
  refine Entails.of_eq (pointsTo_congr fun i hi => ?_)
  have hi' : i ∈ ((Memref.whole cc0_scratch0).access (slotR k)).set := by rw [View.set_slice_whole]; exact hi
  obtain ⟨y, rfl⟩ := View.exists_emb_of_mem_set _ hi'
  exact (View.write_emb_of_mem _ _ (Finset.mem_univ y)).trans (hw y)

theorem rs_store_land (k : Fin 16) (f : Vec F S16x32x768 .bf16) (w : FVec F S1x32x768 .bf16)
    (hw : ∀ y, w y = rsV I c ((slotR k).emb y)) :
    ((((Memref.whole cc0_scratch2).access (slotR k)).loc (c : Thread nD τ)) ↦[(slotR k).set]{fullShare}
      (((Memref.whole cc0_scratch2).access (slotR k)).write (Elt F) f w Finset.univ) : sProp 𝕄) ⊢ rsPt c k (rsV I c) := by
  refine Entails.of_eq (pointsTo_congr fun i hi => ?_)
  have hi' : i ∈ ((Memref.whole cc0_scratch2).access (slotR k)).set := by rw [View.set_slice_whole]; exact hi
  obtain ⟨y, rfl⟩ := View.exists_emb_of_mem_set _ hi'
  exact (View.write_emb_of_mem _ _ (Finset.mem_univ y)).trans (hw y)

theorem red_land (b : Fin 2) (f : Vec F S2x32x768 .bf16) (w : FVec F S1x32x768 .bf16)
    (hw : ∀ y, w y = redB I c ((redR b).emb y)) :
    ((((Memref.whole cc0_scratch1).access (redR b)).loc (c : Thread nD τ)) ↦[(redR b).set]{fullShare}
      (((Memref.whole cc0_scratch1).access (redR b)).write (Elt F) f w Finset.univ) : sProp 𝕄) ⊢ redPt c b fullShare (redB I c) := by
  refine Entails.of_eq (pointsTo_congr fun i hi => ?_)
  have hi' : i ∈ ((Memref.whole cc0_scratch1).access (redR b)).set := by rw [View.set_slice_whole]; exact hi
  obtain ⟨y, rfl⟩ := View.exists_emb_of_mem_set _ hi'
  exact (View.write_emb_of_mem _ _ (Finset.mem_univ y)).trans (hw y)

theorem own_land (k : Fin 16) (f : Vec F S512x768 .bf16) (w : FVec F S32x768 .bf16)
    (hw : ∀ y, w y = outV I ((outR k).emb y)) :
    ((((Memref.whole cc0_stg5_0).access (outR k)).loc (c : Thread nD τ)) ↦[(outR k).set]{fullShare}
      (((Memref.whole cc0_stg5_0).access (outR k)).write (Elt F) f w Finset.univ) : sProp 𝕄) ⊢ outPt c k (outV I) := by
  refine Entails.of_eq (pointsTo_congr fun i hi => ?_)
  have hi' : i ∈ ((Memref.whole cc0_stg5_0).access (outR k)).set := by rw [View.set_slice_whole]; exact hi
  obtain ⟨y, rfl⟩ := View.exists_emb_of_mem_set _ hi'
  exact (View.write_emb_of_mem _ _ (Finset.mem_univ y)).trans (hw y)

/-- One store of a staged chunk, with the load before it that nothing reads. -/
theorem st_block (a e n : ℕ) (hn : n < 16) (ha : a ≤ n) (he : n < e) (w : FVec F S1x32x768 .bf16)
    (hw : w = shapeCast S1x32x768 (chunk (att (I c) (bt ⟨n, hn⟩)) (pk ⟨n, hn⟩)) (by decide)) {hb hb' hl hx hm} {α : Type}
    (Kp : Prog (TpuEff nD τ sig (Elt F) Λ₀ .tc) α) (Q : α → sProp 𝕄) :
    stS I c a e n
      ⊢ iprop((stS I c a e (n + 1) -∗ wp frame (wpE (defs₀ (F := F)) 𝒱₀ c none) Set.univ Kp Q)
        -∗ wp frame (wpE (defs₀ (F := F)) 𝒱₀ c none) Set.univ
          (Prog.lift (.load (Memref.whole cc0_scratch0) (Rect.unit (s := S16x32x768) ![n, 0, 0] S1x32x768.size hb).toLoadRect hl) >>= fun _ =>
           Prog.lift (.store (Memref.whole cc0_scratch0) (Rect.unit (s := S16x32x768) ![n, 0, 0] S1x32x768.size hb') w Finset.univ hx hm) >>= fun _ => Kp) Q) := by
  have e1 : (bigSep (iv n e) (fun k => iprop(∃ f : Vec F S16x32x768 .bf16, stgPt c k f)) : sProp 𝕄) = _ := peel _ he hn
  have e2 : (bigSep (iv a (n + 1)) (fun k => stgPt c k (stg (I c))) : sProp 𝕄) = _ := push _ ha hn
  unfold stS
  rw [e1, e2, wp_bind]
  iintro ⟨⟨⟨%f, Hs⟩, Hss⟩, Hdone⟩ Hk
  iapply (wp_load_rect 𝒱₀ (c : Thread nD τ) none Set.univ (m := Memref.whole cc0_scratch0) (r := slotR ⟨n, hn⟩) (f := f)
    (S := (slotR ⟨n, hn⟩).set) (by rw [View.set_slice_whole])) $$ [Hs]
  · iexact Hs
  iintro Hs
  rw [wp_ret]
  imodintro
  rw [wp_bind]
  iapply (wp_store 𝒱₀ (c : Thread nD τ) none Set.univ (m := Memref.whole cc0_scratch0) (r := slotR ⟨n, hn⟩) (f := f)
    (S := (slotR ⟨n, hn⟩).set) (by rw [View.setOn_univ, View.set_slice_whole])) $$ [Hs]
  · iexact Hs
  iintro Hs
  rw [wp_ret]
  imodintro
  iapply Hk
  isplitl [Hss]; · iexact Hss
  isplitl [Hs]
  · iapply (stg_land I c ⟨n, hn⟩ f w (fun y => by rw [hw]; exact stg_pay (I c) ⟨n, hn⟩ _ y))
    iexact Hs
  iexact Hdone

/-- The own chunk copied to the own receive slot. -/
theorem cp_block (b : Fin 2) (o : Fin 3 → ℕ) (ho : o = ![(sl b c).val, 0, 0]) (pay : Vec F S1x32x768 .bf16 → FVec F S1x32x768 .bf16)
    (hpay : ∀ v, pay v = v) {hb hb' hb'' hl hl' hx hm} {α : Type}
    (Kp : Prog (TpuEff nD τ sig (Elt F) Λ₀ .tc) α) (Q : α → sProp 𝕄) :
    iprop(stgPt c (sl b c) (stg (I c)) ∗ rsRaw (F := F) c (sl b c))
      ⊢ iprop(((stgPt c (sl b c) (stg (I c)) ∗ rsPt c (sl b c) (rsV I c)) -∗ wp frame (wpE (defs₀ (F := F)) 𝒱₀ c none) Set.univ Kp Q)
        -∗ wp frame (wpE (defs₀ (F := F)) 𝒱₀ c none) Set.univ
          (Prog.lift (.load (Memref.whole cc0_scratch0) (Rect.unit (s := S16x32x768) o S1x32x768.size hb).toLoadRect hl) >>= fun v =>
           Prog.lift (.load (Memref.whole cc0_scratch2) (Rect.unit (s := S16x32x768) o S1x32x768.size hb').toLoadRect hl') >>= fun _ =>
           Prog.lift (.store (Memref.whole cc0_scratch2) (Rect.unit (s := S16x32x768) o S1x32x768.size hb'') (pay v) Finset.univ hx hm) >>= fun _ => Kp) Q) := by
  subst ho
  rw [wp_bind]
  iintro ⟨Hs, ⟨%f, Hd⟩⟩ Hk
  iapply (wp_load_rect 𝒱₀ (c : Thread nD τ) none Set.univ (m := Memref.whole cc0_scratch0) (r := slotR (sl b c)) (f := stg (I c))
    (S := (slotR (sl b c)).set) (by rw [View.set_slice_whole])) $$ [Hs]
  · iexact Hs
  iintro Hs
  rw [wp_ret]
  imodintro
  rw [wp_bind]
  iapply (wp_load_rect 𝒱₀ (c : Thread nD τ) none Set.univ (m := Memref.whole cc0_scratch2) (r := slotR (sl b c)) (f := f)
    (S := (slotR (sl b c)).set) (by rw [View.set_slice_whole])) $$ [Hd]
  · iexact Hd
  iintro Hd
  rw [wp_ret]
  imodintro
  rw [wp_bind, hpay]
  iapply (wp_store 𝒱₀ (c : Thread nD τ) none Set.univ (m := Memref.whole cc0_scratch2) (r := slotR (sl b c)) (f := f)
    (S := (slotR (sl b c)).set) (by rw [View.setOn_univ, View.set_slice_whole])) $$ [Hd]
  · iexact Hd
  iintro Hd
  rw [wp_ret]
  imodintro
  iapply Hk
  isplitl [Hs]; · iexact Hs
  iapply (rs_store_land I c (sl b c) f _ (fun y => rs_own I c (sl b c) (pk_sl b c) y))
  iexact Hd

/-- The load of a received chunk. -/
theorem lr_block (a e n : ℕ) (hn : n < 16) (hm : (⟨n, hn⟩ : Fin 16) ∈ iv a e) {hb hl} {α : Type}
    (Kp : Vec F S1x32x768 .bf16 → Prog (TpuEff nD τ sig (Elt F) Λ₀ .tc) α) (Q : α → sProp 𝕄) :
    bigSep (iv a e) (fun k => had1 I c k)
      ⊢ iprop((bigSep (iv a e) (fun k => had1 I c k) -∗ wp frame (wpE (defs₀ (F := F)) 𝒱₀ c none) Set.univ (Kp (slotV (rsV I c) ⟨n, hn⟩)) Q)
        -∗ wp frame (wpE (defs₀ (F := F)) 𝒱₀ c none) Set.univ
          (Prog.lift (.load (Memref.whole cc0_scratch2) (Rect.unit (s := S16x32x768) ![n, 0, 0] S1x32x768.size hb).toLoadRect hl) >>= Kp) Q) := by
  have e1 : (bigSep (iv a e) (fun k => had1 I c k) : sProp 𝕄) = iprop(had1 I c ⟨n, hn⟩ ∗ bigSep ((iv a e).erase ⟨n, hn⟩) (fun k => had1 I c k)) :=
    bigSep_erase hm
  rw [e1, wp_bind]
  unfold had1
  iintro ⟨⟨Hat, Hs⟩, Hrest⟩ Hk
  iapply (wp_load_rect 𝒱₀ (c : Thread nD τ) none Set.univ (m := Memref.whole cc0_scratch2) (r := slotR ⟨n, hn⟩) (f := rsV I c)
    (S := (slotR ⟨n, hn⟩).set) (by rw [View.set_slice_whole])) $$ [Hs]
  · iexact Hs
  iintro Hs
  rw [wp_ret]
  imodintro
  iapply Hk
  isplitr [Hrest]
  · isplitl [Hat] <;> iassumption
  iexact Hrest

/-- The store of a sum to its slot. -/
theorem sr_block (b : Fin 2) (n : ℕ) (hnb : n = b.val) (w : FVec F S1x32x768 .bf16) (hw : w = shapeCast S1x32x768 (redV I c b) (by decide))
    {hb hb' hl hx hm} {α : Type}
    (Kp : Prog (TpuEff nD τ sig (Elt F) Λ₀ .tc) α) (Q : α → sProp 𝕄) :
    iprop(∃ f : Vec F S2x32x768 .bf16, redPt c b fullShare f)
      ⊢ iprop((redPt c b fullShare (redB I c) -∗ wp frame (wpE (defs₀ (F := F)) 𝒱₀ c none) Set.univ Kp Q)
        -∗ wp frame (wpE (defs₀ (F := F)) 𝒱₀ c none) Set.univ
          (Prog.lift (.load (Memref.whole cc0_scratch1) (Rect.unit (s := S2x32x768) ![n, 0, 0] S1x32x768.size hb).toLoadRect hl) >>= fun _ =>
           Prog.lift (.store (Memref.whole cc0_scratch1) (Rect.unit (s := S2x32x768) ![n, 0, 0] S1x32x768.size hb') w Finset.univ hx hm) >>= fun _ => Kp) Q) := by
  subst hnb
  rw [wp_bind]
  iintro ⟨%f, Hs⟩ Hk
  iapply (wp_load_rect 𝒱₀ (c : Thread nD τ) none Set.univ (m := Memref.whole cc0_scratch1) (r := redR b) (f := f)
    (S := (redR b).set) (by rw [View.set_slice_whole])) $$ [Hs]
  · iexact Hs
  iintro Hs
  rw [wp_ret]
  imodintro
  rw [wp_bind]
  iapply (wp_store 𝒱₀ (c : Thread nD τ) none Set.univ (m := Memref.whole cc0_scratch1) (r := redR b) (f := f)
    (S := (redR b).set) (by rw [View.setOn_univ, View.set_slice_whole])) $$ [Hs]
  · iexact Hs
  iintro Hs
  rw [wp_ret]
  imodintro
  iapply Hk
  iapply (red_land I c b f w (fun y => by rw [hw]; exact red_pay I c b _ y))
  iexact Hs

/-- The store of the own sum to the own rows of the result. -/
theorem so_block (b : Fin 2) (o : Fin 2 → ℕ) (ho : o = ![32 * (sl b c).val, 0]) (w : FVec F S32x768 .bf16) (hw : w = redV I c b)
    {hb hb' hl hx hm} {α : Type}
    (Kp : Prog (TpuEff nD τ sig (Elt F) Λ₀ .tc) α) (Q : α → sProp 𝕄) :
    iprop(∃ f : Vec F S512x768 .bf16, outPt c (sl b c) f)
      ⊢ iprop((outPt c (sl b c) (outV I) -∗ wp frame (wpE (defs₀ (F := F)) 𝒱₀ c none) Set.univ Kp Q)
        -∗ wp frame (wpE (defs₀ (F := F)) 𝒱₀ c none) Set.univ
          (Prog.lift (.load (Memref.whole cc0_stg5_0) (Rect.unit (s := S512x768) o S32x768.size hb).toLoadRect hl) >>= fun _ =>
           Prog.lift (.store (Memref.whole cc0_stg5_0) (Rect.unit (s := S512x768) o S32x768.size hb') w Finset.univ hx hm) >>= fun _ => Kp) Q) := by
  subst ho
  rw [wp_bind]
  iintro ⟨%f, Hs⟩ Hk
  iapply (wp_load_rect 𝒱₀ (c : Thread nD τ) none Set.univ (m := Memref.whole cc0_stg5_0) (r := outR (sl b c)) (f := f)
    (S := (outR (sl b c)).set) (by rw [View.set_slice_whole])) $$ [Hs]
  · iexact Hs
  iintro Hs
  rw [wp_ret]
  imodintro
  rw [wp_bind]
  iapply (wp_store 𝒱₀ (c : Thread nD τ) none Set.univ (m := Memref.whole cc0_stg5_0) (r := outR (sl b c)) (f := f)
    (S := (outR (sl b c)).set) (by rw [View.setOn_univ, View.set_slice_whole])) $$ [Hs]
  · iexact Hs
  iintro Hs
  rw [wp_ret]
  imodintro
  iapply Hk
  iapply (own_land I c (sl b c) f w (fun y => by rw [hw]; exact out_own I c b y))
  iexact Hs

end Mem

end Cert.Mesh

end
-- ==== Proof.Fam.lean ====
/-
  How the families of slots are dealt out at the start of the kernel and taken back at its end.
-/
module

public import proofs.«01_k».proof.Proof.Blocks3

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg)
open Cert.KernelIdeal Cert.KernelIdeal.Gen
open Idealize.ShloMosaic.ValueIdx

variable {F : FTy → Type} [FloatOps F]

local notation "𝕄" => MT nD τ sig Unit (Elt F) ℕ UU ℕ

/-! ## Slots by device -/

section Gen

variable {M : Type} [URA M] (c : Dev nD)

/-- The slots of one batch. -/
abbrev half (b : Fin 2) : Finset (Fin 16) := iv (8 * b.val) (8 * b.val + 8)

theorem sl_mem : ∀ (b : Fin 2) (c : Dev nD), sl b c ∈ half b := by decide
theorem half_pk : ∀ (b : Fin 2) (c : Dev nD) (k : Fin 16), k ∈ (half b).erase (sl b c) → pk k ≠ c := by decide
theorem sl_inj (b : Fin 2) : Function.Injective (sl b) := fun p p' h => by
  have := congrArg pk h; rwa [pk_sl, pk_sl] at this
theorem half_map : ∀ b : Fin 2, half b = Finset.univ.map ⟨sl b, sl_inj b⟩ := by decide

theorem half_dev (b : Fin 2) (Φ : Fin 16 → sProp M) : bigSep (half b) Φ = bigSep Finset.univ fun p : Dev nD => Φ (sl b p) := by
  rw [half_map, bigSep_map]; rfl

theorem two_halves (Φ : Fin 16 → sProp M) : bigSep (iv 0 16) Φ = iprop(bigSep (iv 0 8) Φ ∗ bigSep (iv 8 16) Φ) :=
  iv_split Φ (by decide) (by decide)

theorem by_dev (Φ : Fin 16 → sProp M) : bigSep (iv 0 16) Φ = bigSep Finset.univ fun p : Dev nD => iprop(Φ (sl 0 p) ∗ Φ (sl 1 p)) := by
  rw [two_halves, bigSep_sep']
  exact congrArg₂ (fun a b : sProp M => iprop(a ∗ b)) (half_dev 0 Φ) (half_dev 1 Φ)

theorem swap4 (P Q R S : sProp M) : iprop((P ∗ Q) ∗ (R ∗ S)) ⊢ iprop((P ∗ R) ∗ (Q ∗ S)) := by
  iintro ⟨⟨a, c⟩, b, d⟩
  isplitl [a b]
  · isplitl [a] <;> iassumption
  isplitl [c] <;> iassumption

/-- A batch's slots, the own one told apart. -/
theorem half_own (b : Fin 2) (A B : Fin 16 → sProp M) :
    bigSep (half b) (fun k => if pk k = c then B k else A k)
      = iprop(B (sl b c) ∗ bigSep (half b) (fun k => if pk k = c then iprop(emp) else A k)) := by
  have e1 : bigSep (half b) (fun k => if pk k = c then B k else A k) = iprop(B (sl b c) ∗ bigSep ((half b).erase (sl b c)) A) := by
    rw [bigSep_erase (sl_mem b c), if_pos (pk_sl b c)]
    refine congrArg (fun X : sProp M => iprop(B (sl b c) ∗ X)) (bigSep_congr fun k hk => if_neg (half_pk b c k hk))
  have e2 : bigSep (half b) (fun k => if pk k = c then iprop(emp) else A k) = bigSep ((half b).erase (sl b c)) A := by
    rw [bigSep_erase (sl_mem b c), if_pos (pk_sl b c)]
    refine (equiv_iff.mp emp_sep).trans (bigSep_congr fun k hk => if_neg (half_pk b c k hk))
  rw [e1, e2]

theorem all_own (A B : Fin 16 → sProp M) :
    bigSep (iv 0 16) (fun k => if pk k = c then B k else A k)
      = iprop((B (sl 0 c) ∗ B (sl 1 c)) ∗ bigSep (iv 0 16) (fun k => if pk k = c then iprop(emp) else A k)) := by
  rw [two_halves, two_halves]
  have h0 := half_own c 0 A B
  have h1 := half_own c 1 A B
  refine (congrArg₂ (fun a b : sProp M => iprop(a ∗ b)) h0 h1).trans ?_
  exact Entails.antisymm (swap4 _ _ _ _) (swap4 _ _ _ _)

theorem all_own' (A : Fin 16 → sProp M) :
    bigSep (iv 0 16) A = iprop((A (sl 0 c) ∗ A (sl 1 c)) ∗ bigSep (iv 0 16) (fun k => if pk k = c then iprop(emp) else A k)) := by
  rw [← all_own c A A]
  exact bigSep_congr fun k _ => (ite_self _).symm

end Gen

/-! ## A buffer and its slots -/

section Split

variable (c : Dev nD)

theorem slot_mem (k : Fin 16) (i : S16x32x768.Idx) : i ∈ (slotR k).set ↔ i 0 = k := by
  rw [Rect.mem_set_unit]
  constructor
  · intro h
    have h0 := h 0
    have h1 : k.val ≤ (i 0).val := h0.1
    have h2 : (i 0).val < k.val + 1 := h0.2
    exact Fin.ext (by omega)
  · rintro rfl a
    fin_cases a
    · exact ⟨le_refl _, Nat.lt_succ_self _⟩
    · exact ⟨Nat.zero_le _, by show (i 1).val < 0 + 32; have : (i 1).val < 32 := (i 1).isLt; omega⟩
    · exact ⟨Nat.zero_le _, by show (i 2).val < 0 + 768; have : (i 2).val < 768 := (i 2).isLt; omega⟩

theorem red_mem (b : Fin 2) (i : S2x32x768.Idx) : i ∈ (redR b).set ↔ i 0 = b := by
  rw [Rect.mem_set_unit]
  constructor
  · intro h
    have h0 := h 0
    have h1 : b.val ≤ (i 0).val := h0.1
    have h2 : (i 0).val < b.val + 1 := h0.2
    exact Fin.ext (by omega)
  · rintro rfl a
    fin_cases a
    · exact ⟨le_refl _, Nat.lt_succ_self _⟩
    · exact ⟨Nat.zero_le _, by show (i 1).val < 0 + 32; have : (i 1).val < 32 := (i 1).isLt; omega⟩
    · exact ⟨Nat.zero_le _, by show (i 2).val < 0 + 768; have : (i 2).val < 768 := (i 2).isLt; omega⟩

theorem out_mem (k : Fin 16) (i : S512x768.Idx) : i ∈ (outR k).set ↔ rowSlot (i 0) = k := by
  have hi : (i 0).val < 512 := (i 0).isLt
  rw [Rect.mem_set_unit]
  constructor
  · intro h
    have h0 := h 0
    have h1 : 32 * k.val ≤ (i 0).val := h0.1
    have h2 : (i 0).val < 32 * k.val + 32 := h0.2
    exact Fin.ext (by show (i 0).val / 32 = k.val; omega)
  · intro h a
    have h' : (i 0).val / 32 = k.val := congrArg Fin.val h
    fin_cases a
    · exact ⟨by show 32 * k.val ≤ (i 0).val; omega, by show (i 0).val < 32 * k.val + 32; omega⟩
    · exact ⟨Nat.zero_le _, by show (i 1).val < 0 + 768; have : (i 1).val < 768 := (i 1).isLt; omega⟩

/-- Sets told apart by a function of the index cover and do not meet. -/
theorem cover_of {J T : Type} [Fintype J] [DecidableEq J] [Fintype T] [DecidableEq T] (S : T → Finset J) (g : J → T) (h : ∀ t i, i ∈ S t ↔ g i = t) :
    Finset.univ.biUnion S = Finset.univ :=
  Finset.eq_univ_iff_forall.mpr fun i => Finset.mem_biUnion.mpr ⟨g i, Finset.mem_univ _, (h _ i).mpr rfl⟩
theorem apart_of {J T : Type} [DecidableEq J] (S : T → Finset J) (g : J → T) (h : ∀ t i, i ∈ S t ↔ g i = t) (s : Finset T) :
    ∀ t ∈ s, ∀ t' ∈ s, t ≠ t' → Disjoint (S t) (S t') := fun t _ t' _ hne =>
  Finset.disjoint_left.mpr fun i hi hi' => hne (((h t i).mp hi).symm.trans ((h t' i).mp hi'))

theorem stg_split (f : Vec F S16x32x768 .bf16) :
    ((c : Thread nD τ).loc cc0_scratch0 ↦{fullShare} f : sProp 𝕄) = bigSep (iv 0 16) fun k => stgPt c k f := by
  rw [iv_all, ← pointsTo_biUnion _ _ (apart_of (fun k => (slotR k).set) (fun i => i 0) slot_mem _), cover_of (fun k => (slotR k).set) (fun i => i 0) slot_mem]
theorem rs_split (f : Vec F S16x32x768 .bf16) :
    ((c : Thread nD τ).loc cc0_scratch2 ↦{fullShare} f : sProp 𝕄) = bigSep (iv 0 16) fun k => rsPt c k f := by
  rw [iv_all, ← pointsTo_biUnion _ _ (apart_of (fun k => (slotR k).set) (fun i => i 0) slot_mem _), cover_of (fun k => (slotR k).set) (fun i => i 0) slot_mem]
theorem ag_split (f : Vec F S16x32x768 .bf16) :
    ((c : Thread nD τ).loc cc0_scratch3 ↦{fullShare} f : sProp 𝕄) = bigSep (iv 0 16) fun k => agPt c k f := by
  rw [iv_all, ← pointsTo_biUnion _ _ (apart_of (fun k => (slotR k).set) (fun i => i 0) slot_mem _), cover_of (fun k => (slotR k).set) (fun i => i 0) slot_mem]
theorem out_split (f : Vec F S512x768 .bf16) :
    ((c : Thread nD τ).loc cc0_stg5_0 ↦{fullShare} f : sProp 𝕄) = bigSep (iv 0 16) fun k => outPt c k f := by
  rw [iv_all, ← pointsTo_biUnion _ _ (apart_of (fun k => (outR k).set) (fun i => rowSlot (i 0)) out_mem _),
    cover_of (fun k => (outR k).set) (fun i => rowSlot (i 0)) out_mem]
theorem red_split (f : Vec F S2x32x768 .bf16) :
    ((c : Thread nD τ).loc cc0_scratch1 ↦{fullShare} f : sProp 𝕄) = iprop(redPt c 0 fullShare f ∗ redPt c 1 fullShare f) := by
  have h : ((c : Thread nD τ).loc cc0_scratch1 ↦{fullShare} f : sProp 𝕄) = bigSep Finset.univ fun b => redPt c b fullShare f := by
    rw [← pointsTo_biUnion _ _ (apart_of (fun b => (redR b).set) (fun i => i 0) red_mem _), cover_of (fun b => (redR b).set) (fun i => i 0) red_mem]
  rw [h]
  exact bigSep_fin_two _

/-- Slots held at contents not chosen are the buffer so held. -/
theorem ag_join (f₀ : Vec F S16x32x768 .bf16) :
    (bigSep (iv 0 16) (fun k => agRaw (F := F) c k) : sProp 𝕄) ⊢ iprop(∃ f : Vec F S16x32x768 .bf16, (c : Thread nD τ).loc cc0_scratch3 ↦{fullShare} f) := by
  have : Nonempty (Vec F S16x32x768 .bf16) := ⟨f₀⟩
  rw [iv_all]
  refine (Idealize.SL.BI.bigSep_exists_pi Finset.univ (fun k (f : Vec F S16x32x768 .bf16) => (agPt c k f : sProp 𝕄))).trans ?_
  iintro ⟨%fs, H⟩
  ihave H' := (pointsTo_biUnion_join (ℓ := (c : Thread nD τ).loc cc0_scratch3) (q := fullShare) Finset.univ (fun k => (slotR k).set) fs f₀
    (apart_of (fun k => (slotR k).set) (fun i => i 0) slot_mem _)) $$ H
  icases H' with ⟨%g, -, H⟩
  rw [cover_of (fun k => (slotR k).set) (fun i => i 0) slot_mem]
  iexists g
  iexact H

/-- A raw family from one content. -/
theorem raw_of {T : Type} (s : Finset (Fin 16)) (P : Fin 16 → T → sProp 𝕄) (f : T) :
    bigSep s (fun k => P k f) ⊢ bigSep s (fun k => iprop(∃ f, P k f)) :=
  bigSep_mono fun k _ => show P k f ⊢ iprop(∃ f, P k f) from by
    iintro H
    iexists f
    iexact H

end Split

/-! ## A sum and its eighths -/

section Dealt

variable (I : Dev nD → Inp F) (c : Dev nD)

theorem red_eighths (b : Fin 2) : (redPt c b fullShare (redB I c) : sProp 𝕄) = bigSep (half b) fun k => eighth I c k := by
  rw [half_dev]
  refine (ShareLeaves.pointsTo_leaves (ℓ := (c : Thread nD τ).loc cc0_scratch1) (redR b).set (redB I c) 3 fullShare).trans ?_
  refine bigSep_congr fun p _ => ?_
  unfold eighth leafQ
  rw [bt_sl, pk_sl]

/-! ## The barrier's payments -/

theorem own_sl : ∀ (c : Dev nD) (b : Fin 2) (p : Dev nD), own c (sl b p) = sl b c := by decide

/-- What the seven others hand over is where the copies go. -/
theorem dealt :
    (bigSep (Finset.univ.erase c) (fun p => barPay (F := F) c p) : sProp 𝕄)
      ⊢ iprop(bigSep (iv 0 16) (fun k => dst1 (F := F) c k) ∗ bigSep (iv 0 16) (fun k => dst3 (F := F) c k)) := by
  rw [← bigSep_sep', by_dev, bigSep_univ_at _ c]
  have h : (bigSep (Finset.univ.erase c) (fun p => barPay (F := F) c p) : sProp 𝕄)
      ⊢ bigSep (Finset.univ.erase c) (fun p => iprop((dst1 (F := F) c (sl 0 p) ∗ dst3 (F := F) c (sl 0 p)) ∗ dst1 (F := F) c (sl 1 p) ∗ dst3 (F := F) c (sl 1 p))) :=
    bigSep_mono fun p hp => show barPay (F := F) c p ⊢ iprop((dst1 (F := F) c (sl 0 p) ∗ dst3 (F := F) c (sl 0 p)) ∗ dst1 (F := F) c (sl 1 p) ∗ dst3 (F := F) c (sl 1 p)) from by
      have hne : p ≠ c := (Finset.mem_erase.mp hp).1
      unfold dst1 dst3 barPay grant
      rw [pk_sl, pk_sl, own_sl, own_sl, if_neg hne, if_neg hne, if_neg hne, if_neg hne]
      iintro ⟨⟨⟨a, b⟩, d, e⟩, ⟨a', b'⟩, d', e'⟩
      isplitl [a b d e]
      · isplitl [a d]
        · isplitl [a] <;> iassumption
        isplitl [b] <;> iassumption
      isplitl [a' d']
      · isplitl [a'] <;> iassumption
      isplitl [b'] <;> iassumption
  iintro H
  isplitr
  · unfold dst1 dst3
    rw [pk_sl, pk_sl, if_pos rfl, if_pos rfl, if_pos rfl, if_pos rfl]
    isplitl
    · isplitl <;> iempintro
    isplitl <;> iempintro
  iapply h
  iexact H

theorem fwd_inj (c : Dev nD) : Function.Injective (fwd c) := by revert c; decide
theorem fwd_map : ∀ c : Dev nD, (ov 1).map ⟨fwd c, fwd_inj c⟩ = Finset.univ.erase c := by decide

/-- The own slots, dealt to the devices they stand for. -/
theorem granted :
    iprop(bigSep (iv 0 16) (fun k => rsRaw (F := F) c k) ∗ bigSep (iv 0 16) (fun k => agRaw (F := F) c k)
        ∗ bigSep (iv 0 16) (fun k => reached ER (cell c 1 k) 0) ∗ bigSep (iv 0 16) (fun k => reached ER (cell c 3 k) 0))
      ⊢ (iprop(bigSep (ov 1) (fun o => barPay (F := F) (fwd c o) c) ∗ (rsRaw (F := F) c (sl 0 c) ∗ rsRaw (F := F) c (sl 1 c))
        ∗ (agRaw (F := F) c (sl 0 c) ∗ agRaw (F := F) c (sl 1 c))) : sProp 𝕄) := by
  have e : (bigSep (ov 1) (fun o => barPay (F := F) (fwd c o) c) : sProp 𝕄)
      = bigSep (Finset.univ.erase c) (fun p => iprop(grant (F := F) c p 0 ∗ grant (F := F) c p 1)) := by
    rw [← fwd_map c, bigSep_map]; rfl
  have h : (bigSep (iv 0 16) (fun k => iprop((rsRaw (F := F) c k ∗ agRaw (F := F) c k) ∗ reached ER (cell c 1 k) 0 ∗ reached ER (cell c 3 k) 0)) : sProp 𝕄)
      = iprop((grant (F := F) c c 0 ∗ grant (F := F) c c 1) ∗ bigSep (Finset.univ.erase c) (fun p => iprop(grant (F := F) c p 0 ∗ grant (F := F) c p 1))) := by
    rw [by_dev, bigSep_univ_at _ c]; rfl
  rw [e]
  iintro ⟨Ha, Hb, Hd, He⟩
  ihave H := (Entails.of_eq h) $$ [Ha Hb Hd He]
  · rw [bigSep_sep', bigSep_sep', bigSep_sep']
    isplitl [Ha Hb]
    · isplitl [Ha] <;> iassumption
    isplitl [Hd] <;> iassumption
  unfold grant
  icases H with ⟨⟨⟨⟨a, b⟩, -, -⟩, ⟨a', b'⟩, -, -⟩, H⟩
  isplitl [H]; · iexact H
  isplitl [a a']
  · isplitl [a] <;> iassumption
  isplitl [b] <;> iassumption

/-! ## Closing the cells -/

variable (K : GSem nD τ sig → ℕ)

theorem close_cell (q : Fin 4) (k : Fin 16) :
    iprop(invs I K ∗ atPos ER (cell c q k) (fin c k) ∅ 0) ⊢ (|={Set.univ}=> semVal (cell c q k) 0 : sProp 𝕄) := by
  have hd : ∀ r, fin c k ≤ r → (rd I).duties (cell c q k) r = ∅ := fun r hr => by
    by_cases h : pk k = c
    · exact duties_own I c q k h r
    · rw [fin_peer h] at hr; exact duties_later I _ r hr
  iintro ⟨#HI, H⟩
  iapply (Rounds.cell_close ER (rd I) (Set.mem_univ (K (cell c q k))) id hd)
  isplitr; · iapply (inv_cell I K c q k); iexact HI
  iexact H

theorem close_cells (q : Fin 4) :
    iprop(invs I K ∗ bigSep (iv 0 16) (fun k => atPos ER (cell c q k) (fin c k) ∅ 0))
      ⊢ (|={Set.univ}=> bigSep (iv 0 16) (fun k => semVal (cell c q k) 0) : sProp 𝕄) := by
  have h : iprop(invs I K ∗ bigSep (iv 0 16) (fun k => atPos ER (cell c q k) (fin c k) ∅ 0))
      ⊢ (bigSep (iv 0 16) (fun k => iprop(|={Set.univ}=> semVal (cell c q k) 0)) : sProp 𝕄) := by
    have h1 : iprop(invs I K ∗ bigSep (iv 0 16) (fun k => atPos ER (cell c q k) (fin c k) ∅ 0))
        ⊢ (bigSep (iv 0 16) (fun k => iprop(invs I K ∗ atPos ER (cell c q k) (fin c k) ∅ 0)) : sProp 𝕄) := by
      rw [bigSep_sep']
      iintro ⟨#HI, H⟩
      isplitr
      · iapply (bigSep_intro_persistent (R := invs I K) (S := iv 0 16) fun _ _ => Entails.refl _); iexact HI
      iexact H
    exact h1.trans (bigSep_mono fun k _ => close_cell I c K q k)
  exact h.trans (bigSep_fupd _ _)

theorem close_bar :
    iprop(invs I K ∗ atPos ER (bar c) 1 ∅ 0) ⊢ (|={Set.univ}=> semVal (bar c) 0 : sProp 𝕄) := by
  iintro ⟨#HI, H⟩
  iapply (Rounds.cell_close ER (rd I) (Set.mem_univ (K (bar c))) id (duties_later I (bar c)))
  isplitr; · iapply (inv_bar I K c); iexact HI
  iexact H

end Dealt

end Cert.Mesh

end
-- ==== Proof.Words.lean ====
/-
  The words the kernel computes of its own place: which guards hold, which slots the copies name.
-/
module

public import proofs.«01_k».proof.Proof.Fam

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The device's index as the kernel computes it. -/
abbrev wd (c : Dev nD) : BitVec 32 := Scalar.remsi (Scalar.divsi (Dev.word c) 1#32) 8#32

theorem at_k0_cond1 : ∀ c : Dev nD, k0_cond1 c = 1#1 ↔ pk ⟨0, by decide⟩ ≠ c := by decide
theorem at_k0_off1 : ∀ c : Dev nD, k0_off1 c = ![(own c ⟨0, by decide⟩).val] := by decide
theorem at_k0_off2 : ∀ c : Dev nD, k0_off2 c = ![(own c ⟨0, by decide⟩).val, 0, 0] := by decide
theorem at_k0_cond2 : ∀ c : Dev nD, k0_cond2 c = 1#1 ↔ pk ⟨1, by decide⟩ ≠ c := by decide
theorem at_k0_off3 : ∀ c : Dev nD, k0_off3 c = ![(own c ⟨1, by decide⟩).val] := by decide
theorem at_k0_off4 : ∀ c : Dev nD, k0_off4 c = ![(own c ⟨1, by decide⟩).val, 0, 0] := by decide
theorem at_k0_cond3 : ∀ c : Dev nD, k0_cond3 c = 1#1 ↔ pk ⟨2, by decide⟩ ≠ c := by decide
theorem at_k0_off5 : ∀ c : Dev nD, k0_off5 c = ![(own c ⟨2, by decide⟩).val] := by decide
theorem at_k0_off6 : ∀ c : Dev nD, k0_off6 c = ![(own c ⟨2, by decide⟩).val, 0, 0] := by decide
theorem at_k0_cond4 : ∀ c : Dev nD, k0_cond4 c = 1#1 ↔ pk ⟨3, by decide⟩ ≠ c := by decide
theorem at_k0_off7 : ∀ c : Dev nD, k0_off7 c = ![(own c ⟨3, by decide⟩).val] := by decide
theorem at_k0_off8 : ∀ c : Dev nD, k0_off8 c = ![(own c ⟨3, by decide⟩).val, 0, 0] := by decide
theorem at_k0_cond5 : ∀ c : Dev nD, k0_cond5 c = 1#1 ↔ pk ⟨4, by decide⟩ ≠ c := by decide
theorem at_k0_off9 : ∀ c : Dev nD, k0_off9 c = ![(own c ⟨4, by decide⟩).val] := by decide
theorem at_k0_off10 : ∀ c : Dev nD, k0_off10 c = ![(own c ⟨4, by decide⟩).val, 0, 0] := by decide
theorem at_k0_cond6 : ∀ c : Dev nD, k0_cond6 c = 1#1 ↔ pk ⟨5, by decide⟩ ≠ c := by decide
theorem at_k0_off11 : ∀ c : Dev nD, k0_off11 c = ![(own c ⟨5, by decide⟩).val] := by decide
theorem at_k0_off12 : ∀ c : Dev nD, k0_off12 c = ![(own c ⟨5, by decide⟩).val, 0, 0] := by decide
theorem at_k0_cond7 : ∀ c : Dev nD, k0_cond7 c = 1#1 ↔ pk ⟨6, by decide⟩ ≠ c := by decide
theorem at_k0_off13 : ∀ c : Dev nD, k0_off13 c = ![(own c ⟨6, by decide⟩).val] := by decide
theorem at_k0_off14 : ∀ c : Dev nD, k0_off14 c = ![(own c ⟨6, by decide⟩).val, 0, 0] := by decide
theorem at_k0_cond8 : ∀ c : Dev nD, k0_cond8 c = 1#1 ↔ pk ⟨7, by decide⟩ ≠ c := by decide
theorem at_k0_off15 : ∀ c : Dev nD, k0_off15 c = ![(own c ⟨7, by decide⟩).val] := by decide
theorem at_k0_off16 : ∀ c : Dev nD, k0_off16 c = ![(own c ⟨7, by decide⟩).val, 0, 0] := by decide
theorem at_k0_cond9 : ∀ c : Dev nD, k0_cond9 c = 1#1 ↔ pk ⟨8, by decide⟩ ≠ c := by decide
theorem at_k0_off17 : ∀ c : Dev nD, k0_off17 c = ![(own c ⟨8, by decide⟩).val] := by decide
theorem at_k0_off18 : ∀ c : Dev nD, k0_off18 c = ![(own c ⟨8, by decide⟩).val, 0, 0] := by decide
theorem at_k0_cond10 : ∀ c : Dev nD, k0_cond10 c = 1#1 ↔ pk ⟨9, by decide⟩ ≠ c := by decide
theorem at_k0_off19 : ∀ c : Dev nD, k0_off19 c = ![(own c ⟨9, by decide⟩).val] := by decide
theorem at_k0_off20 : ∀ c : Dev nD, k0_off20 c = ![(own c ⟨9, by decide⟩).val, 0, 0] := by decide
theorem at_k0_cond11 : ∀ c : Dev nD, k0_cond11 c = 1#1 ↔ pk ⟨10, by decide⟩ ≠ c := by decide
theorem at_k0_off21 : ∀ c : Dev nD, k0_off21 c = ![(own c ⟨10, by decide⟩).val] := by decide
theorem at_k0_off22 : ∀ c : Dev nD, k0_off22 c = ![(own c ⟨10, by decide⟩).val, 0, 0] := by decide
theorem at_k0_cond12 : ∀ c : Dev nD, k0_cond12 c = 1#1 ↔ pk ⟨11, by decide⟩ ≠ c := by decide
theorem at_k0_off23 : ∀ c : Dev nD, k0_off23 c = ![(own c ⟨11, by decide⟩).val] := by decide
theorem at_k0_off24 : ∀ c : Dev nD, k0_off24 c = ![(own c ⟨11, by decide⟩).val, 0, 0] := by decide
theorem at_k0_cond13 : ∀ c : Dev nD, k0_cond13 c = 1#1 ↔ pk ⟨12, by decide⟩ ≠ c := by decide
theorem at_k0_off25 : ∀ c : Dev nD, k0_off25 c = ![(own c ⟨12, by decide⟩).val] := by decide
theorem at_k0_off26 : ∀ c : Dev nD, k0_off26 c = ![(own c ⟨12, by decide⟩).val, 0, 0] := by decide
theorem at_k0_cond14 : ∀ c : Dev nD, k0_cond14 c = 1#1 ↔ pk ⟨13, by decide⟩ ≠ c := by decide
theorem at_k0_off27 : ∀ c : Dev nD, k0_off27 c = ![(own c ⟨13, by decide⟩).val] := by decide
theorem at_k0_off28 : ∀ c : Dev nD, k0_off28 c = ![(own c ⟨13, by decide⟩).val, 0, 0] := by decide
theorem at_k0_cond15 : ∀ c : Dev nD, k0_cond15 c = 1#1 ↔ pk ⟨14, by decide⟩ ≠ c := by decide
theorem at_k0_off29 : ∀ c : Dev nD, k0_off29 c = ![(own c ⟨14, by decide⟩).val] := by decide
theorem at_k0_off30 : ∀ c : Dev nD, k0_off30 c = ![(own c ⟨14, by decide⟩).val, 0, 0] := by decide
theorem at_k0_cond16 : ∀ c : Dev nD, k0_cond16 c = 1#1 ↔ pk ⟨15, by decide⟩ ≠ c := by decide
theorem at_k0_off31 : ∀ c : Dev nD, k0_off31 c = ![(own c ⟨15, by decide⟩).val] := by decide
theorem at_k0_off32 : ∀ c : Dev nD, k0_off32 c = ![(own c ⟨15, by decide⟩).val, 0, 0] := by decide
theorem at_k0_cond25 : ∀ c : Dev nD, k0_cond25 c = 1#1 ↔ pk ⟨0, by decide⟩ ≠ c := by decide
theorem at_k0_off34 : ∀ c : Dev nD, k0_off34 c = ![(own c ⟨0, by decide⟩).val] := by decide
theorem at_k0_off35 : ∀ c : Dev nD, k0_off35 c = ![(own c ⟨0, by decide⟩).val, 0, 0] := by decide
theorem at_k0_cond26 : ∀ c : Dev nD, k0_cond26 c = 1#1 ↔ pk ⟨1, by decide⟩ ≠ c := by decide
theorem at_k0_off36 : ∀ c : Dev nD, k0_off36 c = ![(own c ⟨1, by decide⟩).val] := by decide
theorem at_k0_off37 : ∀ c : Dev nD, k0_off37 c = ![(own c ⟨1, by decide⟩).val, 0, 0] := by decide
theorem at_k0_cond27 : ∀ c : Dev nD, k0_cond27 c = 1#1 ↔ pk ⟨2, by decide⟩ ≠ c := by decide
theorem at_k0_off38 : ∀ c : Dev nD, k0_off38 c = ![(own c ⟨2, by decide⟩).val] := by decide
theorem at_k0_off39 : ∀ c : Dev nD, k0_off39 c = ![(own c ⟨2, by decide⟩).val, 0, 0] := by decide
theorem at_k0_cond28 : ∀ c : Dev nD, k0_cond28 c = 1#1 ↔ pk ⟨3, by decide⟩ ≠ c := by decide
theorem at_k0_off40 : ∀ c : Dev nD, k0_off40 c = ![(own c ⟨3, by decide⟩).val] := by decide
theorem at_k0_off41 : ∀ c : Dev nD, k0_off41 c = ![(own c ⟨3, by decide⟩).val, 0, 0] := by decide
theorem at_k0_cond29 : ∀ c : Dev nD, k0_cond29 c = 1#1 ↔ pk ⟨4, by decide⟩ ≠ c := by decide
theorem at_k0_off42 : ∀ c : Dev nD, k0_off42 c = ![(own c ⟨4, by decide⟩).val] := by decide
theorem at_k0_off43 : ∀ c : Dev nD, k0_off43 c = ![(own c ⟨4, by decide⟩).val, 0, 0] := by decide
theorem at_k0_cond30 : ∀ c : Dev nD, k0_cond30 c = 1#1 ↔ pk ⟨5, by decide⟩ ≠ c := by decide
theorem at_k0_off44 : ∀ c : Dev nD, k0_off44 c = ![(own c ⟨5, by decide⟩).val] := by decide
theorem at_k0_off45 : ∀ c : Dev nD, k0_off45 c = ![(own c ⟨5, by decide⟩).val, 0, 0] := by decide
theorem at_k0_cond31 : ∀ c : Dev nD, k0_cond31 c = 1#1 ↔ pk ⟨6, by decide⟩ ≠ c := by decide
theorem at_k0_off46 : ∀ c : Dev nD, k0_off46 c = ![(own c ⟨6, by decide⟩).val] := by decide
theorem at_k0_off47 : ∀ c : Dev nD, k0_off47 c = ![(own c ⟨6, by decide⟩).val, 0, 0] := by decide
theorem at_k0_cond32 : ∀ c : Dev nD, k0_cond32 c = 1#1 ↔ pk ⟨7, by decide⟩ ≠ c := by decide
theorem at_k0_off48 : ∀ c : Dev nD, k0_off48 c = ![(own c ⟨7, by decide⟩).val] := by decide
theorem at_k0_off49 : ∀ c : Dev nD, k0_off49 c = ![(own c ⟨7, by decide⟩).val, 0, 0] := by decide
theorem at_k0_cond41 : ∀ c : Dev nD, k0_cond41 c = 1#1 ↔ pk ⟨8, by decide⟩ ≠ c := by decide
theorem at_k0_off51 : ∀ c : Dev nD, k0_off51 c = ![(own c ⟨8, by decide⟩).val] := by decide
theorem at_k0_off52 : ∀ c : Dev nD, k0_off52 c = ![(own c ⟨8, by decide⟩).val, 0, 0] := by decide
theorem at_k0_cond42 : ∀ c : Dev nD, k0_cond42 c = 1#1 ↔ pk ⟨9, by decide⟩ ≠ c := by decide
theorem at_k0_off53 : ∀ c : Dev nD, k0_off53 c = ![(own c ⟨9, by decide⟩).val] := by decide
theorem at_k0_off54 : ∀ c : Dev nD, k0_off54 c = ![(own c ⟨9, by decide⟩).val, 0, 0] := by decide
theorem at_k0_cond43 : ∀ c : Dev nD, k0_cond43 c = 1#1 ↔ pk ⟨10, by decide⟩ ≠ c := by decide
theorem at_k0_off55 : ∀ c : Dev nD, k0_off55 c = ![(own c ⟨10, by decide⟩).val] := by decide
theorem at_k0_off56 : ∀ c : Dev nD, k0_off56 c = ![(own c ⟨10, by decide⟩).val, 0, 0] := by decide
theorem at_k0_cond44 : ∀ c : Dev nD, k0_cond44 c = 1#1 ↔ pk ⟨11, by decide⟩ ≠ c := by decide
theorem at_k0_off57 : ∀ c : Dev nD, k0_off57 c = ![(own c ⟨11, by decide⟩).val] := by decide
theorem at_k0_off58 : ∀ c : Dev nD, k0_off58 c = ![(own c ⟨11, by decide⟩).val, 0, 0] := by decide
theorem at_k0_cond45 : ∀ c : Dev nD, k0_cond45 c = 1#1 ↔ pk ⟨12, by decide⟩ ≠ c := by decide
theorem at_k0_off59 : ∀ c : Dev nD, k0_off59 c = ![(own c ⟨12, by decide⟩).val] := by decide
theorem at_k0_off60 : ∀ c : Dev nD, k0_off60 c = ![(own c ⟨12, by decide⟩).val, 0, 0] := by decide
theorem at_k0_cond46 : ∀ c : Dev nD, k0_cond46 c = 1#1 ↔ pk ⟨13, by decide⟩ ≠ c := by decide
theorem at_k0_off61 : ∀ c : Dev nD, k0_off61 c = ![(own c ⟨13, by decide⟩).val] := by decide
theorem at_k0_off62 : ∀ c : Dev nD, k0_off62 c = ![(own c ⟨13, by decide⟩).val, 0, 0] := by decide
theorem at_k0_cond47 : ∀ c : Dev nD, k0_cond47 c = 1#1 ↔ pk ⟨14, by decide⟩ ≠ c := by decide
theorem at_k0_off63 : ∀ c : Dev nD, k0_off63 c = ![(own c ⟨14, by decide⟩).val] := by decide
theorem at_k0_off64 : ∀ c : Dev nD, k0_off64 c = ![(own c ⟨14, by decide⟩).val, 0, 0] := by decide
theorem at_k0_cond48 : ∀ c : Dev nD, k0_cond48 c = 1#1 ↔ pk ⟨15, by decide⟩ ≠ c := by decide
theorem at_k0_off65 : ∀ c : Dev nD, k0_off65 c = ![(own c ⟨15, by decide⟩).val] := by decide
theorem at_k0_off66 : ∀ c : Dev nD, k0_off66 c = ![(own c ⟨15, by decide⟩).val, 0, 0] := by decide
theorem at_slot_0 : ∀ c : Dev nD, k0_off33 c 0#32 = ![(sl 0 c).val, 0, 0] := by decide
theorem at_slot_1 : ∀ c : Dev nD, k0_off33 c 8#32 = ![(sl 1 c).val, 0, 0] := by decide
theorem at_rows_0 : ∀ c : Dev nD, k0_off50 c 0#32 = ![32 * (sl 0 c).val, 0] := by decide
theorem at_rows_1 : ∀ c : Dev nD, k0_off50 c 256#32 = ![32 * (sl 1 c).val, 0] := by decide
theorem at_dev1 : ∀ c : Dev nD, k0_dev1 c = (fwd c ⟨1, by decide⟩).val := by decide
theorem at_dev2 : ∀ c : Dev nD, k0_dev2 c = (fwd c ⟨2, by decide⟩).val := by decide
theorem at_dev3 : ∀ c : Dev nD, k0_dev3 c = (fwd c ⟨3, by decide⟩).val := by decide
theorem at_dev4 : ∀ c : Dev nD, k0_dev4 c = (fwd c ⟨4, by decide⟩).val := by decide
theorem at_dev5 : ∀ c : Dev nD, k0_dev5 c = (fwd c ⟨5, by decide⟩).val := by decide
theorem at_dev6 : ∀ c : Dev nD, k0_dev6 c = (fwd c ⟨6, by decide⟩).val := by decide
theorem at_dev7 : ∀ c : Dev nD, k0_dev7 c = (fwd c ⟨7, by decide⟩).val := by decide
theorem guard_0 : ∀ c : Dev nD, Scalar.cmpi .ne (Scalar.extui (Scalar.cmpi .ne (wd c) 0#32) : BitVec 32) 0#32 = 1#1 ↔ pk ⟨0, by decide⟩ ≠ c := by decide
theorem guard_1 : ∀ c : Dev nD, Scalar.cmpi .ne (Scalar.extui (Scalar.cmpi .ne (wd c) 1#32) : BitVec 32) 0#32 = 1#1 ↔ pk ⟨1, by decide⟩ ≠ c := by decide
theorem guard_2 : ∀ c : Dev nD, Scalar.cmpi .ne (Scalar.extui (Scalar.cmpi .ne (wd c) 2#32) : BitVec 32) 0#32 = 1#1 ↔ pk ⟨2, by decide⟩ ≠ c := by decide
theorem guard_3 : ∀ c : Dev nD, Scalar.cmpi .ne (Scalar.extui (Scalar.cmpi .ne (wd c) 3#32) : BitVec 32) 0#32 = 1#1 ↔ pk ⟨3, by decide⟩ ≠ c := by decide
theorem guard_4 : ∀ c : Dev nD, Scalar.cmpi .ne (Scalar.extui (Scalar.cmpi .ne (wd c) 4#32) : BitVec 32) 0#32 = 1#1 ↔ pk ⟨4, by decide⟩ ≠ c := by decide
theorem guard_5 : ∀ c : Dev nD, Scalar.cmpi .ne (Scalar.extui (Scalar.cmpi .ne (wd c) 5#32) : BitVec 32) 0#32 = 1#1 ↔ pk ⟨5, by decide⟩ ≠ c := by decide
theorem guard_6 : ∀ c : Dev nD, Scalar.cmpi .ne (Scalar.extui (Scalar.cmpi .ne (wd c) 6#32) : BitVec 32) 0#32 = 1#1 ↔ pk ⟨6, by decide⟩ ≠ c := by decide
theorem guard_7 : ∀ c : Dev nD, Scalar.cmpi .ne (Scalar.extui (Scalar.cmpi .ne (wd c) 7#32) : BitVec 32) 0#32 = 1#1 ↔ pk ⟨7, by decide⟩ ≠ c := by decide
theorem guard_8 : ∀ c : Dev nD, Scalar.cmpi .ne (Scalar.extui (Scalar.cmpi .ne (wd c) 0#32) : BitVec 32) 0#32 = 1#1 ↔ pk ⟨8, by decide⟩ ≠ c := by decide
theorem guard_9 : ∀ c : Dev nD, Scalar.cmpi .ne (Scalar.extui (Scalar.cmpi .ne (wd c) 1#32) : BitVec 32) 0#32 = 1#1 ↔ pk ⟨9, by decide⟩ ≠ c := by decide
theorem guard_10 : ∀ c : Dev nD, Scalar.cmpi .ne (Scalar.extui (Scalar.cmpi .ne (wd c) 2#32) : BitVec 32) 0#32 = 1#1 ↔ pk ⟨10, by decide⟩ ≠ c := by decide
theorem guard_11 : ∀ c : Dev nD, Scalar.cmpi .ne (Scalar.extui (Scalar.cmpi .ne (wd c) 3#32) : BitVec 32) 0#32 = 1#1 ↔ pk ⟨11, by decide⟩ ≠ c := by decide
theorem guard_12 : ∀ c : Dev nD, Scalar.cmpi .ne (Scalar.extui (Scalar.cmpi .ne (wd c) 4#32) : BitVec 32) 0#32 = 1#1 ↔ pk ⟨12, by decide⟩ ≠ c := by decide
theorem guard_13 : ∀ c : Dev nD, Scalar.cmpi .ne (Scalar.extui (Scalar.cmpi .ne (wd c) 5#32) : BitVec 32) 0#32 = 1#1 ↔ pk ⟨13, by decide⟩ ≠ c := by decide
theorem guard_14 : ∀ c : Dev nD, Scalar.cmpi .ne (Scalar.extui (Scalar.cmpi .ne (wd c) 6#32) : BitVec 32) 0#32 = 1#1 ↔ pk ⟨14, by decide⟩ ≠ c := by decide
theorem guard_15 : ∀ c : Dev nD, Scalar.cmpi .ne (Scalar.extui (Scalar.cmpi .ne (wd c) 7#32) : BitVec 32) 0#32 = 1#1 ↔ pk ⟨15, by decide⟩ ≠ c := by decide

end Cert.Mesh

end
-- ==== Proof.Loads.lean ====
/-
  Loads of the operands.
-/
module

public import proofs.«01_k».proof.Proof.Words

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The five operands, held whole. -/
def ins (I : Dev nD → Inp F) (c : Dev nD) : sProp 𝕄 :=
  iprop(((c : Thread nD τ).loc cc0_stg0_0 ↦{fullShare} (I c).x) ∗ ((c : Thread nD τ).loc cc0_stg1_0 ↦{fullShare} (I c).wq)
    ∗ ((c : Thread nD τ).loc cc0_stg2_0 ↦{fullShare} (I c).wo) ∗ ((c : Thread nD τ).loc cc0_stg3_0 ↦{fullShare} (I c).k)
    ∗ ((c : Thread nD τ).loc cc0_stg4_0 ↦{fullShare} (I c).v))

section Loads

variable (I : Dev nD → Inp F) (c : Dev nD)

theorem ld_wq {hb hl} {α : Type} (Kp : Vec F S768x512 .bf16 → Prog (TpuEff nD τ sig (Elt F) Λ₀ .tc) α) (Q : α → sProp 𝕄) :
    ins I c ⊢ iprop((ins I c -∗ wp frame (wpE (defs₀ (F := F)) 𝒱₀ c none) Set.univ (Kp ((I c).wq)) Q)
      -∗ wp frame (wpE (defs₀ (F := F)) 𝒱₀ c none) Set.univ
        (Prog.lift (.load (Memref.whole cc0_stg1_0) (Rect.unit (s := S768x512) ![0, 0] S768x512.size hb).toLoadRect hl) >>= Kp) Q) := by
  have hv : ((Memref.whole cc0_stg1_0).access (Rect.unit (s := S768x512) ![0, 0] S768x512.size hb)).read (Elt F) (I c).wq = (I c).wq := View.ld_unit_zero (Val := Elt F) (e := .bf16) (funext fun a => by fin_cases a <;> rfl) hb (I c).wq
  unfold ins
  iintro ⟨H0, H1, H2, H3, H4⟩ Hk
  iapply (ld_in c (Memref.whole cc0_stg1_0) (Rect.unit (s := S768x512) ![0, 0] S768x512.size hb) (I c).wq Kp Q) $$ [H1]
  · iexact H1
  iintro H1
  rw [hv]
  iapply Hk
  isplitl [H0]; · iexact H0
  isplitl [H1]; · iexact H1
  isplitl [H2]; · iexact H2
  isplitl [H3]; · iexact H3
  iexact H4

theorem ld_wo {hb hl} {α : Type} (Kp : Vec F S512x768 .bf16 → Prog (TpuEff nD τ sig (Elt F) Λ₀ .tc) α) (Q : α → sProp 𝕄) :
    ins I c ⊢ iprop((ins I c -∗ wp frame (wpE (defs₀ (F := F)) 𝒱₀ c none) Set.univ (Kp ((I c).wo)) Q)
      -∗ wp frame (wpE (defs₀ (F := F)) 𝒱₀ c none) Set.univ
        (Prog.lift (.load (Memref.whole cc0_stg2_0) (Rect.unit (s := S512x768) ![0, 0] S512x768.size hb).toLoadRect hl) >>= Kp) Q) := by
  have hv : ((Memref.whole cc0_stg2_0).access (Rect.unit (s := S512x768) ![0, 0] S512x768.size hb)).read (Elt F) (I c).wo = (I c).wo := View.ld_unit_zero (Val := Elt F) (e := .bf16) (funext fun a => by fin_cases a <;> rfl) hb (I c).wo
  unfold ins
  iintro ⟨H0, H1, H2, H3, H4⟩ Hk
  iapply (ld_in c (Memref.whole cc0_stg2_0) (Rect.unit (s := S512x768) ![0, 0] S512x768.size hb) (I c).wo Kp Q) $$ [H2]
  · iexact H2
  iintro H2
  rw [hv]
  iapply Hk
  isplitl [H0]; · iexact H0
  isplitl [H1]; · iexact H1
  isplitl [H2]; · iexact H2
  isplitl [H3]; · iexact H3
  iexact H4

theorem ld_x (b : Fin 2) (r : ℕ) (hr : r = 256 * b.val) {hb hl} {α : Type} (Kp : Vec F S256x768 .bf16 → Prog (TpuEff nD τ sig (Elt F) Λ₀ .tc) α) (Q : α → sProp 𝕄) :
    ins I c ⊢ iprop((ins I c -∗ wp frame (wpE (defs₀ (F := F)) 𝒱₀ c none) Set.univ (Kp (xB (I c) b)) Q)
      -∗ wp frame (wpE (defs₀ (F := F)) 𝒱₀ c none) Set.univ
        (Prog.lift (.load (Memref.whole cc0_stg0_0) (Rect.unit (s := S512x768) ![r, 0] S256x768.size hb).toLoadRect hl) >>= Kp) Q) := by
  subst hr
  have hv : ((Memref.whole cc0_stg0_0).access (Rect.unit (s := S512x768) ![256 * b.val, 0] S256x768.size hb)).read (Elt F) (I c).x = xB (I c) b := rfl
  unfold ins
  iintro ⟨H0, H1, H2, H3, H4⟩ Hk
  iapply (ld_in c (Memref.whole cc0_stg0_0) (Rect.unit (s := S512x768) ![256 * b.val, 0] S256x768.size hb) (I c).x Kp Q) $$ [H0]
  · iexact H0
  iintro H0
  rw [hv]
  iapply Hk
  isplitl [H0]; · iexact H0
  isplitl [H1]; · iexact H1
  isplitl [H2]; · iexact H2
  isplitl [H3]; · iexact H3
  iexact H4

theorem ld_k (b g : Fin 2) (r s : ℕ) (hr : r = b.val) (hs : s = 64 * g.val) {hb hl} {α : Type} (Kp : Vec F S1x512x64 .bf16 → Prog (TpuEff nD τ sig (Elt F) Λ₀ .tc) α) (Q : α → sProp 𝕄) :
    ins I c ⊢ iprop((ins I c -∗ wp frame (wpE (defs₀ (F := F)) 𝒱₀ c none) Set.univ (Kp (kB (I c) b g)) Q)
      -∗ wp frame (wpE (defs₀ (F := F)) 𝒱₀ c none) Set.univ
        (Prog.lift (.load (Memref.whole cc0_stg3_0) (Rect.unit (s := S2x512x128) ![r, 0, s] S1x512x64.size hb).toLoadRect hl) >>= Kp) Q) := by
  subst hr hs
  have hv : ((Memref.whole cc0_stg3_0).access (Rect.unit (s := S2x512x128) ![b.val, 0, 64 * g.val] S1x512x64.size hb)).read (Elt F) (I c).k = kB (I c) b g := rfl
  unfold ins
  iintro ⟨H0, H1, H2, H3, H4⟩ Hk
  iapply (ld_in c (Memref.whole cc0_stg3_0) (Rect.unit (s := S2x512x128) ![b.val, 0, 64 * g.val] S1x512x64.size hb) (I c).k Kp Q) $$ [H3]
  · iexact H3
  iintro H3
  rw [hv]
  iapply Hk
  isplitl [H0]; · iexact H0
  isplitl [H1]; · iexact H1
  isplitl [H2]; · iexact H2
  isplitl [H3]; · iexact H3
  iexact H4

theorem ld_v (b g : Fin 2) (r s : ℕ) (hr : r = b.val) (hs : s = 64 * g.val) {hb hl} {α : Type} (Kp : Vec F S1x512x64 .bf16 → Prog (TpuEff nD τ sig (Elt F) Λ₀ .tc) α) (Q : α → sProp 𝕄) :
    ins I c ⊢ iprop((ins I c -∗ wp frame (wpE (defs₀ (F := F)) 𝒱₀ c none) Set.univ (Kp (vB (I c) b g)) Q)
      -∗ wp frame (wpE (defs₀ (F := F)) 𝒱₀ c none) Set.univ
        (Prog.lift (.load (Memref.whole cc0_stg4_0) (Rect.unit (s := S2x512x128) ![r, 0, s] S1x512x64.size hb).toLoadRect hl) >>= Kp) Q) := by
  subst hr hs
  have hv : ((Memref.whole cc0_stg4_0).access (Rect.unit (s := S2x512x128) ![b.val, 0, 64 * g.val] S1x512x64.size hb)).read (Elt F) (I c).v = vB (I c) b g := rfl
  unfold ins
  iintro ⟨H0, H1, H2, H3, H4⟩ Hk
  iapply (ld_in c (Memref.whole cc0_stg4_0) (Rect.unit (s := S2x512x128) ![b.val, 0, 64 * g.val] S1x512x64.size hb) (I c).v Kp Q) $$ [H4]
  · iexact H4
  iintro H4
  rw [hv]
  iapply Hk
  isplitl [H0]; · iexact H0
  isplitl [H1]; · iexact H1
  isplitl [H2]; · iexact H2
  isplitl [H3]; · iexact H3
  iexact H4

end Loads

end Cert.Mesh

end
-- ==== Proof.Body1.lean ====
/-
  The first half of the body: the signals, the first batch, its copies, the second batch.
-/
module

public import proofs.«01_k».proof.Proof.Loads

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → Inp F) (K : GSem nD τ sig → ℕ) (c : Dev nD)

/-- The operands of one device's products, under short names. -/
abbrev p33 : FVec F S768x512 .bf16 := k0_pay1 (I c).wq
abbrev p35 : FVec F S512x768 .bf16 := k0_pay2 (I c).wo
abbrev p39 : FVec F S256x512 .bf16 := k0_pay3 (I c).wq (xB (I c) 0)
abbrev p56 : FVec F S1024x64 .f32 := k0_pay5 (I c).wq (xB (I c) 0) (kB (I c) 0 0) (vB (I c) 0 0)
abbrev p57 : FVec F S1024x64 .f32 := k0_pay6 (I c).wq (xB (I c) 0) (kB (I c) 0 0)
abbrev p156 : FVec F S256x512 .bf16 := k0_pay16 (p33 I c) (xB (I c) 1)
abbrev p161 : FVec F S1024x64 .bf16 := k0_pay17 (p33 I c) (xB (I c) 1)
abbrev p204 : FVec F S256x512 .bf16 := k0_pay18 (p156 I c) (p161 I c) (kB (I c) 1 0) (vB (I c) 1 0) (kB (I c) 1 1) (vB (I c) 1 1)

theorem p88 : k0_pay7 (p35 I c) (p39 I c) (p56 I c) (p57 I c) (kB (I c) 0 1) (vB (I c) 0 1) = att (I c) 0 := rfl
theorem p205 : k0_pay19 (p35 I c) (p204 I c) = att (I c) 1 := rfl

theorem chunk_at (n : ℕ) (hn : n < 16) (b : Fin 2) (j : Dev nD) (hb : bt ⟨n, hn⟩ = b) (hj : pk ⟨n, hn⟩ = j) :
    shapeCast S1x32x768 (chunk (att (I c) b) j) (by decide) = shapeCast S1x32x768 (chunk (att (I c) (bt ⟨n, hn⟩)) (pk ⟨n, hn⟩)) (by decide) := by
  subst hb hj; rfl

theorem chunk_0 : k0_pay8 (p35 I c) (p39 I c) (p56 I c) (p57 I c) (kB (I c) 0 1) (vB (I c) 0 1)
    = shapeCast S1x32x768 (chunk (att (I c) (bt ⟨0, by decide⟩)) (pk ⟨0, by decide⟩)) (by decide) :=
  (show _ = shapeCast S1x32x768 (chunk (att (I c) 0) 0) (by decide) from rfl).trans (chunk_at I c 0 (by decide) 0 0 rfl rfl)
theorem chunk_1 : k0_pay9 (p35 I c) (p39 I c) (p56 I c) (p57 I c) (kB (I c) 0 1) (vB (I c) 0 1)
    = shapeCast S1x32x768 (chunk (att (I c) (bt ⟨1, by decide⟩)) (pk ⟨1, by decide⟩)) (by decide) :=
  (show _ = shapeCast S1x32x768 (chunk (att (I c) 0) 1) (by decide) from rfl).trans (chunk_at I c 1 (by decide) 0 1 rfl rfl)
theorem chunk_2 : k0_pay10 (att (I c) 0)
    = shapeCast S1x32x768 (chunk (att (I c) (bt ⟨2, by decide⟩)) (pk ⟨2, by decide⟩)) (by decide) :=
  (show _ = shapeCast S1x32x768 (chunk (att (I c) 0) 2) (by decide) from rfl).trans (chunk_at I c 2 (by decide) 0 2 rfl rfl)
theorem chunk_3 : k0_pay11 (att (I c) 0)
    = shapeCast S1x32x768 (chunk (att (I c) (bt ⟨3, by decide⟩)) (pk ⟨3, by decide⟩)) (by decide) :=
  (show _ = shapeCast S1x32x768 (chunk (att (I c) 0) 3) (by decide) from rfl).trans (chunk_at I c 3 (by decide) 0 3 rfl rfl)
theorem chunk_4 : k0_pay12 (att (I c) 0)
    = shapeCast S1x32x768 (chunk (att (I c) (bt ⟨4, by decide⟩)) (pk ⟨4, by decide⟩)) (by decide) :=
  (show _ = shapeCast S1x32x768 (chunk (att (I c) 0) 4) (by decide) from rfl).trans (chunk_at I c 4 (by decide) 0 4 rfl rfl)
theorem chunk_5 : k0_pay13 (att (I c) 0)
    = shapeCast S1x32x768 (chunk (att (I c) (bt ⟨5, by decide⟩)) (pk ⟨5, by decide⟩)) (by decide) :=
  (show _ = shapeCast S1x32x768 (chunk (att (I c) 0) 5) (by decide) from rfl).trans (chunk_at I c 5 (by decide) 0 5 rfl rfl)
theorem chunk_6 : k0_pay14 (att (I c) 0)
    = shapeCast S1x32x768 (chunk (att (I c) (bt ⟨6, by decide⟩)) (pk ⟨6, by decide⟩)) (by decide) :=
  (show _ = shapeCast S1x32x768 (chunk (att (I c) 0) 6) (by decide) from rfl).trans (chunk_at I c 6 (by decide) 0 6 rfl rfl)
theorem chunk_7 : k0_pay15 (att (I c) 0)
    = shapeCast S1x32x768 (chunk (att (I c) (bt ⟨7, by decide⟩)) (pk ⟨7, by decide⟩)) (by decide) :=
  (show _ = shapeCast S1x32x768 (chunk (att (I c) 0) 7) (by decide) from rfl).trans (chunk_at I c 7 (by decide) 0 7 rfl rfl)
theorem chunk_8 : k0_pay20 (p35 I c) (p204 I c)
    = shapeCast S1x32x768 (chunk (att (I c) (bt ⟨8, by decide⟩)) (pk ⟨8, by decide⟩)) (by decide) :=
  (show _ = shapeCast S1x32x768 (chunk (att (I c) 1) 0) (by decide) from rfl).trans (chunk_at I c 8 (by decide) 1 0 rfl rfl)
theorem chunk_9 : k0_pay21 (p35 I c) (p204 I c)
    = shapeCast S1x32x768 (chunk (att (I c) (bt ⟨9, by decide⟩)) (pk ⟨9, by decide⟩)) (by decide) :=
  (show _ = shapeCast S1x32x768 (chunk (att (I c) 1) 1) (by decide) from rfl).trans (chunk_at I c 9 (by decide) 1 1 rfl rfl)
theorem chunk_10 : k0_pay22 (p35 I c) (p204 I c)
    = shapeCast S1x32x768 (chunk (att (I c) (bt ⟨10, by decide⟩)) (pk ⟨10, by decide⟩)) (by decide) :=
  (show _ = shapeCast S1x32x768 (chunk (att (I c) 1) 2) (by decide) from rfl).trans (chunk_at I c 10 (by decide) 1 2 rfl rfl)
theorem chunk_11 : k0_pay23 (p35 I c) (p204 I c)
    = shapeCast S1x32x768 (chunk (att (I c) (bt ⟨11, by decide⟩)) (pk ⟨11, by decide⟩)) (by decide) :=
  (show _ = shapeCast S1x32x768 (chunk (att (I c) 1) 3) (by decide) from rfl).trans (chunk_at I c 11 (by decide) 1 3 rfl rfl)
theorem chunk_12 : k0_pay24 (p35 I c) (p204 I c)
    = shapeCast S1x32x768 (chunk (att (I c) (bt ⟨12, by decide⟩)) (pk ⟨12, by decide⟩)) (by decide) :=
  (show _ = shapeCast S1x32x768 (chunk (att (I c) 1) 4) (by decide) from rfl).trans (chunk_at I c 12 (by decide) 1 4 rfl rfl)
theorem chunk_13 : k0_pay25 (p35 I c) (p204 I c)
    = shapeCast S1x32x768 (chunk (att (I c) (bt ⟨13, by decide⟩)) (pk ⟨13, by decide⟩)) (by decide) :=
  (show _ = shapeCast S1x32x768 (chunk (att (I c) 1) 5) (by decide) from rfl).trans (chunk_at I c 13 (by decide) 1 5 rfl rfl)
theorem chunk_14 : k0_pay27 (k0_pay26 (p35 I c) (p204 I c))
    = shapeCast S1x32x768 (chunk (att (I c) (bt ⟨14, by decide⟩)) (pk ⟨14, by decide⟩)) (by decide) :=
  (show _ = shapeCast S1x32x768 (chunk (att (I c) 1) 6) (by decide) from rfl).trans (chunk_at I c 14 (by decide) 1 6 rfl rfl)
theorem chunk_15 : k0_pay28 (att (I c) 1)
    = shapeCast S1x32x768 (chunk (att (I c) (bt ⟨15, by decide⟩)) (pk ⟨15, by decide⟩)) (by decide) :=
  (show _ = shapeCast S1x32x768 (chunk (att (I c) 1) 7) (by decide) from rfl).trans (chunk_at I c 15 (by decide) 1 7 rfl rfl)

/-- The first five signals. -/
theorem part1 (Q) :
    iprop(invs I K ∗ sgS (F := F) c (dues 3 c 0 + dues 1 c 0) 1)
      ⊢ iprop((sgS (F := F) c (dues 3 c 0 + dues 1 c 0) 6 -∗ Q ⟨c, wd c, barM, Scalar.addi (wd c) 6#32, 8#32⟩) -∗ wp frame (wpE (defs₀ (F := F)) 𝒱₀ c none) Set.univ
        (k0_part1_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  unfold k0_part1_skel
  rw [wp_bind, show (Prog.lift .deviceId : Prog (TpuEff nD τ sig (Elt F) Λ₀ .tc) (Dev nD)) = .op .deviceId .ret from rfl, wp_deviceId, wp_ret]
  iintro ⟨#HI, HS⟩ Hk
  imodintro
  iapply (sg_block I K c (dues 3 c 0 + dues 1 c 0) 1 (by decide) (by decide) (k0_dev1 c) (at_dev1 c)) $$ [HS]
  · isplitr; · iexact HI
    iexact HS
  iintro HS
  iapply (sg_block I K c (dues 3 c 0 + dues 1 c 0) 2 (by decide) (by decide) (k0_dev2 c) (at_dev2 c)) $$ [HS]
  · isplitr; · iexact HI
    iexact HS
  iintro HS
  iapply (sg_block I K c (dues 3 c 0 + dues 1 c 0) 3 (by decide) (by decide) (k0_dev3 c) (at_dev3 c)) $$ [HS]
  · isplitr; · iexact HI
    iexact HS
  iintro HS
  iapply (sg_block I K c (dues 3 c 0 + dues 1 c 0) 4 (by decide) (by decide) (k0_dev4 c) (at_dev4 c)) $$ [HS]
  · isplitr; · iexact HI
    iexact HS
  iintro HS
  iapply (sg_block I K c (dues 3 c 0 + dues 1 c 0) 5 (by decide) (by decide) (k0_dev5 c) (at_dev5 c)) $$ [HS]
  · isplitr; · iexact HI
    iexact HS
  iintro HS
  rw [wp_pure]
  imodintro
  iapply Hk
  iexact HS

/-- The last two signals and the first operands. -/
theorem part2 (Q) :
    iprop(invs I K ∗ sgS (F := F) c (dues 3 c 0 + dues 1 c 0) 6 ∗ ins I c)
      ⊢ iprop(((sgS (F := F) c (dues 3 c 0 + dues 1 c 0) 8 ∗ ins I c) -∗ Q ⟨p33 I c, p35 I c, p39 I c, p56 I c, p57 I c⟩) -∗ wp frame (wpE (defs₀ (F := F)) 𝒱₀ c none) Set.univ
        (k0_part2_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) barM (Scalar.addi (wd c) 6#32) 8#32) Q) := by
  unfold k0_part2_skel
  iintro ⟨#HI, HS, Hin⟩ Hk
  iapply (sg_block I K c (dues 3 c 0 + dues 1 c 0) 6 (by decide) (by decide) (k0_dev6 c) (at_dev6 c)) $$ [HS]
  · isplitr; · iexact HI
    iexact HS
  iintro HS
  iapply (sg_block I K c (dues 3 c 0 + dues 1 c 0) 7 (by decide) (by decide) (k0_dev7 c) (at_dev7 c)) $$ [HS]
  · isplitr; · iexact HI
    iexact HS
  iintro HS
  iapply (ld_wq I c) $$ [Hin]
  · iexact Hin
  iintro Hin
  iapply (ld_wo I c) $$ [Hin]
  · iexact Hin
  iintro Hin
  iapply (ld_x I c 0 0 rfl) $$ [Hin]
  · iexact Hin
  iintro Hin
  iapply (ld_k I c 0 0 0 0 rfl rfl) $$ [Hin]
  · iexact Hin
  iintro Hin
  iapply (ld_v I c 0 0 0 0 rfl rfl) $$ [Hin]
  · iexact Hin
  iintro Hin
  rw [wp_pure]
  imodintro
  iapply Hk
  isplitl [HS]; · iexact HS
  iexact Hin

/-- The first batch, its first two chunks. -/
theorem part3 (Q) :
    iprop(ins I c ∗ stS I c 0 8 0)
      ⊢ iprop(((ins I c ∗ stS I c 0 8 2) -∗ Q (att (I c) 0)) -∗ wp frame (wpE (defs₀ (F := F)) 𝒱₀ c none) Set.univ
        (k0_part3_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (p35 I c) (p39 I c) (p56 I c) (p57 I c)) Q) := by
  unfold k0_part3_skel
  iintro ⟨Hin, HT⟩ Hk
  iapply (ld_k I c 0 1 0 64 rfl rfl) $$ [Hin]
  · iexact Hin
  iintro Hin
  iapply (ld_v I c 0 1 0 64 rfl rfl) $$ [Hin]
  · iexact Hin
  iintro Hin
  iapply (st_block I c 0 8 0 (by decide) (by decide) (by decide) _ (chunk_0 I c)) $$ [HT]
  · iexact HT
  iintro HT
  iapply (st_block I c 0 8 1 (by decide) (by decide) (by decide) _ (chunk_1 I c)) $$ [HT]
  · iexact HT
  iintro HT
  rw [p88 I c]
  rw [wp_pure]
  imodintro
  iapply Hk
  isplitl [Hin]; · iexact Hin
  iexact HT

/-- Its other chunks, and the barrier. -/
theorem part4 (Q) :
    iprop(invs I K ∗ levAts L lv ∗ stS I c 0 8 2 ∗ cred (tallyAt (bar c) () 7) ∗ atPos ER (bar c) 0 ∅ 0 ∗ ow (F := F) c (dues 3 c 0 + dues 1 c 0))
      ⊢ iprop(((stS I c 0 8 8 ∗ atPos ER (bar c) 1 ∅ 0 ∗ bigSep (Finset.univ.erase c) (fun p => barPay (F := F) c p) ∗ ow (F := F) c (dues 3 c 0 + dues 1 c 0)) -∗ Q (Scalar.extui (Scalar.cmpi .ne (wd c) 0#32))) -∗ wp frame (wpE (defs₀ (F := F)) 𝒱₀ c none) Set.univ
        (k0_part4_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (wd c) barM (att (I c) 0)) Q) := by
  unfold k0_part4_skel
  iintro ⟨#HI, #HL, HT, Hcr, Hat, HO⟩ Hk
  iapply (st_block I c 0 8 2 (by decide) (by decide) (by decide) _ (chunk_2 I c)) $$ [HT]
  · iexact HT
  iintro HT
  iapply (st_block I c 0 8 3 (by decide) (by decide) (by decide) _ (chunk_3 I c)) $$ [HT]
  · iexact HT
  iintro HT
  iapply (st_block I c 0 8 4 (by decide) (by decide) (by decide) _ (chunk_4 I c)) $$ [HT]
  · iexact HT
  iintro HT
  iapply (st_block I c 0 8 5 (by decide) (by decide) (by decide) _ (chunk_5 I c)) $$ [HT]
  · iexact HT
  iintro HT
  iapply (st_block I c 0 8 6 (by decide) (by decide) (by decide) _ (chunk_6 I c)) $$ [HT]
  · iexact HT
  iintro HT
  iapply (st_block I c 0 8 7 (by decide) (by decide) (by decide) _ (chunk_7 I c)) $$ [HT]
  · iexact HT
  iintro HT
  iapply (bw_block I K c (dues 3 c 0 + dues 1 c 0) (above_add (above_dues 1 3 c 0 (by decide)) (above_dues 1 1 c 0 (by decide)))) $$ [Hcr Hat HO]
  · isplitr; · iexact HI
    isplitr; · iexact HL
    isplitl [Hcr]; · iexact Hcr
    isplitl [Hat]; · iexact Hat
    iexact HO
  iintro ⟨Hat, Hb, HO⟩
  rw [wp_pure]
  imodintro
  iapply Hk
  isplitl [HT]; · iexact HT
  isplitl [Hat]; · iexact Hat
  isplitl [Hb]; · iexact Hb
  iexact HO

/-- The copies of the first batch. -/
theorem part5 (Q) :
    iprop(invs I K ∗ rsS I c 8 0 ∗ ins I c)
      ⊢ iprop(((rsS I c 8 8 ∗ ins I c) -∗ Q ⟨p156 I c, p161 I c⟩) -∗ wp frame (wpE (defs₀ (F := F)) 𝒱₀ c none) Set.univ
        (k0_part5_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (p33 I c) (Scalar.extui (Scalar.cmpi .ne (wd c) 0#32))) Q) := by
  unfold k0_part5_skel
  iintro ⟨#HI, HS, Hin⟩ Hk
  iapply (rs_block I K c 8 0 (by decide) (by decide) (k0_cond1 c) (at_k0_cond1 c) k0_dev8 rfl (k0_off1 c) (at_k0_off1 c) (k0_off2 c) (at_k0_off2 c)) $$ [HS]
  · isplitr; · iexact HI
    iexact HS
  iintro HS
  iapply (rs_block I K c 8 1 (by decide) (by decide) (k0_cond2 c) (at_k0_cond2 c) k0_dev9 rfl (k0_off3 c) (at_k0_off3 c) (k0_off4 c) (at_k0_off4 c)) $$ [HS]
  · isplitr; · iexact HI
    iexact HS
  iintro HS
  iapply (rs_block I K c 8 2 (by decide) (by decide) (k0_cond3 c) (at_k0_cond3 c) k0_dev10 rfl (k0_off5 c) (at_k0_off5 c) (k0_off6 c) (at_k0_off6 c)) $$ [HS]
  · isplitr; · iexact HI
    iexact HS
  iintro HS
  iapply (rs_block I K c 8 3 (by decide) (by decide) (k0_cond4 c) (at_k0_cond4 c) k0_dev11 rfl (k0_off7 c) (at_k0_off7 c) (k0_off8 c) (at_k0_off8 c)) $$ [HS]
  · isplitr; · iexact HI
    iexact HS
  iintro HS
  iapply (rs_block I K c 8 4 (by decide) (by decide) (k0_cond5 c) (at_k0_cond5 c) k0_dev12 rfl (k0_off9 c) (at_k0_off9 c) (k0_off10 c) (at_k0_off10 c)) $$ [HS]
  · isplitr; · iexact HI
    iexact HS
  iintro HS
  iapply (rs_block I K c 8 5 (by decide) (by decide) (k0_cond6 c) (at_k0_cond6 c) k0_dev13 rfl (k0_off11 c) (at_k0_off11 c) (k0_off12 c) (at_k0_off12 c)) $$ [HS]
  · isplitr; · iexact HI
    iexact HS
  iintro HS
  iapply (rs_block I K c 8 6 (by decide) (by decide) (k0_cond7 c) (at_k0_cond7 c) k0_dev14 rfl (k0_off13 c) (at_k0_off13 c) (k0_off14 c) (at_k0_off14 c)) $$ [HS]
  · isplitr; · iexact HI
    iexact HS
  iintro HS
  iapply (rs_block I K c 8 7 (by decide) (by decide) (k0_cond8 c) (at_k0_cond8 c) k0_dev15 rfl (k0_off15 c) (at_k0_off15 c) (k0_off16 c) (at_k0_off16 c)) $$ [HS]
  · isplitr; · iexact HI
    iexact HS
  iintro HS
  iapply (ld_x I c 1 256 rfl) $$ [Hin]
  · iexact Hin
  iintro Hin
  rw [wp_pure]
  imodintro
  iapply Hk
  isplitl [HS]; · iexact HS
  iexact Hin

/-- The second batch. -/
theorem part6 (Q) :
    ins I c
      ⊢ iprop((ins I c -∗ Q (p204 I c)) -∗ wp frame (wpE (defs₀ (F := F)) 𝒱₀ c none) Set.univ
        (k0_part6_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (p156 I c) (p161 I c)) Q) := by
  unfold k0_part6_skel
  iintro Hin Hk
  iapply (ld_k I c 1 0 1 0 rfl rfl) $$ [Hin]
  · iexact Hin
  iintro Hin
  iapply (ld_v I c 1 0 1 0 rfl rfl) $$ [Hin]
  · iexact Hin
  iintro Hin
  iapply (ld_k I c 1 1 1 64 rfl rfl) $$ [Hin]
  · iexact Hin
  iintro Hin
  iapply (ld_v I c 1 1 1 64 rfl rfl) $$ [Hin]
  · iexact Hin
  iintro Hin
  rw [wp_pure]
  imodintro
  iapply Hk
  iexact Hin

/-- Six of its chunks. -/
theorem part7 (Q) :
    stS I c 8 16 8
      ⊢ iprop((stS I c 8 16 14 -∗ Q ⟨att (I c) 1, k0_pay26 (p35 I c) (p204 I c)⟩) -∗ wp frame (wpE (defs₀ (F := F)) 𝒱₀ c none) Set.univ
        (k0_part7_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (p35 I c) (p204 I c)) Q) := by
  unfold k0_part7_skel
  iintro HT Hk
  iapply (st_block I c 8 16 8 (by decide) (by decide) (by decide) _ (chunk_8 I c)) $$ [HT]
  · iexact HT
  iintro HT
  iapply (st_block I c 8 16 9 (by decide) (by decide) (by decide) _ (chunk_9 I c)) $$ [HT]
  · iexact HT
  iintro HT
  iapply (st_block I c 8 16 10 (by decide) (by decide) (by decide) _ (chunk_10 I c)) $$ [HT]
  · iexact HT
  iintro HT
  iapply (st_block I c 8 16 11 (by decide) (by decide) (by decide) _ (chunk_11 I c)) $$ [HT]
  · iexact HT
  iintro HT
  iapply (st_block I c 8 16 12 (by decide) (by decide) (by decide) _ (chunk_12 I c)) $$ [HT]
  · iexact HT
  iintro HT
  iapply (st_block I c 8 16 13 (by decide) (by decide) (by decide) _ (chunk_13 I c)) $$ [HT]
  · iexact HT
  iintro HT
  rw [p205 I c]
  rw [wp_pure]
  imodintro
  iapply Hk
  iexact HT

theorem rs_again : iprop(rsS I c 8 8 ∗ stS I c 8 16 16) ⊢ rsS I c 16 8 := by
  unfold rsS stS
  rw [nil, nil]
  iintro ⟨⟨-, H1, H2, H3, H4⟩, -, HT⟩
  isplitl [HT]; · iexact HT
  isplitl [H1]; · iexact H1
  isplitl [H2]; · iexact H2
  isplitl [H3]; · iexact H3
  iexact H4

/-- The other two, and seven copies. -/
theorem part8 (Q) :
    iprop(invs I K ∗ stS I c 8 16 14 ∗ rsS I c 8 8)
      ⊢ iprop((rsS I c 16 15 -∗ Q ⟨Scalar.extui (Scalar.cmpi .ne (wd c) 7#32), 0#32⟩) -∗ wp frame (wpE (defs₀ (F := F)) 𝒱₀ c none) Set.univ
        (k0_part8_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (att (I c) 1) (k0_pay26 (p35 I c) (p204 I c))) Q) := by
  unfold k0_part8_skel
  iintro ⟨#HI, HT, HS⟩ Hk
  iapply (st_block I c 8 16 14 (by decide) (by decide) (by decide) _ (chunk_14 I c)) $$ [HT]
  · iexact HT
  iintro HT
  iapply (st_block I c 8 16 15 (by decide) (by decide) (by decide) _ (chunk_15 I c)) $$ [HT]
  · iexact HT
  iintro HT
  ihave HS := (rs_again I c) $$ [HS HT]
  · isplitl [HS]; · iexact HS
    iexact HT
  iapply (rs_block I K c 16 8 (by decide) (by decide) (k0_cond9 c) (at_k0_cond9 c) k0_dev16 rfl (k0_off17 c) (at_k0_off17 c) (k0_off18 c) (at_k0_off18 c)) $$ [HS]
  · isplitr; · iexact HI
    iexact HS
  iintro HS
  iapply (rs_block I K c 16 9 (by decide) (by decide) (k0_cond10 c) (at_k0_cond10 c) k0_dev17 rfl (k0_off19 c) (at_k0_off19 c) (k0_off20 c) (at_k0_off20 c)) $$ [HS]
  · isplitr; · iexact HI
    iexact HS
  iintro HS
  iapply (rs_block I K c 16 10 (by decide) (by decide) (k0_cond11 c) (at_k0_cond11 c) k0_dev18 rfl (k0_off21 c) (at_k0_off21 c) (k0_off22 c) (at_k0_off22 c)) $$ [HS]
  · isplitr; · iexact HI
    iexact HS
  iintro HS
  iapply (rs_block I K c 16 11 (by decide) (by decide) (k0_cond12 c) (at_k0_cond12 c) k0_dev19 rfl (k0_off23 c) (at_k0_off23 c) (k0_off24 c) (at_k0_off24 c)) $$ [HS]
  · isplitr; · iexact HI
    iexact HS
  iintro HS
  iapply (rs_block I K c 16 12 (by decide) (by decide) (k0_cond13 c) (at_k0_cond13 c) k0_dev20 rfl (k0_off25 c) (at_k0_off25 c) (k0_off26 c) (at_k0_off26 c)) $$ [HS]
  · isplitr; · iexact HI
    iexact HS
  iintro HS
  iapply (rs_block I K c 16 13 (by decide) (by decide) (k0_cond14 c) (at_k0_cond14 c) k0_dev21 rfl (k0_off27 c) (at_k0_off27 c) (k0_off28 c) (at_k0_off28 c)) $$ [HS]
  · isplitr; · iexact HI
    iexact HS
  iintro HS
  iapply (rs_block I K c 16 14 (by decide) (by decide) (k0_cond15 c) (at_k0_cond15 c) k0_dev22 rfl (k0_off29 c) (at_k0_off29 c) (k0_off30 c) (at_k0_off30 c)) $$ [HS]
  · isplitr; · iexact HI
    iexact HS
  iintro HS
  rw [wp_pure]
  imodintro
  iapply Hk
  iexact HS

end Cert.Mesh

end
-- ==== Proof.Body2.lean ====
/-
  The second half of the body: the first sums, the second exchange, the result rows, the final waits.
-/
module

public import proofs.«01_k».proof.Proof.Body1

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → Inp F) (K : GSem nD τ sig → ℕ) (c : Dev nD)

/-- The staged slots once all copies of the first exchange are on their way: the own two held, credit for the rest. -/
def stgO : sProp 𝕄 :=
  iprop((stgPt c (sl 0 c) (stg (I c)) ∗ stgPt c (sl 1 c) (stg (I c)))
    ∗ bigSep (iv 0 16) (fun k => if pk k = c then iprop(emp) else (cred (tallyAt (cell c 0 k) () N) : sProp 𝕄)))
/-- One batch's receive cells of the first exchange, and their credit. -/
def wt1 (b : Fin 2) : sProp 𝕄 :=
  iprop(bigSep (half b) (fun k => atPos ER (cell c 1 k) 0 ∅ 0)
    ∗ bigSep (half b) (fun k => if pk k = c then iprop(emp) else (cred (tallyAt (cell c 1 k) () N) : sProp 𝕄)))

theorem got1_of (b : Fin 2) : iprop(wt1 (F := F) c b ∗ rsPt c (sl b c) (rsV I c)) ⊢ bigSep (half b) (fun k => got1 I c k) := by
  unfold got1 wt1
  rw [bigSep_sep', half_own c b (fun k => cred (tallyAt (cell c 1 k) () N)) (fun k => rsPt c k (rsV I c))]
  iintro ⟨⟨Ha, Hc⟩, Hr⟩
  isplitl [Ha]; · iexact Ha
  isplitl [Hr]; · iexact Hr
  iexact Hc

/-- After the last copy: what is staged, and what is still owed. -/
theorem rs_done : rsS I c 16 16 ⊢ iprop(stgO I c ∗ ow (F := F) c (dues 3 c 0)) := by
  unfold rsS stgO sent0
  rw [nil, nil, nil, all_own c (fun k => cred (tallyAt (cell c 0 k) () N)) (fun k => stgPt c k (stg (I c))), dues_nil, add_zero]
  iintro ⟨-, -, -, H, HO⟩
  isplitl [H]; · iexact H
  iexact HO

theorem rw_open (O : CellTallies nD τ sig Unit) (a e : ℕ) :
    iprop(bigSep (iv a e) (fun k => got1 I c k) ∗ ow (F := F) c O) ⊢ rwS I c O a e a := by
  unfold rwS
  rw [nil]
  iintro ⟨H, HO⟩
  isplitl [H]; · iexact H
  isplitr; · iempintro
  iexact HO
theorem rw_done (O : CellTallies nD τ sig Unit) (a e : ℕ) :
    rwS I c O a e e ⊢ iprop(bigSep (iv a e) (fun k => had1 I c k) ∗ ow (F := F) c O) := by
  unfold rwS
  rw [nil]
  iintro ⟨-, H, HO⟩
  isplitl [H]; · iexact H
  iexact HO

/-- What the copies of the second exchange still hold apart from the eighths, and what of it is left at `n`. -/
def agR (n : ℕ) : sProp 𝕄 :=
  iprop(bigSep (iv n 16) (fun k => tok (F := F) c k 2 3) ∗ bigSep (iv n 16) (fun k => dst3 (F := F) c k) ∗ bigSep (iv 0 n) (fun k => sent2 I c k))
theorem ag_open (e n : ℕ) : iprop(bigSep (iv n e) (fun k => eighth I c k) ∗ agR I c n ∗ ow (F := F) c (dues 3 c n)) ⊢ agS I c e n := by
  unfold agS agR
  iintro ⟨H, ⟨H1, H2, H3⟩, HO⟩
  isplitl [H]; · iexact H
  isplitl [H1]; · iexact H1
  isplitl [H2]; · iexact H2
  isplitl [H3]; · iexact H3
  iexact HO
theorem ag_done (n : ℕ) : agS I c n n ⊢ iprop(agR I c n ∗ ow (F := F) c (dues 3 c n)) := by
  unfold agS agR
  rw [nil]
  iintro ⟨-, H1, H2, H3, HO⟩
  isplitl [H1 H2 H3]
  · isplitl [H1]; · iexact H1
    isplitl [H2]; · iexact H2
    iexact H3
  iexact HO

/-- The sum of the received chunks, as the body forms it. -/
abbrev p332 : FVec F S32x768 .f32 :=
  k0_pay30 (slotV (rsV I c) ⟨0, by decide⟩) (slotV (rsV I c) ⟨1, by decide⟩) (slotV (rsV I c) ⟨2, by decide⟩) (slotV (rsV I c) ⟨3, by decide⟩) (slotV (rsV I c) ⟨4, by decide⟩) (slotV (rsV I c) ⟨5, by decide⟩)
    (slotV (rsV I c) ⟨6, by decide⟩) (slotV (rsV I c) ⟨7, by decide⟩)
abbrev p423 : FVec F S32x768 .f32 :=
  k0_pay34 (slotV (rsV I c) ⟨8, by decide⟩) (slotV (rsV I c) ⟨9, by decide⟩) (slotV (rsV I c) ⟨10, by decide⟩) (slotV (rsV I c) ⟨11, by decide⟩) (slotV (rsV I c) ⟨12, by decide⟩) (slotV (rsV I c) ⟨13, by decide⟩)
    (slotV (rsV I c) ⟨14, by decide⟩)
abbrev p425 : FVec F S32x768 .bf16 := k0_pay35 (slotV (rsV I c) ⟨15, by decide⟩)
theorem p333 : k0_pay31 (p332 I c) = redV I c 0 := rfl
theorem p428 : k0_pay36 (p423 I c) (p425 I c) = redV I c 1 := rfl
theorem p_red0 : k0_pay32 (p332 I c) = shapeCast S1x32x768 (redV I c 0) (by decide) := rfl
theorem p_red1 : k0_pay37 (p423 I c) (p425 I c) = shapeCast S1x32x768 (redV I c 1) (by decide) := rfl
theorem pay29_id (v : Vec F S1x32x768 .bf16) : k0_pay29 v = v := shapeCast_self _ _
theorem pay33_id (v : Vec F S1x32x768 .bf16) : k0_pay33 v = v := shapeCast_self _ _

/-- The last copy, the own chunk, seven waits. -/
theorem part9 (Q) :
    iprop(invs I K ∗ levAts L lv ∗ rsS I c 16 15 ∗ rsRaw (F := F) c (sl 0 c) ∗ wt1 (F := F) c 0)
      ⊢ iprop(((stgO I c ∗ rwS I c (dues 3 c 0) 0 8 7) -∗ Q 7#32) -∗ wp frame (wpE (defs₀ (F := F)) 𝒱₀ c none) Set.univ
        (k0_part9_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (Scalar.extui (Scalar.cmpi .ne (wd c) 7#32)) 0#32) Q) := by
  unfold k0_part9_skel
  iintro ⟨#HI, #HL, HS, Hd, Hwt⟩ Hk
  iapply (rs_block I K c 16 15 (by decide) (by decide) (k0_cond16 c) (at_k0_cond16 c) k0_dev23 rfl (k0_off31 c) (at_k0_off31 c) (k0_off32 c) (at_k0_off32 c)) $$ [HS]
  · isplitr; · iexact HI
    iexact HS
  iintro HS
  ihave H := (rs_done I c) $$ HS
  unfold stgO
  icases H with ⟨⟨⟨Hs, Hs1⟩, Hcr⟩, HO⟩
  iapply (cp_block I c 0 (k0_off33 c 0#32) (at_slot_0 c) k0_pay29 pay29_id) $$ [Hs Hd]
  · isplitl [Hs]; · iexact Hs
    iexact Hd
  iintro ⟨Hs, Hd⟩
  ihave Hg := (got1_of I c 0) $$ [Hwt Hd]
  · isplitl [Hwt]; · iexact Hwt
    iexact Hd
  ihave HW := (rw_open I c (dues 3 c 0) 0 8) $$ [Hg HO]
  · isplitl [Hg]; · iexact Hg
    iexact HO
  iapply (rw_block I K c (dues 3 c 0) (above_dues 2 3 c 0 (by decide)) 0 8 0 (by decide) (by decide) (by decide) _ (guard_0 c)) $$ [HW]
  · isplitr; · iexact HI
    isplitr; · iexact HL
    iexact HW
  iintro HW
  iapply (rw_block I K c (dues 3 c 0) (above_dues 2 3 c 0 (by decide)) 0 8 1 (by decide) (by decide) (by decide) _ (guard_1 c)) $$ [HW]
  · isplitr; · iexact HI
    isplitr; · iexact HL
    iexact HW
  iintro HW
  iapply (rw_block I K c (dues 3 c 0) (above_dues 2 3 c 0 (by decide)) 0 8 2 (by decide) (by decide) (by decide) _ (guard_2 c)) $$ [HW]
  · isplitr; · iexact HI
    isplitr; · iexact HL
    iexact HW
  iintro HW
  iapply (rw_block I K c (dues 3 c 0) (above_dues 2 3 c 0 (by decide)) 0 8 3 (by decide) (by decide) (by decide) _ (guard_3 c)) $$ [HW]
  · isplitr; · iexact HI
    isplitr; · iexact HL
    iexact HW
  iintro HW
  iapply (rw_block I K c (dues 3 c 0) (above_dues 2 3 c 0 (by decide)) 0 8 4 (by decide) (by decide) (by decide) _ (guard_4 c)) $$ [HW]
  · isplitr; · iexact HI
    isplitr; · iexact HL
    iexact HW
  iintro HW
  iapply (rw_block I K c (dues 3 c 0) (above_dues 2 3 c 0 (by decide)) 0 8 5 (by decide) (by decide) (by decide) _ (guard_5 c)) $$ [HW]
  · isplitr; · iexact HI
    isplitr; · iexact HL
    iexact HW
  iintro HW
  iapply (rw_block I K c (dues 3 c 0) (above_dues 2 3 c 0 (by decide)) 0 8 6 (by decide) (by decide) (by decide) _ (guard_6 c)) $$ [HW]
  · isplitr; · iexact HI
    isplitr; · iexact HL
    iexact HW
  iintro HW
  rw [wp_pure]
  imodintro
  iapply Hk
  isplitr [HW]
  · isplitl [Hs Hs1]
    · isplitl [Hs]; · iexact Hs
      iexact Hs1
    iexact Hcr
  iexact HW

/-- The eighth wait, and the first sum. -/
theorem part10 (Q) :
    iprop(invs I K ∗ levAts L lv ∗ rwS I c (dues 3 c 0) 0 8 7)
      ⊢ iprop(((bigSep (iv 0 8) (fun k => had1 I c k) ∗ ow (F := F) c (dues 3 c 0)) -∗ Q (p332 I c)) -∗ wp frame (wpE (defs₀ (F := F)) 𝒱₀ c none) Set.univ
        (k0_part10_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (wd c) 7#32) Q) := by
  unfold k0_part10_skel
  iintro ⟨#HI, #HL, HW⟩ Hk
  iapply (rw_block I K c (dues 3 c 0) (above_dues 2 3 c 0 (by decide)) 0 8 7 (by decide) (by decide) (by decide) _ (guard_7 c)) $$ [HW]
  · isplitr; · iexact HI
    isplitr; · iexact HL
    iexact HW
  iintro HW
  ihave H := (rw_done I c (dues 3 c 0) 0 8) $$ HW
  icases H with ⟨HW, HO⟩
  iapply (lr_block I c 0 8 0 (by decide) (by decide)) $$ [HW]
  · iexact HW
  iintro HW
  iapply (lr_block I c 0 8 1 (by decide) (by decide)) $$ [HW]
  · iexact HW
  iintro HW
  iapply (lr_block I c 0 8 2 (by decide) (by decide)) $$ [HW]
  · iexact HW
  iintro HW
  iapply (lr_block I c 0 8 3 (by decide) (by decide)) $$ [HW]
  · iexact HW
  iintro HW
  iapply (lr_block I c 0 8 4 (by decide) (by decide)) $$ [HW]
  · iexact HW
  iintro HW
  iapply (lr_block I c 0 8 5 (by decide) (by decide)) $$ [HW]
  · iexact HW
  iintro HW
  iapply (lr_block I c 0 8 6 (by decide) (by decide)) $$ [HW]
  · iexact HW
  iintro HW
  iapply (lr_block I c 0 8 7 (by decide) (by decide)) $$ [HW]
  · iexact HW
  iintro HW
  rw [wp_pure]
  imodintro
  iapply Hk
  isplitl [HW]; · iexact HW
  iexact HO

/-- The first sum stored and sent. -/
theorem part11 (Q) :
    iprop(invs I K ∗ (∃ f : Vec F S2x32x768 .bf16, redPt c 0 fullShare f) ∗ agR I c 0 ∗ ow (F := F) c (dues 3 c 0))
      ⊢ iprop(((agR I c 8 ∗ ow (F := F) c (dues 3 c 8)) -∗ Q ⟨redV I c 0, Scalar.addi 0#32 (Scalar.muli (wd c) 32#32)⟩) -∗ wp frame (wpE (defs₀ (F := F)) 𝒱₀ c none) Set.univ
        (k0_part11_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (p332 I c)) Q) := by
  unfold k0_part11_skel
  iintro ⟨#HI, Hr, HA, HO⟩ Hk
  iapply (sr_block I c 0 0 rfl _ (p_red0 I c)) $$ [Hr]
  · iexact Hr
  iintro Hr
  ihave He := (Entails.of_eq (red_eighths I c 0)) $$ Hr
  ihave HG := (ag_open I c 8 0) $$ [He HA HO]
  · isplitl [He]; · iexact He
    isplitl [HA]; · iexact HA
    iexact HO
  iapply (ag_block I K c 8 0 (by decide) (by decide) 0 rfl (k0_cond25 c) (at_k0_cond25 c) k0_dev24 rfl (k0_off34 c) (at_k0_off34 c) (k0_off35 c) (at_k0_off35 c)) $$ [HG]
  · isplitr; · iexact HI
    iexact HG
  iintro HG
  iapply (ag_block I K c 8 1 (by decide) (by decide) 0 rfl (k0_cond26 c) (at_k0_cond26 c) k0_dev25 rfl (k0_off36 c) (at_k0_off36 c) (k0_off37 c) (at_k0_off37 c)) $$ [HG]
  · isplitr; · iexact HI
    iexact HG
  iintro HG
  iapply (ag_block I K c 8 2 (by decide) (by decide) 0 rfl (k0_cond27 c) (at_k0_cond27 c) k0_dev26 rfl (k0_off38 c) (at_k0_off38 c) (k0_off39 c) (at_k0_off39 c)) $$ [HG]
  · isplitr; · iexact HI
    iexact HG
  iintro HG
  iapply (ag_block I K c 8 3 (by decide) (by decide) 0 rfl (k0_cond28 c) (at_k0_cond28 c) k0_dev27 rfl (k0_off40 c) (at_k0_off40 c) (k0_off41 c) (at_k0_off41 c)) $$ [HG]
  · isplitr; · iexact HI
    iexact HG
  iintro HG
  iapply (ag_block I K c 8 4 (by decide) (by decide) 0 rfl (k0_cond29 c) (at_k0_cond29 c) k0_dev28 rfl (k0_off42 c) (at_k0_off42 c) (k0_off43 c) (at_k0_off43 c)) $$ [HG]
  · isplitr; · iexact HI
    iexact HG
  iintro HG
  iapply (ag_block I K c 8 5 (by decide) (by decide) 0 rfl (k0_cond30 c) (at_k0_cond30 c) k0_dev29 rfl (k0_off44 c) (at_k0_off44 c) (k0_off45 c) (at_k0_off45 c)) $$ [HG]
  · isplitr; · iexact HI
    iexact HG
  iintro HG
  iapply (ag_block I K c 8 6 (by decide) (by decide) 0 rfl (k0_cond31 c) (at_k0_cond31 c) k0_dev30 rfl (k0_off46 c) (at_k0_off46 c) (k0_off47 c) (at_k0_off47 c)) $$ [HG]
  · isplitr; · iexact HI
    iexact HG
  iintro HG
  iapply (ag_block I K c 8 7 (by decide) (by decide) 0 rfl (k0_cond32 c) (at_k0_cond32 c) k0_dev31 rfl (k0_off48 c) (at_k0_off48 c) (k0_off49 c) (at_k0_off49 c)) $$ [HG]
  · isplitr; · iexact HI
    iexact HG
  iintro HG
  ihave H := (ag_done I c 8) $$ HG
  icases H with ⟨HA, HO⟩
  rw [p333 I c]
  rw [wp_pure]
  imodintro
  iapply Hk
  isplitl [HA]; · iexact HA
  iexact HO

/-- The own rows, the second own chunk, six waits. -/
theorem part12 (Q) :
    iprop(invs I K ∗ levAts L lv ∗ (∃ f : Vec F S512x768 .bf16, outPt c (sl 0 c) f) ∗ stgO I c ∗ rsRaw (F := F) c (sl 1 c) ∗ wt1 (F := F) c 1 ∗ ow (F := F) c (dues 3 c 8))
      ⊢ iprop(((outPt c (sl 0 c) (outV I) ∗ stgO I c ∗ rwS I c (dues 3 c 8) 8 16 14) -∗ Q (Scalar.cmpi .ne (Scalar.extui (Scalar.cmpi .ne (wd c) 6#32) : BitVec 32) 0#32)) -∗ wp frame (wpE (defs₀ (F := F)) 𝒱₀ c none) Set.univ
        (k0_part12_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (redV I c 0) (Scalar.addi 0#32 (Scalar.muli (wd c) 32#32))) Q) := by
  unfold k0_part12_skel
  iintro ⟨#HI, #HL, Ho, HS, Hd, Hwt, HO⟩ Hk
  iapply (so_block I c 0 (k0_off50 c 0#32) (at_rows_0 c) _ rfl) $$ [Ho]
  · iexact Ho
  iintro Ho
  unfold stgO
  icases HS with ⟨⟨Hs0, Hs⟩, Hcr⟩
  iapply (cp_block I c 1 (k0_off33 c 8#32) (at_slot_1 c) k0_pay33 pay33_id) $$ [Hs Hd]
  · isplitl [Hs]; · iexact Hs
    iexact Hd
  iintro ⟨Hs, Hd⟩
  ihave Hg := (got1_of I c 1) $$ [Hwt Hd]
  · isplitl [Hwt]; · iexact Hwt
    iexact Hd
  ihave HW := (rw_open I c (dues 3 c 8) 8 16) $$ [Hg HO]
  · isplitl [Hg]; · iexact Hg
    iexact HO
  iapply (rw_block I K c (dues 3 c 8) (above_dues 2 3 c 8 (by decide)) 8 16 8 (by decide) (by decide) (by decide) _ (guard_8 c)) $$ [HW]
  · isplitr; · iexact HI
    isplitr; · iexact HL
    iexact HW
  iintro HW
  iapply (rw_block I K c (dues 3 c 8) (above_dues 2 3 c 8 (by decide)) 8 16 9 (by decide) (by decide) (by decide) _ (guard_9 c)) $$ [HW]
  · isplitr; · iexact HI
    isplitr; · iexact HL
    iexact HW
  iintro HW
  iapply (rw_block I K c (dues 3 c 8) (above_dues 2 3 c 8 (by decide)) 8 16 10 (by decide) (by decide) (by decide) _ (guard_10 c)) $$ [HW]
  · isplitr; · iexact HI
    isplitr; · iexact HL
    iexact HW
  iintro HW
  iapply (rw_block I K c (dues 3 c 8) (above_dues 2 3 c 8 (by decide)) 8 16 11 (by decide) (by decide) (by decide) _ (guard_11 c)) $$ [HW]
  · isplitr; · iexact HI
    isplitr; · iexact HL
    iexact HW
  iintro HW
  iapply (rw_block I K c (dues 3 c 8) (above_dues 2 3 c 8 (by decide)) 8 16 12 (by decide) (by decide) (by decide) _ (guard_12 c)) $$ [HW]
  · isplitr; · iexact HI
    isplitr; · iexact HL
    iexact HW
  iintro HW
  iapply (rw_block I K c (dues 3 c 8) (above_dues 2 3 c 8 (by decide)) 8 16 13 (by decide) (by decide) (by decide) _ (guard_13 c)) $$ [HW]
  · isplitr; · iexact HI
    isplitr; · iexact HL
    iexact HW
  iintro HW
  rw [wp_pure]
  imodintro
  iapply Hk
  isplitl [Ho]; · iexact Ho
  isplitr [HW]
  · isplitl [Hs Hs0]
    · isplitl [Hs0]; · iexact Hs0
      iexact Hs
    iexact Hcr
  iexact HW

/-- Two waits and the second sum. -/
theorem part13 (Q) :
    iprop(invs I K ∗ levAts L lv ∗ rwS I c (dues 3 c 8) 8 16 14)
      ⊢ iprop(((bigSep (iv 8 16) (fun k => had1 I c k) ∗ ow (F := F) c (dues 3 c 8)) -∗ Q ⟨p423 I c, p425 I c⟩) -∗ wp frame (wpE (defs₀ (F := F)) 𝒱₀ c none) Set.univ
        (k0_part13_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (wd c) (Scalar.cmpi .ne (Scalar.extui (Scalar.cmpi .ne (wd c) 6#32) : BitVec 32) 0#32)) Q) := by
  unfold k0_part13_skel
  iintro ⟨#HI, #HL, HW⟩ Hk
  iapply (rw_block I K c (dues 3 c 8) (above_dues 2 3 c 8 (by decide)) 8 16 14 (by decide) (by decide) (by decide) _ (guard_14 c)) $$ [HW]
  · isplitr; · iexact HI
    isplitr; · iexact HL
    iexact HW
  iintro HW
  iapply (rw_block I K c (dues 3 c 8) (above_dues 2 3 c 8 (by decide)) 8 16 15 (by decide) (by decide) (by decide) _ (guard_15 c)) $$ [HW]
  · isplitr; · iexact HI
    isplitr; · iexact HL
    iexact HW
  iintro HW
  ihave H := (rw_done I c (dues 3 c 8) 8 16) $$ HW
  icases H with ⟨HW, HO⟩
  iapply (lr_block I c 8 16 8 (by decide) (by decide)) $$ [HW]
  · iexact HW
  iintro HW
  iapply (lr_block I c 8 16 9 (by decide) (by decide)) $$ [HW]
  · iexact HW
  iintro HW
  iapply (lr_block I c 8 16 10 (by decide) (by decide)) $$ [HW]
  · iexact HW
  iintro HW
  iapply (lr_block I c 8 16 11 (by decide) (by decide)) $$ [HW]
  · iexact HW
  iintro HW
  iapply (lr_block I c 8 16 12 (by decide) (by decide)) $$ [HW]
  · iexact HW
  iintro HW
  iapply (lr_block I c 8 16 13 (by decide) (by decide)) $$ [HW]
  · iexact HW
  iintro HW
  iapply (lr_block I c 8 16 14 (by decide) (by decide)) $$ [HW]
  · iexact HW
  iintro HW
  iapply (lr_block I c 8 16 15 (by decide) (by decide)) $$ [HW]
  · iexact HW
  iintro HW
  rw [wp_pure]
  imodintro
  iapply Hk
  isplitl [HW]; · iexact HW
  iexact HO

/-- The second sum stored and sent. -/
theorem part14 (Q) :
    iprop(invs I K ∗ (∃ f : Vec F S2x32x768 .bf16, redPt c 1 fullShare f) ∗ agR I c 8 ∗ ow (F := F) c (dues 3 c 8))
      ⊢ iprop(((agR I c 16 ∗ ow (F := F) c (dues 3 c 16)) -∗ Q ⟨redV I c 1, Scalar.muli (wd c) 32#32⟩) -∗ wp frame (wpE (defs₀ (F := F)) 𝒱₀ c none) Set.univ
        (k0_part14_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (p423 I c) (p425 I c)) Q) := by
  unfold k0_part14_skel
  iintro ⟨#HI, Hr, HA, HO⟩ Hk
  iapply (sr_block I c 1 1 rfl _ (p_red1 I c)) $$ [Hr]
  · iexact Hr
  iintro Hr
  ihave He := (Entails.of_eq (red_eighths I c 1)) $$ Hr
  ihave HG := (ag_open I c 16 8) $$ [He HA HO]
  · isplitl [He]; · iexact He
    isplitl [HA]; · iexact HA
    iexact HO
  iapply (ag_block I K c 16 8 (by decide) (by decide) 1 rfl (k0_cond41 c) (at_k0_cond41 c) k0_dev32 rfl (k0_off51 c) (at_k0_off51 c) (k0_off52 c) (at_k0_off52 c)) $$ [HG]
  · isplitr; · iexact HI
    iexact HG
  iintro HG
  iapply (ag_block I K c 16 9 (by decide) (by decide) 1 rfl (k0_cond42 c) (at_k0_cond42 c) k0_dev33 rfl (k0_off53 c) (at_k0_off53 c) (k0_off54 c) (at_k0_off54 c)) $$ [HG]
  · isplitr; · iexact HI
    iexact HG
  iintro HG
  iapply (ag_block I K c 16 10 (by decide) (by decide) 1 rfl (k0_cond43 c) (at_k0_cond43 c) k0_dev34 rfl (k0_off55 c) (at_k0_off55 c) (k0_off56 c) (at_k0_off56 c)) $$ [HG]
  · isplitr; · iexact HI
    iexact HG
  iintro HG
  iapply (ag_block I K c 16 11 (by decide) (by decide) 1 rfl (k0_cond44 c) (at_k0_cond44 c) k0_dev35 rfl (k0_off57 c) (at_k0_off57 c) (k0_off58 c) (at_k0_off58 c)) $$ [HG]
  · isplitr; · iexact HI
    iexact HG
  iintro HG
  iapply (ag_block I K c 16 12 (by decide) (by decide) 1 rfl (k0_cond45 c) (at_k0_cond45 c) k0_dev36 rfl (k0_off59 c) (at_k0_off59 c) (k0_off60 c) (at_k0_off60 c)) $$ [HG]
  · isplitr; · iexact HI
    iexact HG
  iintro HG
  iapply (ag_block I K c 16 13 (by decide) (by decide) 1 rfl (k0_cond46 c) (at_k0_cond46 c) k0_dev37 rfl (k0_off61 c) (at_k0_off61 c) (k0_off62 c) (at_k0_off62 c)) $$ [HG]
  · isplitr; · iexact HI
    iexact HG
  iintro HG
  iapply (ag_block I K c 16 14 (by decide) (by decide) 1 rfl (k0_cond47 c) (at_k0_cond47 c) k0_dev38 rfl (k0_off63 c) (at_k0_off63 c) (k0_off64 c) (at_k0_off64 c)) $$ [HG]
  · isplitr; · iexact HI
    iexact HG
  iintro HG
  iapply (ag_block I K c 16 15 (by decide) (by decide) 1 rfl (k0_cond48 c) (at_k0_cond48 c) k0_dev39 rfl (k0_off65 c) (at_k0_off65 c) (k0_off66 c) (at_k0_off66 c)) $$ [HG]
  · isplitr; · iexact HI
    iexact HG
  iintro HG
  ihave H := (ag_done I c 16) $$ HG
  icases H with ⟨HA, HO⟩
  rw [p428 I c]
  rw [wp_pure]
  imodintro
  iapply Hk
  isplitl [HA]; · iexact HA
  iexact HO

/-- What the waits of the second exchange start from. -/
def wt3 : sProp 𝕄 :=
  iprop(bigSep (iv 0 16) (fun k => atPos ER (cell c 3 k) 0 ∅ 0)
    ∗ bigSep (iv 0 16) (fun k => if pk k = c then iprop(emp) else (cred (tallyAt (cell c 3 k) () N) : sProp 𝕄))
    ∗ bigSep (iv 0 16) (fun k => if pk k = c then iprop(emp) else iprop(∃ f : Vec F S512x768 .bf16, outPt c k f)))

theorem aw_open : iprop(wt3 (F := F) c ∗ (outPt c (sl 0 c) (outV I) ∗ outPt c (sl 1 c) (outV I)) ∗ ow (F := F) c 0) ⊢ awS I c 0 := by
  unfold awS got3 wt3
  rw [nil, bigSep_sep', all_own c (fun k => iprop(cred (tallyAt (cell c 3 k) () N) ∗ ∃ f : Vec F S512x768 .bf16, outPt c k f)) (fun k => outPt c k (outV I))]
  have h : (bigSep (iv 0 16) (fun k => if pk k = c then iprop(emp) else iprop(cred (tallyAt (cell c 3 k) () N) ∗ ∃ f : Vec F S512x768 .bf16, outPt c k f)) : sProp 𝕄)
      = iprop(bigSep (iv 0 16) (fun k => if pk k = c then iprop(emp) else (cred (tallyAt (cell c 3 k) () N) : sProp 𝕄))
        ∗ bigSep (iv 0 16) (fun k => if pk k = c then iprop(emp) else iprop(∃ f : Vec F S512x768 .bf16, outPt c k f))) := by
    rw [← bigSep_sep']
    refine bigSep_congr fun k _ => ?_
    by_cases hk : pk k = c
    · rw [if_pos hk, if_pos hk, if_pos hk]; exact (equiv_iff.mp emp_sep).symm
    · rw [if_neg hk, if_neg hk, if_neg hk]
  rw [h]
  iintro ⟨⟨H1, H2, H3⟩, Ho, HO⟩
  isplitl [H1 H2 H3 Ho]
  · isplitl [H1]; · iexact H1
    isplitl [Ho]; · iexact Ho
    isplitl [H2]; · iexact H2
    iexact H3
  isplitr; · iempintro
  iexact HO

/-- The second own rows, nine waits of the second exchange. -/
theorem part15 (Q) :
    iprop(invs I K ∗ levAts L lv ∗ (∃ f : Vec F S512x768 .bf16, outPt c (sl 1 c) f) ∗ outPt c (sl 0 c) (outV I) ∗ wt3 (F := F) c ∗ ow (F := F) c 0)
      ⊢ iprop((awS I c 9 -∗ Q ⟨⟩) -∗ wp frame (wpE (defs₀ (F := F)) 𝒱₀ c none) Set.univ
        (k0_part15_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wd c) (redV I c 1) (Scalar.muli (wd c) 32#32)) Q) := by
  unfold k0_part15_skel
  iintro ⟨#HI, #HL, Ho, Ho0, Hwt, HO⟩ Hk
  iapply (so_block I c 1 (k0_off50 c 256#32) (at_rows_1 c) _ rfl) $$ [Ho]
  · iexact Ho
  iintro Ho
  ihave HA := (aw_open I c) $$ [Ho Ho0 Hwt HO]
  · isplitl [Hwt]; · iexact Hwt
    isplitr [HO]
    · isplitl [Ho0]; · iexact Ho0
      iexact Ho
    iexact HO
  iapply (aw_block I K c 0 (by decide) 0 0 rfl rfl _ (guard_0 c) k0_pay38 (fun _ _ => rfl)) $$ [HA]
  · isplitr; · iexact HI
    isplitr; · iexact HL
    iexact HA
  iintro HA
  iapply (aw_block I K c 1 (by decide) 0 32 rfl rfl _ (guard_1 c) k0_pay39 (fun _ _ => rfl)) $$ [HA]
  · isplitr; · iexact HI
    isplitr; · iexact HL
    iexact HA
  iintro HA
  iapply (aw_block I K c 2 (by decide) 0 64 rfl rfl _ (guard_2 c) k0_pay40 (fun _ _ => rfl)) $$ [HA]
  · isplitr; · iexact HI
    isplitr; · iexact HL
    iexact HA
  iintro HA
  iapply (aw_block I K c 3 (by decide) 0 96 rfl rfl _ (guard_3 c) k0_pay41 (fun _ _ => rfl)) $$ [HA]
  · isplitr; · iexact HI
    isplitr; · iexact HL
    iexact HA
  iintro HA
  iapply (aw_block I K c 4 (by decide) 0 128 rfl rfl _ (guard_4 c) k0_pay42 (fun _ _ => rfl)) $$ [HA]
  · isplitr; · iexact HI
    isplitr; · iexact HL
    iexact HA
  iintro HA
  iapply (aw_block I K c 5 (by decide) 0 160 rfl rfl _ (guard_5 c) k0_pay43 (fun _ _ => rfl)) $$ [HA]
  · isplitr; · iexact HI
    isplitr; · iexact HL
    iexact HA
  iintro HA
  iapply (aw_block I K c 6 (by decide) 0 192 rfl rfl _ (guard_6 c) k0_pay44 (fun _ _ => rfl)) $$ [HA]
  · isplitr; · iexact HI
    isplitr; · iexact HL
    iexact HA
  iintro HA
  iapply (aw_block I K c 7 (by decide) 0 224 rfl rfl _ (guard_7 c) k0_pay45 (fun _ _ => rfl)) $$ [HA]
  · isplitr; · iexact HI
    isplitr; · iexact HL
    iexact HA
  iintro HA
  iapply (aw_block I K c 8 (by decide) 1 256 rfl rfl _ (guard_8 c) k0_pay46 (fun _ _ => rfl)) $$ [HA]
  · isplitr; · iexact HI
    isplitr; · iexact HL
    iexact HA
  iintro HA
  rw [wp_pure]
  imodintro
  iapply Hk
  iexact HA

theorem aw_done : awS I c 16 ⊢ iprop(bigSep (iv 0 16) (fun k => had3 I c k) ∗ ow (F := F) c 0) := by
  unfold awS
  rw [nil]
  iintro ⟨-, H, HO⟩
  isplitl [H]; · iexact H
  iexact HO
theorem fw_open : iprop(bigSep (iv 0 16) (fun k => got02 I c k) ∗ ow (F := F) c 0) ⊢ fwS I c 0 := by
  unfold fwS
  rw [nil]
  iintro ⟨H, HO⟩
  isplitl [H]; · iexact H
  isplitr; · iempintro
  iexact HO

/-- The other waits of the second exchange, three final waits. -/
theorem part16 (Q) :
    iprop(invs I K ∗ levAts L lv ∗ awS I c 9 ∗ bigSep (iv 0 16) (fun k => got02 I c k))
      ⊢ iprop(((bigSep (iv 0 16) (fun k => had3 I c k) ∗ fwS I c 3) -∗ Q ⟨⟩) -∗ wp frame (wpE (defs₀ (F := F)) 𝒱₀ c none) Set.univ
        (k0_part16_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (wd c)) Q) := by
  unfold k0_part16_skel
  iintro ⟨#HI, #HL, HA, Hg⟩ Hk
  iapply (aw_block I K c 9 (by decide) 1 288 rfl rfl _ (guard_9 c) k0_pay47 (fun _ _ => rfl)) $$ [HA]
  · isplitr; · iexact HI
    isplitr; · iexact HL
    iexact HA
  iintro HA
  iapply (aw_block I K c 10 (by decide) 1 320 rfl rfl _ (guard_10 c) k0_pay48 (fun _ _ => rfl)) $$ [HA]
  · isplitr; · iexact HI
    isplitr; · iexact HL
    iexact HA
  iintro HA
  iapply (aw_block I K c 11 (by decide) 1 352 rfl rfl _ (guard_11 c) k0_pay49 (fun _ _ => rfl)) $$ [HA]
  · isplitr; · iexact HI
    isplitr; · iexact HL
    iexact HA
  iintro HA
  iapply (aw_block I K c 12 (by decide) 1 384 rfl rfl _ (guard_12 c) k0_pay50 (fun _ _ => rfl)) $$ [HA]
  · isplitr; · iexact HI
    isplitr; · iexact HL
    iexact HA
  iintro HA
  iapply (aw_block I K c 13 (by decide) 1 416 rfl rfl _ (guard_13 c) k0_pay51 (fun _ _ => rfl)) $$ [HA]
  · isplitr; · iexact HI
    isplitr; · iexact HL
    iexact HA
  iintro HA
  iapply (aw_block I K c 14 (by decide) 1 448 rfl rfl _ (guard_14 c) k0_pay52 (fun _ _ => rfl)) $$ [HA]
  · isplitr; · iexact HI
    isplitr; · iexact HL
    iexact HA
  iintro HA
  iapply (aw_block I K c 15 (by decide) 1 480 rfl rfl _ (guard_15 c) k0_pay53 (fun _ _ => rfl)) $$ [HA]
  · isplitr; · iexact HI
    isplitr; · iexact HL
    iexact HA
  iintro HA
  ihave H := (aw_done I c) $$ HA
  icases H with ⟨HA, HO⟩
  ihave HF := (fw_open I c) $$ [Hg HO]
  · isplitl [Hg]; · iexact Hg
    iexact HO
  iapply (fw_block I K c 0 (by decide) 0 rfl _ (guard_0 c)) $$ [HF]
  · isplitr; · iexact HI
    isplitr; · iexact HL
    iexact HF
  iintro HF
  iapply (fw_block I K c 1 (by decide) 0 rfl _ (guard_1 c)) $$ [HF]
  · isplitr; · iexact HI
    isplitr; · iexact HL
    iexact HF
  iintro HF
  iapply (fw_block I K c 2 (by decide) 0 rfl _ (guard_2 c)) $$ [HF]
  · isplitr; · iexact HI
    isplitr; · iexact HL
    iexact HF
  iintro HF
  rw [wp_pure]
  imodintro
  iapply Hk
  isplitl [HA]; · iexact HA
  iexact HF

/-- Ten final waits. -/
theorem part17 (Q) :
    iprop(invs I K ∗ levAts L lv ∗ fwS I c 3)
      ⊢ iprop((fwS I c 13 -∗ Q ⟨⟩) -∗ wp frame (wpE (defs₀ (F := F)) 𝒱₀ c none) Set.univ
        (k0_part17_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (wd c)) Q) := by
  unfold k0_part17_skel
  iintro ⟨#HI, #HL, HF⟩ Hk
  iapply (fw_block I K c 3 (by decide) 0 rfl _ (guard_3 c)) $$ [HF]
  · isplitr; · iexact HI
    isplitr; · iexact HL
    iexact HF
  iintro HF
  iapply (fw_block I K c 4 (by decide) 0 rfl _ (guard_4 c)) $$ [HF]
  · isplitr; · iexact HI
    isplitr; · iexact HL
    iexact HF
  iintro HF
  iapply (fw_block I K c 5 (by decide) 0 rfl _ (guard_5 c)) $$ [HF]
  · isplitr; · iexact HI
    isplitr; · iexact HL
    iexact HF
  iintro HF
  iapply (fw_block I K c 6 (by decide) 0 rfl _ (guard_6 c)) $$ [HF]
  · isplitr; · iexact HI
    isplitr; · iexact HL
    iexact HF
  iintro HF
  iapply (fw_block I K c 7 (by decide) 0 rfl _ (guard_7 c)) $$ [HF]
  · isplitr; · iexact HI
    isplitr; · iexact HL
    iexact HF
  iintro HF
  iapply (fw_block I K c 8 (by decide) 1 rfl _ (guard_8 c)) $$ [HF]
  · isplitr; · iexact HI
    isplitr; · iexact HL
    iexact HF
  iintro HF
  iapply (fw_block I K c 9 (by decide) 1 rfl _ (guard_9 c)) $$ [HF]
  · isplitr; · iexact HI
    isplitr; · iexact HL
    iexact HF
  iintro HF
  iapply (fw_block I K c 10 (by decide) 1 rfl _ (guard_10 c)) $$ [HF]
  · isplitr; · iexact HI
    isplitr; · iexact HL
    iexact HF
  iintro HF
  iapply (fw_block I K c 11 (by decide) 1 rfl _ (guard_11 c)) $$ [HF]
  · isplitr; · iexact HI
    isplitr; · iexact HL
    iexact HF
  iintro HF
  iapply (fw_block I K c 12 (by decide) 1 rfl _ (guard_12 c)) $$ [HF]
  · isplitr; · iexact HI
    isplitr; · iexact HL
    iexact HF
  iintro HF
  rw [wp_pure]
  imodintro
  iapply Hk
  iexact HF

end Cert.Mesh

end
-- ==== Proof.Body.lean ====
/-
  The whole body of the kernel on one device.
-/
module

public import proofs.«01_k».proof.Proof.Body2

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → Inp F) (K : GSem nD τ sig → ℕ) (c : Dev nD)

/-! ## Between the phases -/

theorem sg_done (R : CellTallies nD τ sig Unit) : sgS (F := F) c R 8 ⊢ ow (F := F) c R := by
  unfold sgS
  rw [bars_nil, add_zero]
  iintro ⟨-, -, HO⟩
  iexact HO
theorem st_open (a e : ℕ) : bigSep (iv a e) (fun k => iprop(∃ f : Vec F S16x32x768 .bf16, stgPt c k f)) ⊢ stS I c a e a := by
  unfold stS
  rw [nil]
  iintro H
  isplitl [H]; · iexact H
  iempintro
theorem rs_open :
    iprop(stS I c 0 8 8 ∗ bigSep (iv 0 16) (fun k => tok (F := F) c k 0 1) ∗ bigSep (iv 0 16) (fun k => dst1 (F := F) c k)
      ∗ ow (F := F) c (dues 3 c 0 + dues 1 c 0)) ⊢ rsS I c 8 0 := by
  unfold rsS stS
  rw [nil, nil]
  iintro ⟨⟨-, H⟩, H1, H2, HO⟩
  isplitl [H]; · iexact H
  isplitl [H1]; · iexact H1
  isplitl [H2]; · iexact H2
  isplitr; · iempintro
  iexact HO
theorem agR_open :
    iprop(bigSep (iv 0 16) (fun k => tok (F := F) c k 2 3) ∗ bigSep (iv 0 16) (fun k => dst3 (F := F) c k)) ⊢ agR I c 0 := by
  unfold agR
  rw [nil]
  iintro ⟨H1, H2⟩
  isplitl [H1]; · iexact H1
  isplitl [H2]; · iexact H2
  iempintro
theorem agR_done : agR I c 16 ⊢ bigSep (iv 0 16) (fun k => sent2 I c k) := by
  unfold agR
  rw [nil, nil]
  iintro ⟨-, -, H⟩
  iexact H
theorem sent0_back : stgO I c ⊢ bigSep (iv 0 16) (fun k => sent0 I c k) := by
  unfold stgO sent0
  rw [all_own c (fun k => cred (tallyAt (cell c 0 k) () N)) (fun k => stgPt c k (stg (I c)))]
theorem got02_of :
    iprop(bigSep (iv 0 16) (fun k => atPos ER (cell c 0 k) 0 ∅ 0) ∗ bigSep (iv 0 16) (fun k => sent0 I c k)
        ∗ bigSep (iv 0 16) (fun k => atPos ER (cell c 2 k) 0 ∅ 0) ∗ bigSep (iv 0 16) (fun k => sent2 I c k))
      ⊢ (bigSep (iv 0 16) (fun k => got02 I c k) : sProp 𝕄) := by
  unfold got02
  rw [bigSep_sep', bigSep_sep', bigSep_sep']
  iintro ⟨H1, H2, H3, H4⟩
  isplitl [H1 H2]
  · isplitl [H1] <;> iassumption
  isplitl [H3] <;> iassumption
theorem fw_done : fwS I c 16
    ⊢ iprop((bigSep (iv 0 16) (fun k => atPos ER (cell c 0 k) (fin c k) ∅ 0) ∗ ((c : Thread nD τ).loc cc0_scratch0 ↦{fullShare} stg (I c)))
      ∗ (bigSep (iv 0 16) (fun k => atPos ER (cell c 2 k) (fin c k) ∅ 0) ∗ ((c : Thread nD τ).loc cc0_scratch1 ↦{fullShare} redB I c))
      ∗ ow (F := F) c 0) := by
  unfold fwS had02
  rw [nil, bigSep_sep', bigSep_sep', bigSep_sep', stg_split, red_split, red_eighths, red_eighths, two_halves (fun k => eighth I c k)]
  iintro ⟨-, ⟨H1, H2⟩, HO⟩
  isplitl [H1]; · iexact H1
  isplitl [H2]; · iexact H2
  iexact HO
theorem had1_done : iprop(bigSep (iv 0 8) (fun k => had1 I c k) ∗ bigSep (iv 8 16) (fun k => had1 I c k))
    ⊢ (iprop(bigSep (iv 0 16) (fun k => atPos ER (cell c 1 k) (fin c k) ∅ 0) ∗ ((c : Thread nD τ).loc cc0_scratch2 ↦{fullShare} rsV I c)) : sProp 𝕄) := by
  rw [rs_split, ← bigSep_sep', two_halves]
  unfold had1
  exact Entails.refl _
theorem had3_done : iprop(bigSep (iv 0 16) (fun k => had3 I c k) ∗ (agRaw (F := F) c (sl 0 c) ∗ agRaw (F := F) c (sl 1 c)))
    ⊢ iprop(bigSep (iv 0 16) (fun k => atPos ER (cell c 3 k) (fin c k) ∅ 0) ∗ ((c : Thread nD τ).loc cc0_stg5_0 ↦{fullShare} outV I)
      ∗ ∃ f : Vec F S16x32x768 .bf16, (c : Thread nD τ).loc cc0_scratch3 ↦{fullShare} f) := by
  have hr : (bigSep (iv 0 16) (fun k => if pk k = c then iprop(emp) else agPt c k (agV I)) : sProp 𝕄)
      ⊢ bigSep (iv 0 16) (fun k => if pk k = c then iprop(emp) else agRaw (F := F) c k) :=
    bigSep_mono fun k _ => show (if pk k = c then iprop(emp) else agPt c k (agV I) : sProp 𝕄) ⊢ (if pk k = c then iprop(emp) else agRaw (F := F) c k) from by
      by_cases h : pk k = c
      · rw [if_pos h, if_pos h]
      · rw [if_neg h, if_neg h]
        iintro H
        iexists (agV I)
        iexact H
  unfold had3
  rw [bigSep_sep', bigSep_sep', out_split]
  iintro ⟨⟨H1, H2, H3⟩, Ho⟩
  isplitl [H1]; · iexact H1
  isplitl [H2]; · iexact H2
  ihave H3 := hr $$ H3
  iapply (ag_join c (agV I))
  iapply (Entails.of_eq (all_own' c (fun k => agRaw (F := F) c k)).symm)
  isplitl [Ho]; · iexact Ho
  iexact H3

/-! ## What the body starts from and leaves -/

/-- The share of the protocol a device starts from. -/
def gh : sProp 𝕄 :=
  iprop((atPos ER (bar c) 0 ∅ 0 ∗ cred (tallyAt (bar c) () 7))
    ∗ (bigSep (iv 0 16) (fun k => atPos ER (cell c 0 k) 0 ∅ 0) ∗ bigSep (iv 0 16) (fun k => atPos ER (cell c 1 k) 0 ∅ 0)
      ∗ bigSep (iv 0 16) (fun k => atPos ER (cell c 2 k) 0 ∅ 0) ∗ bigSep (iv 0 16) (fun k => atPos ER (cell c 3 k) 0 ∅ 0))
    ∗ (bigSep (iv 0 16) (fun k => if pk k = c then iprop(emp) else (cred (tallyAt (cell c 1 k) () N) : sProp 𝕄))
      ∗ bigSep (iv 0 16) (fun k => if pk k = c then iprop(emp) else (cred (tallyAt (cell c 3 k) () N) : sProp 𝕄)))
    ∗ (bigSep (iv 0 16) (fun k => tok (F := F) c k 0 1) ∗ bigSep (iv 0 16) (fun k => tok (F := F) c k 2 3) ∗ bigSep (ov 1) (fun o => tokB (F := F) c o))
    ∗ (bigSep (iv 0 16) (fun k => reached ER (cell c 1 k) 0) ∗ bigSep (iv 0 16) (fun k => reached ER (cell c 3 k) 0)))

/-- Every cell of the device back at zero. -/
def zeros : sProp 𝕄 :=
  iprop(semVal (bar c) 0 ∗ bigSep (iv 0 16) (fun k => semVal (cell c 0 k) 0) ∗ bigSep (iv 0 16) (fun k => semVal (cell c 1 k) 0)
    ∗ bigSep (iv 0 16) (fun k => semVal (cell c 2 k) 0) ∗ bigSep (iv 0 16) (fun k => semVal (cell c 3 k) 0))

/-- The scratch buffers, at contents not chosen. -/
def scr : sProp 𝕄 :=
  iprop((∃ f : Vec F S16x32x768 .bf16, (c : Thread nD τ).loc cc0_scratch0 ↦{fullShare} f)
    ∗ (∃ f : Vec F S2x32x768 .bf16, (c : Thread nD τ).loc cc0_scratch1 ↦{fullShare} f)
    ∗ (∃ f : Vec F S16x32x768 .bf16, (c : Thread nD τ).loc cc0_scratch2 ↦{fullShare} f)
    ∗ (∃ f : Vec F S16x32x768 .bf16, (c : Thread nD τ).loc cc0_scratch3 ↦{fullShare} f))

theorem close_all :
    iprop(invs I K ∗ atPos ER (bar c) 1 ∅ 0 ∗ bigSep (iv 0 16) (fun k => atPos ER (cell c 0 k) (fin c k) ∅ 0)
        ∗ bigSep (iv 0 16) (fun k => atPos ER (cell c 1 k) (fin c k) ∅ 0) ∗ bigSep (iv 0 16) (fun k => atPos ER (cell c 2 k) (fin c k) ∅ 0)
        ∗ bigSep (iv 0 16) (fun k => atPos ER (cell c 3 k) (fin c k) ∅ 0))
      ⊢ (|={Set.univ}=> zeros (F := F) c : sProp 𝕄) := by
  unfold zeros
  iintro ⟨#HI, Hb, H0, H1, H2, H3⟩
  imod (close_bar I c K) $$ [Hb] with Zb
  · isplitr; · iexact HI
    iexact Hb
  imod (close_cells I c K 0) $$ [H0] with Z0
  · isplitr; · iexact HI
    iexact H0
  imod (close_cells I c K 1) $$ [H1] with Z1
  · isplitr; · iexact HI
    iexact H1
  imod (close_cells I c K 2) $$ [H2] with Z2
  · isplitr; · iexact HI
    iexact H2
  imod (close_cells I c K 3) $$ [H3] with Z3
  · isplitr; · iexact HI
    iexact H3
  imodintro
  isplitl [Zb]; · iexact Zb
  isplitl [Z0]; · iexact Z0
  isplitl [Z1]; · iexact Z1
  isplitl [Z2]; · iexact Z2
  iexact Z3

theorem dues_end : (dues 3 c 16 : CellTallies nD τ sig Unit) = 0 := dues_nil 3 c

set_option maxRecDepth 65536 in
set_option maxHeartbeats 4000000 in
/-- The body: from the operands, the buffers and the device's share of the protocol, to the result rows. -/
theorem body_run (Q : PUnit → sProp 𝕄) :
    iprop(invs I K ∗ levAts L lv ∗ ins I c ∗ (∃ f : Vec F S512x768 .bf16, (c : Thread nD τ).loc cc0_stg5_0 ↦{fullShare} f) ∗ scr (F := F) c
        ∗ gh (F := F) c ∗ ow (F := F) c (O₀ c))
      ⊢ iprop(((ins I c ∗ ((c : Thread nD τ).loc cc0_stg5_0 ↦{fullShare} outV I) ∗ scr (F := F) c ∗ zeros (F := F) c ∗ ow (F := F) c 0) -∗ Q ⟨⟩)
        -∗ wp frame (wpE (defs₀ (F := F)) 𝒱₀ c none) Set.univ
        (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0_body_eq_skeleton]
  unfold cc0_body_skel scr gh
  iintro ⟨#HI, #HL, Hin, ⟨%fo, Ho⟩, ⟨⟨%f0, Hst⟩, ⟨%f1, Hrd⟩, ⟨%f2, Hrs⟩, ⟨%f3, Hag⟩⟩, ⟨⟨Hab, Hcb⟩, ⟨Ha0, Ha1, Ha2, Ha3⟩, ⟨Hc1, Hc3⟩, ⟨Ht0, Ht2, Htb⟩, ⟨Hr1, Hr3⟩⟩, HO⟩ Hk
  -- the buffers, slot by slot
  ihave Hst := (Entails.of_eq (stg_split c f0)) $$ Hst
  ihave Hst := (raw_of (iv 0 16) (fun k f => stgPt c k f) f0) $$ Hst
  ihave Hst := (Entails.of_eq (two_halves (fun k => iprop(∃ f : Vec F S16x32x768 .bf16, stgPt c k f)))) $$ Hst
  icases Hst with ⟨HT, HT1⟩
  ihave Hrd := (Entails.of_eq (red_split c f1)) $$ Hrd
  icases Hrd with ⟨Hrd0, Hrd1⟩
  ihave Hrs := (Entails.of_eq (rs_split c f2)) $$ Hrs
  ihave Hrs := (raw_of (iv 0 16) (fun k f => rsPt c k f) f2) $$ Hrs
  ihave Hag := (Entails.of_eq (ag_split c f3)) $$ Hag
  ihave Hag := (raw_of (iv 0 16) (fun k f => agPt c k f) f3) $$ Hag
  ihave Ho := (Entails.of_eq (out_split c fo)) $$ Ho
  ihave Ho := (raw_of (iv 0 16) (fun k f => outPt c k f) fo) $$ Ho
  ihave Ho := (Entails.of_eq (all_own' c (fun k => iprop(∃ f : Vec F S512x768 .bf16, outPt c k f)))) $$ Ho
  icases Ho with ⟨⟨Ho0, Ho1⟩, Hop⟩
  ihave Hgr := (granted c) $$ [Hrs Hag Hr1 Hr3]
  · isplitl [Hrs]; · iexact Hrs
    isplitl [Hag]; · iexact Hag
    isplitl [Hr1]; · iexact Hr1
    iexact Hr3
  icases Hgr with ⟨Hpay, ⟨Hd0, Hd1⟩, Hagown⟩
  ihave Ha1 := (Entails.of_eq (two_halves (fun k => (atPos ER (cell c 1 k) 0 ∅ 0 : sProp 𝕄)))) $$ Ha1
  icases Ha1 with ⟨Ha10, Ha11⟩
  ihave Hc1 := (Entails.of_eq (two_halves (fun k => (if pk k = c then iprop(emp) else cred (tallyAt (cell c 1 k) () N) : sProp 𝕄)))) $$ Hc1
  icases Hc1 with ⟨Hc10, Hc11⟩
  -- the signals
  ihave HS := (show iprop(bigSep (ov 1) (fun o => tokB (F := F) c o) ∗ bigSep (ov 1) (fun o => barPay (F := F) (fwd c o) c) ∗ ow (F := F) c (O₀ c))
    ⊢ sgS (F := F) c (dues 3 c 0 + dues 1 c 0) 1 from Entails.refl _) $$ [Htb Hpay HO]
  · isplitl [Htb]; · iexact Htb
    isplitl [Hpay]; · iexact Hpay
    iexact HO
  rw [wp_bind, k0_part1_eq_skeleton]
  iapply (part1 I K c _) $$ [HS]
  · isplitr; · iexact HI
    iexact HS
  iintro HS
  rw [wp_bind, k0_part2_eq_skeleton]
  iapply (part2 I K c _) $$ [HS Hin]
  · isplitr; · iexact HI
    isplitl [HS]; · iexact HS
    iexact Hin
  iintro ⟨HS, Hin⟩
  ihave HO := (sg_done c (dues 3 c 0 + dues 1 c 0)) $$ HS
  ihave HT := (st_open I c 0 8) $$ HT
  rw [wp_bind, k0_part3_eq_skeleton]
  iapply (part3 I c _) $$ [Hin HT]
  · isplitl [Hin]; · iexact Hin
    iexact HT
  iintro ⟨Hin, HT⟩
  rw [wp_bind, k0_part4_eq_skeleton]
  iapply (part4 I K c _) $$ [HT Hcb Hab HO]
  · isplitr; · iexact HI
    isplitr; · iexact HL
    isplitl [HT]; · iexact HT
    isplitl [Hcb]; · iexact Hcb
    isplitl [Hab]; · iexact Hab
    iexact HO
  iintro ⟨HT, Hab, Hb, HO⟩
  ihave Hb := (dealt c) $$ Hb
  icases Hb with ⟨Hd1s, Hd3s⟩
  ihave HS := (rs_open I c) $$ [HT Ht0 Hd1s HO]
  · isplitl [HT]; · iexact HT
    isplitl [Ht0]; · iexact Ht0
    isplitl [Hd1s]; · iexact Hd1s
    iexact HO
  rw [wp_bind, k0_part5_eq_skeleton]
  iapply (part5 I K c _) $$ [HS Hin]
  · isplitr; · iexact HI
    isplitl [HS]; · iexact HS
    iexact Hin
  iintro ⟨HS, Hin⟩
  rw [wp_bind, k0_part6_eq_skeleton]
  iapply (part6 I c _) $$ [Hin]
  · iexact Hin
  iintro Hin
  ihave HT := (st_open I c 8 16) $$ HT1
  rw [wp_bind, k0_part7_eq_skeleton]
  iapply (part7 I c _) $$ [HT]
  · iexact HT
  iintro HT
  rw [wp_bind, k0_part8_eq_skeleton]
  iapply (part8 I K c _) $$ [HT HS]
  · isplitr; · iexact HI
    isplitl [HT]; · iexact HT
    iexact HS
  iintro HS
  ihave Hw := (show iprop(bigSep (iv 0 8) (fun k => atPos ER (cell c 1 k) 0 ∅ 0) ∗ bigSep (iv 0 8) (fun k => if pk k = c then iprop(emp) else (cred (tallyAt (cell c 1 k) () N) : sProp 𝕄))) ⊢ wt1 (F := F) c 0 from Entails.refl _) $$ [Ha10 Hc10]
  · isplitl [Ha10]; · iexact Ha10
    iexact Hc10
  rw [wp_bind, k0_part9_eq_skeleton]
  iapply (part9 I K c _) $$ [HS Hd0 Hw]
  · isplitr; · iexact HI
    isplitr; · iexact HL
    isplitl [HS]; · iexact HS
    isplitl [Hd0]; · iexact Hd0
    iexact Hw
  iintro ⟨HS, HW⟩
  rw [wp_bind, k0_part10_eq_skeleton]
  iapply (part10 I K c _) $$ [HW]
  · isplitr; · iexact HI
    isplitr; · iexact HL
    iexact HW
  iintro ⟨Hh0, HO⟩
  ihave HA := (agR_open I c) $$ [Ht2 Hd3s]
  · isplitl [Ht2]; · iexact Ht2
    iexact Hd3s
  ihave Hrd0 := (show redPt c 0 fullShare f1 ⊢ (iprop(∃ f : Vec F S2x32x768 .bf16, redPt c 0 fullShare f) : sProp 𝕄) from by iintro H; iexists f1; iexact H) $$ Hrd0
  ihave Hrd1 := (show redPt c 1 fullShare f1 ⊢ (iprop(∃ f : Vec F S2x32x768 .bf16, redPt c 1 fullShare f) : sProp 𝕄) from by iintro H; iexists f1; iexact H) $$ Hrd1
  rw [wp_bind, k0_part11_eq_skeleton]
  iapply (part11 I K c _) $$ [Hrd0 HA HO]
  · isplitr; · iexact HI
    isplitl [Hrd0]; · iexact Hrd0
    isplitl [HA]; · iexact HA
    iexact HO
  iintro ⟨HA, HO⟩
  ihave Hw := (show iprop(bigSep (iv 8 16) (fun k => atPos ER (cell c 1 k) 0 ∅ 0) ∗ bigSep (iv 8 16) (fun k => if pk k = c then iprop(emp) else (cred (tallyAt (cell c 1 k) () N) : sProp 𝕄))) ⊢ wt1 (F := F) c 1 from Entails.refl _) $$ [Ha11 Hc11]
  · isplitl [Ha11]; · iexact Ha11
    iexact Hc11
  rw [wp_bind, k0_part12_eq_skeleton]
  iapply (part12 I K c _) $$ [Ho0 HS Hd1 Hw HO]
  · isplitr; · iexact HI
    isplitr; · iexact HL
    isplitl [Ho0]; · iexact Ho0
    isplitl [HS]; · iexact HS
    isplitl [Hd1]; · iexact Hd1
    isplitl [Hw]; · iexact Hw
    iexact HO
  iintro ⟨Ho0, HS, HW⟩
  rw [wp_bind, k0_part13_eq_skeleton]
  iapply (part13 I K c _) $$ [HW]
  · isplitr; · iexact HI
    isplitr; · iexact HL
    iexact HW
  iintro ⟨Hh1, HO⟩
  rw [wp_bind, k0_part14_eq_skeleton]
  iapply (part14 I K c _) $$ [Hrd1 HA HO]
  · isplitr; · iexact HI
    isplitl [Hrd1]; · iexact Hrd1
    isplitl [HA]; · iexact HA
    iexact HO
  iintro ⟨HA, HO⟩
  ihave HO := (Entails.of_eq (congrArg (ow (F := F) c) (dues_end c))) $$ HO
  ihave Hw3 := (show iprop(bigSep (iv 0 16) (fun k => atPos ER (cell c 3 k) 0 ∅ 0) ∗ bigSep (iv 0 16) (fun k => if pk k = c then iprop(emp) else (cred (tallyAt (cell c 3 k) () N) : sProp 𝕄)) ∗ bigSep (iv 0 16) (fun k => if pk k = c then iprop(emp) else iprop(∃ f : Vec F S512x768 .bf16, outPt c k f))) ⊢ wt3 (F := F) c from Entails.refl _) $$ [Ha3 Hc3 Hop]
  · isplitl [Ha3]; · iexact Ha3
    isplitl [Hc3]; · iexact Hc3
    iexact Hop
  rw [wp_bind, k0_part15_eq_skeleton]
  iapply (part15 I K c _) $$ [Ho1 Ho0 Hw3 HO]
  · isplitr; · iexact HI
    isplitr; · iexact HL
    isplitl [Ho1]; · iexact Ho1
    isplitl [Ho0]; · iexact Ho0
    isplitl [Hw3]; · iexact Hw3
    iexact HO
  iintro HA3
  ihave Hs2 := (agR_done I c) $$ HA
  ihave Hs0 := (sent0_back I c) $$ HS
  ihave Hg := (got02_of I c) $$ [Ha0 Hs0 Ha2 Hs2]
  · isplitl [Ha0]; · iexact Ha0
    isplitl [Hs0]; · iexact Hs0
    isplitl [Ha2]; · iexact Ha2
    iexact Hs2
  rw [wp_bind, k0_part16_eq_skeleton]
  iapply (part16 I K c _) $$ [HA3 Hg]
  · isplitr; · iexact HI
    isplitr; · iexact HL
    isplitl [HA3]; · iexact HA3
    iexact Hg
  iintro ⟨Hh3, HF⟩
  rw [wp_bind, k0_part17_eq_skeleton]
  iapply (part17 I K c _) $$ [HF]
  · isplitr; · iexact HI
    isplitr; · iexact HL
    iexact HF
  iintro HF
  iapply (fw_block I K c 13 (by decide) 1 rfl _ (guard_13 c)) $$ [HF]
  · isplitr; · iexact HI
    isplitr; · iexact HL
    iexact HF
  iintro HF
  iapply (fw_block I K c 14 (by decide) 1 rfl _ (guard_14 c)) $$ [HF]
  · isplitr; · iexact HI
    isplitr; · iexact HL
    iexact HF
  iintro HF
  iapply (fw_block I K c 15 (by decide) 1 rfl _ (guard_15 c)) $$ [HF]
  · isplitr; · iexact HI
    isplitr; · iexact HL
    iexact HF
  iintro HF
  rw [wp_pure]
  ihave HF := (fw_done I c) $$ HF
  icases HF with ⟨⟨Ha0, Hst⟩, ⟨Ha2, Hrd⟩, HO⟩
  ihave H1 := (had1_done I c) $$ [Hh0 Hh1]
  · isplitl [Hh0]; · iexact Hh0
    iexact Hh1
  icases H1 with ⟨Ha1, Hrs⟩
  ihave H3 := (had3_done I c) $$ [Hh3 Hagown]
  · isplitl [Hh3]; · iexact Hh3
    iexact Hagown
  icases H3 with ⟨Ha3, Ho, Hag⟩
  imod (close_all I K c) $$ [Hab Ha0 Ha1 Ha2 Ha3] with HZ
  · isplitr; · iexact HI
    isplitl [Hab]; · iexact Hab
    isplitl [Ha0]; · iexact Ha0
    isplitl [Ha1]; · iexact Ha1
    isplitl [Ha2]; · iexact Ha2
    iexact Ha3
  imodintro
  iapply Hk
  isplitl [Hin]; · iexact Hin
  isplitl [Ho]; · iexact Ho
  isplitl [Hst Hrd Hrs Hag]
  · isplitl [Hst]; · iexists _; iexact Hst
    isplitl [Hrd]; · iexists _; iexact Hrd
    isplitl [Hrs]; · iexists _; iexact Hrs
    iexact Hag
  isplitl [HZ]; · iexact HZ
  iexact HO

end Cert.Mesh

end
-- ==== Proof.Deal.lean ====
/-
  The launch: every cell's record allocated, the tokens dealt to the devices that pay, the credit to those that wait.
-/
module

public import proofs.«01_k».proof.Proof.Body
public import Idealize.ShloMosaic.Harness.Basic

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells -/

theorem dsem_inj {q q' : Fin 4} {k k' : Fin 16} (h : dsem q k = dsem q' k') : q = q' ∧ k = k' := by
  have e := congrArg cls h
  rw [cls_dsem, cls_dsem] at e
  have e' := Option.some.inj e
  exact ⟨congrArg Prod.fst e', congrArg Prod.snd e'⟩

/-- The transfer semaphores as the kernel's own. -/
def osem (x : Fin 4 × Fin 16) : SemLoc sig := .dma (dsem x.1 x.2)

theorem osem_inj : Function.Injective osem := fun x y h => by
  unfold osem at h
  have e : dsem x.1 x.2 = dsem y.1 y.2 := by injection h
  exact Prod.ext (dsem_inj e).1 (dsem_inj e).2
theorem osem_ne_bar (x : Fin 4 × Fin 16) : osem x ≠ .reg barrier0 := fun h => by unfold osem at h; cases h

theorem cell_inj {c c' : Dev nD} {q q' : Fin 4} {k k' : Fin 16} (h : cell c q k = cell c' q' k') : c = c' ∧ q = q' ∧ k = k' := by
  have h1 : c = c' := congrArg (fun g : GSem nD τ sig => g.1.1) h
  have h2 : osem (q, k) = osem (q', k') := congrArg Prod.snd h
  have h3 := osem_inj h2
  exact ⟨h1, congrArg Prod.fst h3, congrArg Prod.snd h3⟩
theorem cell_ne_bar (c c' : Dev nD) (q : Fin 4) (k : Fin 16) : cell c q k ≠ bar c' := fun h => osem_ne_bar (q, k) (congrArg Prod.snd h)

def barEmb : Dev nD ↪ GSem nD τ sig := ⟨fun c => bar c, fun _ _ h => congrArg (fun g : GSem nD τ sig => g.1.1) h⟩
def celEmb : Dev nD × Fin 4 × Fin 16 ↪ GSem nD τ sig :=
  ⟨fun x => cell x.1 x.2.1 x.2.2, fun _ _ h => Prod.ext (cell_inj h).1 (Prod.ext (cell_inj h).2.1 (cell_inj h).2.2)⟩
abbrev barCells : Finset (GSem nD τ sig) := Finset.univ.map barEmb
abbrev celCells : Finset (GSem nD τ sig) := Finset.univ.map celEmb

/-- A token: of a barrier's payment by a device, or of a transfer cell's by its slot's device. -/
def tokB0 : Dev nD × Dev nD ↪ GSem nD τ sig × ℕ × Dev nD :=
  ⟨fun x => (bar x.1, 0, x.2), fun _ _ h =>
    Prod.ext (congrArg (fun t : GSem nD τ sig × ℕ × Dev nD => t.1.1.1) h) (congrArg (fun t : GSem nD τ sig × ℕ × Dev nD => t.2.2) h)⟩
def tokC0 : Dev nD × Fin 4 × Fin 16 ↪ GSem nD τ sig × ℕ × Dev nD :=
  ⟨fun x => (cell x.1 x.2.1 x.2.2, 0, pk x.2.2), fun _ _ h => celEmb.injective (congrArg Prod.fst h)⟩
def toks : Finset (GSem nD τ sig × ℕ × Dev nD) := Finset.univ.map tokB0 ∪ Finset.univ.map tokC0

theorem apart_toks : Disjoint (Finset.univ.map tokB0) (Finset.univ.map tokC0) := by
  rw [Finset.disjoint_left]
  intro t h h'
  obtain ⟨x, -, rfl⟩ := Finset.mem_map.mp h
  obtain ⟨y, -, e⟩ := Finset.mem_map.mp h'
  exact cell_ne_bar _ _ _ _ (congrArg Prod.fst e)
theorem apart_cells : Disjoint (barCells : Finset (GSem nD τ sig)) celCells := by
  rw [Finset.disjoint_left]
  intro g h h'
  obtain ⟨x, -, rfl⟩ := Finset.mem_map.mp h
  obtain ⟨y, -, e⟩ := Finset.mem_map.mp h'
  exact cell_ne_bar _ _ _ _ e

/-! ## Small facts of families -/

theorem fam4 {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl
theorem fam64 {M : Type} [URA M] (Φ : Fin 4 → Fin 16 → sProp M) :
    bigSep Finset.univ (fun x : Fin 4 × Fin 16 => Φ x.1 x.2)
      = iprop(bigSep (iv 0 16) (Φ 0) ∗ bigSep (iv 0 16) (Φ 1) ∗ bigSep (iv 0 16) (Φ 2) ∗ bigSep (iv 0 16) (Φ 3)) := by
  rw [bigSep_univ_prod, fam4, iv_all]

theorem pairs4 {M : Type} [URA M] (P Q R S : sProp M) : iprop(P ∗ Q ∗ R ∗ S) = iprop((P ∗ Q) ∗ R ∗ S) :=
  BI.equiv_iff.mp ⟨show iprop(P ∗ Q ∗ R ∗ S) ⊢ iprop((P ∗ Q) ∗ R ∗ S) from by
    iintro ⟨a, b, d, e⟩
    isplitl [a b]
    · isplitl [a] <;> iassumption
    isplitl [d] <;> iassumption, show iprop((P ∗ Q) ∗ R ∗ S) ⊢ iprop(P ∗ Q ∗ R ∗ S) from by
    iintro ⟨⟨a, b⟩, d, e⟩
    isplitl [a]; · iexact a
    isplitl [b]; · iexact b
    isplitl [d] <;> iassumption⟩

/-- From a slot of a device to the slot of the slot's device that stands for the device. -/
def cross : Dev nD × Fin 16 ≃ Dev nD × Fin 16 where
  toFun x := (pk x.2, own x.1 x.2)
  invFun x := (pk x.2, own x.1 x.2)
  left_inv x := by obtain ⟨c, k⟩ := x; revert c k; decide
  right_inv x := by obtain ⟨c, k⟩ := x; revert c k; decide

/-! ## The tokens -/

/-- A device's tokens of the copies out of slot `k`, before the cells' rounds are known. -/
def pay (c : Dev nD) (k : Fin 16) (q q' : Fin 4) : sProp 𝕄 :=
  iprop(dutyTok ER (cell c q k) 0 (pk k) ∗ dutyTok ER (cell (pk k) q' (own c k)) 0 c)

theorem toks_cells :
    (bigSep (Finset.univ.map tokC0) (fun x => (dutyTok ER x.1 x.2.1 x.2.2 : sProp 𝕄)))
      = bigSep Finset.univ fun c : Dev nD => iprop(bigSep (iv 0 16) (fun k => pay (F := F) c k 0 1) ∗ bigSep (iv 0 16) (fun k => pay (F := F) c k 2 3)) := by
  have hx : ∀ q : Fin 4, (bigSep Finset.univ fun c : Dev nD => bigSep (iv 0 16) fun k => (dutyTok ER (cell c q k) 0 (pk k) : sProp 𝕄))
      = bigSep Finset.univ fun c : Dev nD => bigSep (iv 0 16) fun k => (dutyTok ER (cell (pk k) q (own c k)) 0 c : sProp 𝕄) := fun q => by
    rw [iv_all, ← bigSep_univ_prod (fun x : Dev nD × Fin 16 => (dutyTok ER (cell x.1 q x.2) 0 (pk x.2) : sProp 𝕄)),
      ← bigSep_univ_prod (fun x : Dev nD × Fin 16 => (dutyTok ER (cell (pk x.2) q (own x.1 x.2)) 0 x.1 : sProp 𝕄)), bigSep_univ_equiv cross]
    refine bigSep_congr fun x _ => ?_
    obtain ⟨c, k⟩ := x
    show dutyTok ER (cell (pk k) q (own c k)) 0 (pk (own c k)) = _
    rw [pk_own]
  rw [bigSep_map]
  have h1 : (bigSep Finset.univ fun x : Dev nD × Fin 4 × Fin 16 => (dutyTok ER (cell x.1 x.2.1 x.2.2) 0 (pk x.2.2) : sProp 𝕄))
      = bigSep Finset.univ fun c : Dev nD => iprop(bigSep (iv 0 16) (fun k => (dutyTok ER (cell c 0 k) 0 (pk k) : sProp 𝕄))
        ∗ bigSep (iv 0 16) (fun k => (dutyTok ER (cell c 1 k) 0 (pk k) : sProp 𝕄)) ∗ bigSep (iv 0 16) (fun k => (dutyTok ER (cell c 2 k) 0 (pk k) : sProp 𝕄))
        ∗ bigSep (iv 0 16) (fun k => (dutyTok ER (cell c 3 k) 0 (pk k) : sProp 𝕄))) := by
    rw [bigSep_univ_prod]
    exact bigSep_congr fun c _ => fam64 (fun q k => (dutyTok ER (cell c q k) 0 (pk k) : sProp 𝕄))
  refine (show _ = _ from h1).trans ?_
  unfold pay
  simp only [bigSep_sep']
  rw [hx 1, hx 3]
  exact pairs4 _ _ _ _

/-- The tokens of the signals. -/
theorem toks_bars :
    (bigSep (Finset.univ.map tokB0) (fun x => (dutyTok ER x.1 x.2.1 x.2.2 : sProp 𝕄)))
      ⊢ bigSep Finset.univ fun c : Dev nD => bigSep (ov 1) fun o => (dutyTok ER (bar (fwd c o)) 0 c : sProp 𝕄) := by
  rw [bigSep_map]
  refine (Entails.of_eq (show _ = bigSep Finset.univ fun c : Dev nD => bigSep Finset.univ fun p : Dev nD => (dutyTok ER (bar p) 0 c : sProp 𝕄) from ?_)).trans
    (bigSep_mono fun c _ => ?_)
  · rw [bigSep_univ_comm, ← bigSep_univ_prod (fun x : Dev nD × Dev nD => (dutyTok ER (bar x.1) 0 x.2 : sProp 𝕄))]; rfl
  · have e : (bigSep (ov 1) fun o => (dutyTok ER (bar (fwd c o)) 0 c : sProp 𝕄)) = bigSep (Finset.univ.erase c) fun p : Dev nD => (dutyTok ER (bar p) 0 c : sProp 𝕄) := by
      rw [← fwd_map c, bigSep_map]; rfl
    rw [e]
    exact bigSep_subset (Finset.erase_subset _ _)

/-! ## What stays with a device -/

/-- A device's share of the launch: its barrier's position, the right to open its transfer cells, the tokens of what it pays. -/
def share (c : Dev nD) : sProp 𝕄 :=
  iprop(atPos ER (bar c) 0 ∅ 0 ∗ bigSep Finset.univ (fun x : Fin 4 × Fin 16 => openTok ER (cell c x.1 x.2))
    ∗ (bigSep (iv 0 16) (fun k => pay (F := F) c k 0 1) ∗ bigSep (iv 0 16) (fun k => pay (F := F) c k 2 3))
    ∗ bigSep (ov 1) (fun o => (dutyTok ER (bar (fwd c o)) 0 c : sProp 𝕄)))

/-- The credit a device starts with. -/
def funds (c : Dev nD) : sProp 𝕄 :=
  iprop(cred (tallyAt (bar c) () 7)
    ∗ bigSep (iv 0 16) (fun k => if pk k = c then iprop(emp) else (cred (tallyAt (cell c 1 k) () N) : sProp 𝕄))
    ∗ bigSep (iv 0 16) (fun k => if pk k = c then iprop(emp) else (cred (tallyAt (cell c 3 k) () N) : sProp 𝕄)))

/-- That every barrier's cell stands at its first round. -/
def ready : sProp 𝕄 := bigSep Finset.univ fun c : Dev nD => reached ER (bar c) 0
instance ready_persistent : BI.Persistent (ready (F := F)) := by unfold ready; infer_instance

theorem ready_at (c : Dev nD) : ready (F := F) ⊢ (reached ER (bar c) 0 : sProp 𝕄) := by
  unfold ready; exact bigSep_elim (Finset.mem_univ c)

variable (I : Dev nD → Inp F)

theorem invs_of (κ : GSem nD τ sig → ℕ) :
    (bigSep (barCells ∪ celCells) fun g => (cellInv ER (rd I) (κ g) g : sProp 𝕄)) = invs I κ := by
  rw [bigSep_union apart_cells, bigSep_map, bigSep_map]; rfl

/-! ## Opening the transfer cells -/

variable (K : GSem nD τ sig → ℕ) (c : Dev nD)

theorem tok_of (q q' : Fin 4) (k : Fin 16) :
    iprop(pay (F := F) c k q q' ∗ reached ER (cell c q k) 0) ⊢ tok (F := F) c k q q' := by
  unfold pay tok
  by_cases h : pk k = c
  · rw [if_pos h]
    iintro -
    iempintro
  · rw [if_neg h]
    iintro ⟨⟨a, b⟩, d⟩
    isplitl [a]; · iexact a
    isplitl [d] <;> iassumption
theorem toks_of (q q' : Fin 4) :
    iprop(bigSep (iv 0 16) (fun k => pay (F := F) c k q q') ∗ bigSep (iv 0 16) (fun k => reached ER (cell c q k) 0))
      ⊢ bigSep (iv 0 16) (fun k => tok (F := F) c k q q') := by
  rw [← bigSep_sep']
  exact bigSep_mono fun k _ => tok_of c q q' k

theorem open_cells :
    iprop(invs I K ∗ bigSep Finset.univ (fun x : Fin 4 × Fin 16 => openTok ER (cell c x.1 x.2)) ∗ Pipeline.ownSems0 osem c)
      ⊢ (|={Set.univ}=> bigSep Finset.univ (fun x : Fin 4 × Fin 16 => iprop(atPos ER (cell c x.1 x.2) 0 ∅ 0 ∗ reached ER (cell c x.1 x.2) 0)) : sProp 𝕄) := by
  have h1 : iprop(invs I K ∗ bigSep Finset.univ (fun x : Fin 4 × Fin 16 => openTok ER (cell c x.1 x.2)) ∗ Pipeline.ownSems0 osem c)
      ⊢ (bigSep Finset.univ (fun x : Fin 4 × Fin 16 => iprop(invs I K ∗ openTok ER (cell c x.1 x.2) ∗ semVal (cell c x.1 x.2) 0)) : sProp 𝕄) := by
    rw [bigSep_sep', bigSep_sep']
    iintro ⟨#HI, H, H'⟩
    isplitr
    · iapply (bigSep_intro_persistent (R := invs I K) (S := (Finset.univ : Finset (Fin 4 × Fin 16))) fun _ _ => Entails.refl _); iexact HI
    isplitl [H]; · iexact H
    unfold Pipeline.ownSems0
    iexact H'
  refine h1.trans ((bigSep_mono fun x _ => ?_).trans (bigSep_fupd _ _))
  show iprop(invs I K ∗ openTok ER (cell c x.1 x.2) ∗ semVal (cell c x.1 x.2) 0)
    ⊢ iprop(|={Set.univ}=> (atPos ER (cell c x.1 x.2) 0 ∅ 0 ∗ reached ER (cell c x.1 x.2) 0))
  iintro ⟨#HI, H, H'⟩
  iapply (Rounds.cell_open ER (rd I) (g := cell c x.1 x.2) (Set.mem_univ (K (cell c x.1 x.2))))
  isplitr; · iapply (inv_cell I K c x.1 x.2); iexact HI
  isplitl [H] <;> iassumption

/-- With its own counters in hand, a device makes its share the body's. -/
theorem gh_of :
    iprop(invs I K ∗ ready (F := F) ∗ share (F := F) c ∗ funds (F := F) c ∗ Pipeline.ownSems0 osem c) ⊢ (|={Set.univ}=> gh (F := F) c : sProp 𝕄) := by
  have hB : iprop(ready (F := F) ∗ bigSep (ov 1) (fun o => (dutyTok ER (bar (fwd c o)) 0 c : sProp 𝕄))) ⊢ bigSep (ov 1) (fun o => tokB (F := F) c o) := by
    refine bigSep_with_persistent (R := ready (F := F)) fun o _ => ?_
    show iprop(ready (F := F) ∗ dutyTok ER (bar (fwd c o)) 0 c) ⊢ tokB (F := F) c o
    unfold tokB
    iintro ⟨#HR, H⟩
    isplitl [H]; · iexact H
    iapply (ready_at (F := F) (fwd c o)); iexact HR
  have hO : (bigSep Finset.univ (fun x : Fin 4 × Fin 16 => iprop(atPos ER (cell c x.1 x.2) 0 ∅ 0 ∗ reached ER (cell c x.1 x.2) 0)) : sProp 𝕄)
      ⊢ iprop((bigSep (iv 0 16) (fun k => atPos ER (cell c 0 k) 0 ∅ 0) ∗ bigSep (iv 0 16) (fun k => atPos ER (cell c 1 k) 0 ∅ 0)
          ∗ bigSep (iv 0 16) (fun k => atPos ER (cell c 2 k) 0 ∅ 0) ∗ bigSep (iv 0 16) (fun k => atPos ER (cell c 3 k) 0 ∅ 0))
        ∗ (bigSep (iv 0 16) (fun k => reached ER (cell c 0 k) 0) ∗ bigSep (iv 0 16) (fun k => reached ER (cell c 1 k) 0)
          ∗ bigSep (iv 0 16) (fun k => reached ER (cell c 2 k) 0) ∗ bigSep (iv 0 16) (fun k => reached ER (cell c 3 k) 0))) := by
    rw [bigSep_sep', fam64 (fun q k => (atPos ER (cell c q k) 0 ∅ 0 : sProp 𝕄)), fam64 (fun q k => (reached ER (cell c q k) 0 : sProp 𝕄))]
  unfold share funds gh
  iintro ⟨#HI, #HR, ⟨Hb, Ho, ⟨Hp, Hp'⟩, Ht⟩, ⟨Hf, Hf1, Hf3⟩, Hs⟩
  imod (open_cells I K c) $$ [Ho Hs] with H
  · isplitr; · iexact HI
    isplitl [Ho] <;> iassumption
  ihave H := hO $$ H
  icases H with ⟨Ha, Hr0, Hr1, Hr2, Hr3⟩
  ihave H0 := (toks_of (F := F) c 0 1) $$ [Hp Hr0]
  · isplitl [Hp] <;> iassumption
  ihave H2 := (toks_of (F := F) c 2 3) $$ [Hp' Hr2]
  · isplitl [Hp'] <;> iassumption
  ihave H4 := hB $$ [Ht]
  · isplitr; · iexact HR
    iexact Ht
  imodintro
  isplitl [Hb Hf]
  · isplitl [Hb] <;> iassumption
  isplitl [Ha]; · iexact Ha
  isplitl [Hf1 Hf3]
  · isplitl [Hf1] <;> iassumption
  isplitl [H0 H2 H4]
  · isplitl [H0]; · iexact H0
    isplitl [H2] <;> iassumption
  isplitl [Hr1] <;> iassumption

/-- What the body leaves of the transfer cells is the kernel's counters at zero. -/
theorem zeros_own : zeros (F := F) c ⊢ iprop(semVal (bar c) 0 ∗ Pipeline.ownSems0 osem c) := by
  unfold zeros
  refine sep_mono (Entails.refl _) (Entails.of_eq ?_)
  exact (fam64 (fun q k => (semVal (cell c q k) 0 : sProp 𝕄))).symm

/-! ## The credit -/

theorem sum_at {J : Type} [DecidableEq J] (s : Finset J) (f : J → CellTallies nD τ sig Unit) (g : GSem nD τ sig) :
    (∑ j ∈ s, f j) g () = ∑ j ∈ s, f j g () := by
  induction s using Finset.induction_on with
  | empty => rw [Finset.sum_empty, Finset.sum_empty]; rfl
  | insert j s hj ih => rw [Finset.sum_insert hj, Finset.sum_insert hj, ← ih]; rfl

theorem due_bar (q : Fin 4) (d e : Dev nD) (k : Fin 16) : due q d k (bar e) () = 0 := by
  unfold due
  split
  · rfl
  · rw [tallyAt_apply, if_neg (fun h => cell_ne_bar _ _ _ _ h.1.symm)]
theorem due_other (q q' : Fin 4) (d e : Dev nD) (k k' : Fin 16) (h : q ≠ q') : due q d k (cell e q' k') () = 0 := by
  unfold due
  split
  · rfl
  · rw [tallyAt_apply, if_neg (fun h' => h (cell_inj h'.1).2.1.symm)]
theorem due_at (q : Fin 4) (d e : Dev nD) (k k' : Fin 16) :
    due q d k (cell e q k') () = N * (if pk k = d then 0 else if e = pk k ∧ k' = own d k then 1 else 0) := by
  unfold due
  split
  · rfl
  · rw [tallyAt_apply]
    by_cases h : e = pk k ∧ k' = own d k
    · rw [if_pos h, if_pos ⟨by rw [h.1, h.2], rfl⟩, Nat.mul_one]
    · rw [if_neg h, if_neg (fun h' => h ⟨(cell_inj h'.1).1, (cell_inj h'.1).2.2⟩), Nat.mul_zero]
theorem bar_at (d e : Dev nD) : tallyAt (bar d) () 1 (bar e) () = if e = d then 1 else 0 := by
  rw [tallyAt_apply]
  by_cases h : e = d
  · rw [if_pos h, if_pos ⟨by rw [h], rfl⟩]
  · rw [if_neg h, if_neg (fun h' => h (congrArg (fun g : GSem nD τ sig => g.1.1) h'.1))]
theorem bar_cell (d e : Dev nD) (q : Fin 4) (k : Fin 16) : tallyAt (bar d) () 1 (cell e q k) () = 0 := by
  rw [tallyAt_apply, if_neg (fun h => cell_ne_bar _ _ _ _ h.1)]

theorem owed_bar (d e : Dev nD) : O₀ d (bar e) () = ∑ o ∈ ov 1, if e = fwd d o then 1 else 0 := by
  show (dues 3 d 0) (bar e) () + (dues 1 d 0) (bar e) () + (bars d 1) (bar e) () = _
  unfold dues bars
  rw [sum_at, sum_at, sum_at, Finset.sum_eq_zero fun k _ => due_bar 3 d e k, Finset.sum_eq_zero fun k _ => due_bar 1 d e k, Nat.zero_add, Nat.zero_add]
  exact Finset.sum_congr rfl fun o _ => bar_at _ _
theorem owed_cell (q : Fin 4) (hq : q = 1 ∨ q = 3) (d e : Dev nD) (k' : Fin 16) :
    O₀ d (cell e q k') () = N * ∑ k ∈ iv 0 16, if pk k = d then 0 else if e = pk k ∧ k' = own d k then 1 else 0 := by
  show (dues 3 d 0) (cell e q k') () + (dues 1 d 0) (cell e q k') () + (bars d 1) (cell e q k') () = _
  unfold dues bars
  rw [sum_at, sum_at, sum_at, Finset.sum_eq_zero (s := ov 1) fun o _ => bar_cell _ _ _ _, Nat.add_zero, Finset.mul_sum]
  rcases hq with rfl | rfl
  · rw [Finset.sum_eq_zero fun k _ => due_other 3 1 d e k k' (by decide), Nat.zero_add]
    exact Finset.sum_congr rfl fun k _ => due_at _ _ _ _ _
  · rw [Finset.sum_eq_zero (f := fun k => due 1 d k (cell e 3 k') ()) fun k _ => due_other 1 3 d e k k' (by decide), Nat.add_zero]
    exact Finset.sum_congr rfl fun k _ => due_at _ _ _ _ _

theorem count_bar : ∀ e : Dev nD, (∑ d : Dev nD, ∑ o ∈ ov 1, if e = fwd d o then 1 else 0) = 7 := by decide +kernel
theorem count_cell : ∀ (e : Dev nD) (k' : Fin 16),
    (∑ d : Dev nD, ∑ k ∈ iv 0 16, if pk k = d then 0 else if e = pk k ∧ k' = own d k then 1 else 0) = if pk k' = e then 0 else 1 := by decide +kernel

theorem launch_bar (e : Dev nD) :
    tallyOn (bar e) (launchCredit (Pipeline.owing O₀) 0 (bar e)) = (tallyAt (bar e) () 7 : CellTallies nD τ sig Unit) := by
  unfold tallyAt; refine congrArg _ (Finsupp.ext fun u => ?_); cases u
  rw [Pipeline.launchCredit_owing, Finsupp.single_eq_same, Finset.sum_congr rfl fun d _ => owed_bar d e, count_bar]
theorem launch_cell (q : Fin 4) (hq : q = 1 ∨ q = 3) (e : Dev nD) (k : Fin 16) (h : pk k ≠ e) :
    tallyOn (cell e q k) (launchCredit (Pipeline.owing O₀) 0 (cell e q k)) = (tallyAt (cell e q k) () N : CellTallies nD τ sig Unit) := by
  unfold tallyAt; refine congrArg _ (Finsupp.ext fun u => ?_); cases u
  rw [Pipeline.launchCredit_owing, Finsupp.single_eq_same, Finset.sum_congr rfl fun d _ => owed_cell q hq d e k, ← Finset.mul_sum, count_cell,
    if_neg h, Nat.mul_one]

theorem drop13 {M : Type} [URA M] {P Q R S Q' S' : sProp M} (h : Q ⊢ Q') (h' : S ⊢ S') : iprop(P ∗ Q ∗ R ∗ S) ⊢ iprop(Q' ∗ S') := by
  iintro ⟨-, a, -, b⟩
  isplitl [a]; · iapply h; iexact a
  iapply h'; iexact b
theorem funds_of : (Pipeline.launchCred O₀ c : sProp 𝕄) ⊢ funds (F := F) c := by
  have hk : ∀ q : Fin 4, q = 1 ∨ q = 3 →
      (bigSep (iv 0 16) (fun k => cred (tallyOn (cell c q k) (launchCredit (Pipeline.owing O₀) 0 (cell c q k)))) : sProp 𝕄)
        ⊢ bigSep (iv 0 16) (fun k => if pk k = c then iprop(emp) else (cred (tallyAt (cell c q k) () N) : sProp 𝕄)) := fun q hq =>
    bigSep_mono fun k _ => show (cred (tallyOn (cell c q k) (launchCredit (Pipeline.owing O₀) 0 (cell c q k))) : sProp 𝕄)
        ⊢ (if pk k = c then iprop(emp) else (cred (tallyAt (cell c q k) () N) : sProp 𝕄)) from by
      by_cases h : pk k = c
      · rw [if_pos h]
        iintro -
        iempintro
      · rw [if_neg h, launch_cell q hq c k h]
  have hs : (Finset.univ.map ⟨osem, osem_inj⟩ : Finset (SemLoc sig)) ⊆ Finset.univ.erase (SemLoc.reg barrier0) := fun s hs => by
    obtain ⟨x, -, rfl⟩ := Finset.mem_map.mp hs
    exact Finset.mem_erase.mpr ⟨osem_ne_bar x, Finset.mem_univ _⟩
  have hm : (bigSep (Finset.univ.map ⟨osem, osem_inj⟩)
        (fun sm : SemLoc sig => cred (tallyOn ((c : Thread nD τ), sm) (launchCredit (Pipeline.owing O₀) 0 ((c : Thread nD τ), sm)))) : sProp 𝕄)
      = iprop(bigSep (iv 0 16) (fun k => cred (tallyOn (cell c 0 k) (launchCredit (Pipeline.owing O₀) 0 (cell c 0 k))))
        ∗ bigSep (iv 0 16) (fun k => cred (tallyOn (cell c 1 k) (launchCredit (Pipeline.owing O₀) 0 (cell c 1 k))))
        ∗ bigSep (iv 0 16) (fun k => cred (tallyOn (cell c 2 k) (launchCredit (Pipeline.owing O₀) 0 (cell c 2 k))))
        ∗ bigSep (iv 0 16) (fun k => cred (tallyOn (cell c 3 k) (launchCredit (Pipeline.owing O₀) 0 (cell c 3 k))))) := by
    rw [bigSep_map]
    exact fam64 (fun q k => (cred (tallyOn (cell c q k) (launchCredit (Pipeline.owing O₀) 0 (cell c q k))) : sProp 𝕄))
  unfold Pipeline.launchCred funds
  rw [bigSep_univ_at _ (SemLoc.reg barrier0), launch_bar]
  refine sep_mono_right ((bigSep_subset hs).trans ?_)
  rw [hm]
  exact drop13 (hk 1 (.inl rfl)) (hk 3 (.inr rfl))

end Cert.Mesh

end
-- ==== Proof.Region.lean ====
/-
  The pallas_call as a segment of the program: its buffers, its body, what it takes from the launch and what it leaves.
-/
module

public import proofs.«01_k».proof.Proof.Deal
public import proofs.«01_k».proof.Proof.Gen.KernelIdeal.Regions
public import proofs.«01_k».proof.Proof.Gen.KernelIdeal.Points
public import Idealize.ShloMosaic.Lib.Pipeline.RegionTalk

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What the call reads on each device. -/
def inp (c : Dev nD) : Inp F :=
  ⟨V1 m c main_v16, V1 m c main_arg1, V1 m c main_arg2, V1 m c main_v11, V1 m c main_v15⟩

/-- The buffers after the call: the result as computed, the others as they were. -/
def W2 (c : Dev nD) : Valuation τ sig (Elt F) := Function.update (V1 m c) (Proc.devRef .tc main_v17) (outV (inp m))
def left : Outs (F := F) := fun _ r c => W2 m c r

theorem W2_out (c : Dev nD) : W2 m c main_v17 = outV (inp m) := Function.update_self ..
theorem W2_eq (c : Dev nD) : V2 m (left m) c = W2 m c := by
  show Function.update (V1 m c) (Proc.devRef .tc main_v17) (W2 m c main_v17) = _
  rw [W2_out]; rfl
theorem W2_of (c : Dev nD) (b : DevRef τ sig) (h : b ≠ Proc.devRef .tc main_v17) : W2 m c b = V1 m c b := Function.update_of_ne h ..

/-- What the body starts from, and what it ends with. -/
def before (c : Dev nD) : sProp 𝕄 := iprop((∃ K, invs (inp m) K) ∗ gh (F := F) c ∗ levAts L lv ∗ scr (F := F) c ∗ ∃ r, prngReg c r)
def behind (c : Dev nD) : sProp 𝕄 := iprop(scr (F := F) c ∗ zeros (F := F) c ∗ ∃ r, prngReg c r)

/-- The call's proof data. -/
def dat0 (c : Dev nD) : Dat τ (Elt F) Unit ℕ UU ℕ cfg0 c where
  A w := match w with
    | ⟨0, _⟩ => V1 m c main_v16
    | ⟨1, _⟩ => V1 m c main_arg1
    | ⟨2, _⟩ => V1 m c main_arg2
    | ⟨3, _⟩ => V1 m c main_v11
    | ⟨4, _⟩ => V1 m c main_v15
    | ⟨5, _⟩ => V1 m c main_v17
  after w _ := match w with
    | ⟨0, _⟩ => (inp m c).x
    | ⟨1, _⟩ => (inp m c).wq
    | ⟨2, _⟩ => (inp m c).wo
    | ⟨3, _⟩ => (inp m c).k
    | ⟨4, _⟩ => (inp m c).v
    | ⟨5, _⟩ => outV (inp m)
  Φ t := if t.val = 0 then before m c else behind c
  q _ := fullShare
  owed t := if t.val = 0 then O₀ c else 0

def pdats : (p : Fin 1) → (c : Dev nD) → Dat τ (Elt F) Unit ℕ UU ℕ (Pipeline.pin (pcfgs (F := F)) adm p) c
  | 0 => dat0 m

/-! ## The windows -/

theorem block0 (f : main_v16.ty.Contents (Elt F)) : (win0_0.blk t0_0).view.read (Elt F) f = f := by
  have hz : (fun a => (win0_0.index t0_0) a * main_v16.ty.shape.size a) = fun _ => 0 := funext fun a => by fin_cases a <;> decide
  have hb : ∀ a, (win0_0.index t0_0) a * main_v16.ty.shape.size a + main_v16.ty.shape.size a ≤ main_v16.ty.shape.size a := fun a => by fin_cases a <;> decide
  exact Memref.read_access_unit_zero (Elt F) main_v16 hz hb f
theorem fetched0 (c : Dev nD) (d) : (dat0 m c).before 0 t0_0 d = (win0_0.blk t0_0).view.read (Elt F) (V1 m c main_v16) := by
  unfold Dat.before; rw [if_pos (fetch0_0 t0_0)]; rfl
theorem before0 (c : Dev nD) (d) : (dat0 m c).before 0 t0_0 d = (inp m c).x := (fetched0 m c d).trans (block0 _)
theorem block1 (f : main_arg1.ty.Contents (Elt F)) : (win0_1.blk t0_0).view.read (Elt F) f = f := by
  have hz : (fun a => (win0_1.index t0_0) a * main_arg1.ty.shape.size a) = fun _ => 0 := funext fun a => by fin_cases a <;> decide
  have hb : ∀ a, (win0_1.index t0_0) a * main_arg1.ty.shape.size a + main_arg1.ty.shape.size a ≤ main_arg1.ty.shape.size a := fun a => by fin_cases a <;> decide
  exact Memref.read_access_unit_zero (Elt F) main_arg1 hz hb f
theorem fetched1 (c : Dev nD) (d) : (dat0 m c).before 1 t0_0 d = (win0_1.blk t0_0).view.read (Elt F) (V1 m c main_arg1) := by
  unfold Dat.before; rw [if_pos (fetch0_1 t0_0)]; rfl
theorem before1 (c : Dev nD) (d) : (dat0 m c).before 1 t0_0 d = (inp m c).wq := (fetched1 m c d).trans (block1 _)
theorem block2 (f : main_arg2.ty.Contents (Elt F)) : (win0_2.blk t0_0).view.read (Elt F) f = f := by
  have hz : (fun a => (win0_2.index t0_0) a * main_arg2.ty.shape.size a) = fun _ => 0 := funext fun a => by fin_cases a <;> decide
  have hb : ∀ a, (win0_2.index t0_0) a * main_arg2.ty.shape.size a + main_arg2.ty.shape.size a ≤ main_arg2.ty.shape.size a := fun a => by fin_cases a <;> decide
  exact Memref.read_access_unit_zero (Elt F) main_arg2 hz hb f
theorem fetched2 (c : Dev nD) (d) : (dat0 m c).before 2 t0_0 d = (win0_2.blk t0_0).view.read (Elt F) (V1 m c main_arg2) := by
  unfold Dat.before; rw [if_pos (fetch0_2 t0_0)]; rfl
theorem before2 (c : Dev nD) (d) : (dat0 m c).before 2 t0_0 d = (inp m c).wo := (fetched2 m c d).trans (block2 _)
theorem block3 (f : main_v11.ty.Contents (Elt F)) : (win0_3.blk t0_0).view.read (Elt F) f = f := by
  have hz : (fun a => (win0_3.index t0_0) a * main_v11.ty.shape.size a) = fun _ => 0 := funext fun a => by fin_cases a <;> decide
  have hb : ∀ a, (win0_3.index t0_0) a * main_v11.ty.shape.size a + main_v11.ty.shape.size a ≤ main_v11.ty.shape.size a := fun a => by fin_cases a <;> decide
  exact Memref.read_access_unit_zero (Elt F) main_v11 hz hb f
theorem fetched3 (c : Dev nD) (d) : (dat0 m c).before 3 t0_0 d = (win0_3.blk t0_0).view.read (Elt F) (V1 m c main_v11) := by
  unfold Dat.before; rw [if_pos (fetch0_3 t0_0)]; rfl
theorem before3 (c : Dev nD) (d) : (dat0 m c).before 3 t0_0 d = (inp m c).k := (fetched3 m c d).trans (block3 _)
theorem block4 (f : main_v15.ty.Contents (Elt F)) : (win0_4.blk t0_0).view.read (Elt F) f = f := by
  have hz : (fun a => (win0_4.index t0_0) a * main_v15.ty.shape.size a) = fun _ => 0 := funext fun a => by fin_cases a <;> decide
  have hb : ∀ a, (win0_4.index t0_0) a * main_v15.ty.shape.size a + main_v15.ty.shape.size a ≤ main_v15.ty.shape.size a := fun a => by fin_cases a <;> decide
  exact Memref.read_access_unit_zero (Elt F) main_v15 hz hb f
theorem fetched4 (c : Dev nD) (d) : (dat0 m c).before 4 t0_0 d = (win0_4.blk t0_0).view.read (Elt F) (V1 m c main_v15) := by
  unfold Dat.before; rw [if_pos (fetch0_4 t0_0)]; rfl
theorem before4 (c : Dev nD) (d) : (dat0 m c).before 4 t0_0 d = (inp m c).v := (fetched4 m c d).trans (block4 _)

theorem block5 (f : main_v17.ty.Contents (Elt F)) : (win0_5.blk t0_0).view.read (Elt F) f = f := by
  have hz : (fun a => (win0_5.index t0_0) a * main_v17.ty.shape.size a) = fun _ => 0 := funext fun a => by fin_cases a <;> decide
  have hb : ∀ a, (win0_5.index t0_0) a * main_v17.ty.shape.size a + main_v17.ty.shape.size a ≤ main_v17.ty.shape.size a := fun a => by fin_cases a <;> decide
  exact Memref.read_access_unit_zero (Elt F) main_v17 hz hb f

/-- The result's array ends at what the body left. -/
theorem arr_out (c : Dev nD) : (dat0 m c).arrAt 5 cfg0.N = outV (inp m) := by
  rw [show cfg0.N = (t0_0 : Fin cfg0.N).val + 1 from N_0, (dat0 m c).arrAt_succ 5 t0_0]
  rw [show (cfg0.win 5).flush t0_0 = true from flush0_5 t0_0, if_pos rfl]
  refine (block5 _).symm.trans ?_
  exact View.read_write_univ _ _

theorem arr_in (c : Dev nD) (w : Fin 6) (h : w ≠ 5) : (dat0 m c).arrAt w cfg0.N = (dat0 m c).A w :=
  (dat0 m c).arrAt_in w (by revert w; decide) _

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_in {c : Dev nD} (t : Fin (cfg0.N + 1)) (O : CellTallies nD τ sig Unit) (h : (dat0 m c).owed t = O) :
    ow (F := F) c O ⊢ ((dat0 m c).owesAt () t : sProp 𝕄) := by
  unfold ow Dat.owesAt Pipeline.owesWithin Dat.bound; rw [h]
  iintro ⟨%W, HO⟩; iexists W; isplitr; · ipureintro; exact fun _ _ => Or.inl trivial
  iexact HO
theorem owes_out {c : Dev nD} (t : Fin (cfg0.N + 1)) (O : CellTallies nD τ sig Unit) (h : (dat0 m c).owed t = O) :
    ((dat0 m c).owesAt () t : sProp 𝕄) ⊢ ow (F := F) c O := by
  unfold ow Dat.owesAt Pipeline.owesWithin; rw [h]
  iintro ⟨%W, -, HO⟩; iexists W; iexact HO

theorem owed_first (c : Dev nD) : (dat0 m c).owed t0_0.castSucc = O₀ c := by
  show (if (t0_0.castSucc : Fin (cfg0.N + 1)).val = 0 then O₀ c else 0) = O₀ c; exact if_pos rfl
theorem owed_zero (c : Dev nD) : (dat0 m c).owed 0 = O₀ c := by
  show (if (0 : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem phi_first (c : Dev nD) : (dat0 m c).Φ 0 = before m c := by
  show (if (0 : Fin (cfg0.N + 1)).val = 0 then before m c else behind c) = _; exact if_pos rfl
theorem phi_last (c : Dev nD) : (dat0 m c).Φ (Fin.last cfg0.N) = behind c := by
  show (if (Fin.last cfg0.N).val = 0 then before m c else behind c) = _
  rw [if_neg (by rw [Fin.val_last, show cfg0.N = 1 from N_0]; decide)]

/-! ## The body -/

set_option maxHeartbeats 1600000 in
theorem body_obl (c : Dev nD) : BodyObligation (dat0 m c) defs₀ 𝒱₀ () Set.univ := fun t => by
  obtain rfl := fin_N0 t
  rw [bigSep_W0, bigSep_W0]
  simp only [owns_whole]
  rw [show (dat0 m c).Φ t0_0.castSucc = before m c from phi_first m c, show (dat0 m c).Φ t0_0.succ = behind c from phi_last m c]
  unfold before behind
  iintro ⟨⟨⟨%K, HI⟩, Hg, HL, Hs, Hr⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before0] at h0
  rw [before1] at h1
  rw [before2] at h2
  rw [before3] at h3
  rw [before4] at h4
  subst h0 h1 h2 h3 h4
  ihave HO := (owes_out m _ (O₀ c) (owed_first m c)) $$ HO
  iapply (body_run (inp m) K c _) $$ [HI Hg HL Hs HO H0 H1 H2 H3 H4 H5]
  · isplitl [HI]; · iexact HI
    isplitl [HL]; · iexact HL
    isplitl [H0 H1 H2 H3 H4]
    · unfold ins
      isplitl [H0]; · iexact H0
      isplitl [H1]; · iexact H1
      isplitl [H2]; · iexact H2
      isplitl [H3] <;> iassumption
    isplitl [H5]; · iexists f5; iexact H5
    isplitl [Hs]; · iexact Hs
    isplitl [Hg] <;> iassumption
  unfold ins
  iintro ⟨⟨H0, H1, H2, H3, H4⟩, H5, Hs, Hz, HO⟩
  isplitl [Hs Hz Hr]
  · isplitl [Hs]; · iexact Hs
    isplitl [Hz] <;> iassumption
  isplitl [HO]; · iapply (owes_in m t0_0.succ 0 (owed_last m c)); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; rfl

/-! ## The segment -/

/-- What the call takes from the launch, and what it has opened. -/
def Tk (c : Dev nD) : sProp 𝕄 := iprop((∃ K, invs (inp m) K) ∗ ready (F := F) ∗ share (F := F) c ∗ funds (F := F) c)
def Xk (c : Dev nD) : sProp 𝕄 := iprop((∃ K, invs (inp m) K) ∗ gh (F := F) c ∗ levAts L lv)
def Yk (c : Dev nD) : sProp 𝕄 := semVal (bar c) 0

/-- The buffers of the program that are no array of the call. -/
def rest : Finset (DevRef τ sig) := Pipeline.ucRefs τ sig \ Pipeline.arrRefs (τ := τ) (pcfgs (F := F) 0).spec

theorem opened (c : Dev nD) : iprop(Tk m c ∗ Pipeline.ownSems0 osem c ∗ levAts L lv) ⊢ (|={Set.univ}=> Xk m c : sProp 𝕄) := by
  unfold Tk Xk
  iintro ⟨⟨⟨%K, #HI⟩, #HR, Hs, Hf⟩, Ho, HL⟩
  imod (gh_of (inp m) K c) $$ [Hs Hf Ho] with H
  · isplitr; · iexact HI
    isplitr; · iexact HR
    isplitl [Hs]; · iexact Hs
    isplitl [Hf] <;> iassumption
  imodintro
  isplitr; · iexists K; iexact HI
  isplitl [H] <;> iassumption

theorem entered (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ Xk m c)
    ⊢ (pdats m 0 c).Φ 0 := by
  rw [show (pdats m 0 c).Φ 0 = before m c from phi_first m c]
  unfold before Xk scr
  iintro ⟨Hs, Hp, -, HI, Hg, HL⟩
  isplitl [HI]; · iexact HI
  isplitl [Hg]; · iexact Hg
  isplitl [HL]; · iexact HL
  isplitl [Hs]; · iapply (Entails.of_eq (scopedRest0_eq c)); iexact Hs
  iexact Hp

theorem leaves (c : Dev nD) (W : Valuation τ sig (Elt F)) :
    (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ W
      ∗ Pipeline.ownSems0 osem c ∗ Yk c) := by
  rw [show (pdats m 0 c).Φ (Fin.last _) = behind c from phi_last m c]
  unfold behind Yk scr
  iintro ⟨Hs, Hz, Hp⟩
  ihave Hz := (zeros_own (F := F) c) $$ Hz
  icases Hz with ⟨Hb, Ho⟩
  isplitl [Hs]; · iapply (Entails.of_eq (scopedRest0_eq c).symm); iexact Hs
  isplitl [Hp]; · iexact Hp
  isplitr
  · unfold StableHlo.held; rw [BI.bigSep_empty]; iempintro
  isplitl [Ho] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O (c : Dev nD) : Above 0 (O₀ c) :=
  above_add (above_add (above_dues 0 3 c 0 (by decide)) (above_dues 0 1 c 0 (by decide)))
    (above_sum 0 _ _ fun o => fun g u h => by
      rw [tallyAt_apply] at h
      by_cases e : g = bar (fwd c o) ∧ u = ()
      · rw [e.1]; exact ⟨rfl, by rw [lv_bar]; decide⟩
      · rw [if_neg e] at h; exact absurd h (Nat.lt_irrefl 0))

theorem cutD (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · obtain ⟨h1, h2⟩ := above_O c g i h
    exact ⟨by unfold L; rw [if_pos h1]; exact Finset.mem_singleton_self _, h2⟩
  · exact absurd h (Nat.lt_irrefl 0)

theorem stage_lv : ∀ (w : Fin 6) (s : Fin (win0 w).nbuf), lvS (.dma ((win0 w).sem s)) ≤ 0 := by decide

theorem own_facts : Pipeline.OwnSemFacts spec0 osem where
  isScoped := by decide
  inj := osem_inj
  disj := by decide

theorem W_in (c : Dev nD) : ∀ w : Fin 6, (dat0 m c).A w = V1 m c (Proc.devRef .tc (Pipeline.arrRef spec0 w))
  | ⟨0, _⟩ => rfl | ⟨1, _⟩ => rfl | ⟨2, _⟩ => rfl | ⟨3, _⟩ => rfl | ⟨4, _⟩ => rfl | ⟨5, _⟩ => rfl
theorem W_out (c : Dev nD) (w : Fin 6) : (dat0 m c).arrAt w cfg0.N = W2 m c (Proc.devRef .tc (Pipeline.arrRef spec0 w)) := by
  by_cases h : w = 5
  · subst h
    exact (arr_out m c).trans (W2_out m c).symm
  · rw [arr_in m c w h, W_in]
    exact (W2_of m c _ (by revert w; decide)).symm

theorem rest_same (c : Dev nD) : ∀ b ∈ rest (F := F) \ (∅ : Finset (DevRef τ sig)), W2 m c b = V1 m c b := fun b hb => by
  refine W2_of m c b fun e => ?_
  subst e
  have h := (Finset.mem_sdiff.mp (Finset.mem_sdiff.mp hb).1).2
  exact h (Finset.mem_map.mpr ⟨main_v17, Finset.mem_image.mpr ⟨(5 : Fin 6), Finset.mem_univ _, rfl⟩, rfl⟩)

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem own_facts
    ∅ (rest (F := F)) (Finset.empty_subset _) kitP rfl (fun c => (body_obl m c).loose)
    (fun _ => 0) O₀ (fun c => (owed_zero m c).trans (zero_add _).symm) (owed_last m) (fun _ => rfl) (fun c => (pdats m 0 c).share_full fun _ => rfl)
    (V1 m) (W2 m) (rest_same m)
    (Tk m) Yk (Xk m) Yk (opened m) (fun c => entered m c _) (fun c => leaves m c _)
    (fun c => by iintro H; imodintro; iexact H)
    (fun _ => 0)
    ⟨fun c w s => by rw [L_tc]; exact Finset.mem_singleton_self _, fun c w s => stage_lv w s, fun c t g i h => cutD m c t g i h⟩
    (fun _ => iprop(emp))
    (fun c w => W_in m c w) (fun c w => W_out m c w)

/-- All the program's buffers are the call's arrays beside the rest. -/
theorem all_bufs (c : Dev nD) (W : Valuation τ sig (Elt F)) :
    (StableHlo.held (c : Thread nD τ) (Pipeline.ucRefs τ sig) W : sProp 𝕄)
      = iprop(StableHlo.held (c : Thread nD τ) (Pipeline.arrRefs (τ := τ) (pcfgs (F := F) 0).spec) W ∗ StableHlo.held (c : Thread nD τ) (rest (F := F)) W) :=
  StableHlo.held_sub_split (c : Thread nD τ) (show Pipeline.arrRefs (τ := τ) spec0 ⊆ Pipeline.ucRefs τ sig from by decide) W

theorem reg_pre (c : Dev nD) :
    iprop(StableHlo.held (c : Thread nD τ) (Pipeline.ucRefs τ sig) (V1 m c) ∗ (Tk m c ∗ (∃ r, prngReg c r) ∗ ow (F := F) c (O₀ c))) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (rest (F := F)) (V1 m c) ∗ emp) ∗ Tk m c ∗ ∃ Wd, owes (c : Thread nD τ) (0 + O₀ c) Wd)
  rw [all_bufs, zero_add]
  unfold ow
  iintro ⟨⟨Ha, Hb⟩, Ht, Hp, HO⟩
  isplitl [Ha]; · iexact Ha
  isplitl [Hp]; · iexact Hp
  isplitl [Hb]
  · isplitl [Hb]; · iexact Hb
    iempintro
  isplitl [Ht] <;> iassumption

theorem reg_post (c : Dev nD) : (reg m).post c
    ⊢ iprop(StableHlo.held (c : Thread nD τ) (Pipeline.ucRefs τ sig) (W2 m c) ∗ (semVal (bar c) 0 ∗ ow (F := F) c 0)) := by
  show iprop(StableHlo.held (c.tc : Thread nD τ) (Pipeline.arrRefs (τ := τ) (pcfgs (F := F) 0).spec) (W2 m c) ∗ (∃ r, prngReg c r)
    ∗ (StableHlo.held (c.tc : Thread nD τ) (rest (F := F)) (W2 m c) ∗ emp) ∗ Yk c ∗ ∃ Wd, owes (c : Thread nD τ) (0 : CellTallies nD τ sig Unit) Wd) ⊢ _
  rw [all_bufs]
  unfold Yk ow
  iintro ⟨Ha, -, ⟨Hb, -⟩, Hy, HO⟩
  isplitl [Ha Hb]
  · isplitl [Ha] <;> iassumption
  isplitl [Hy] <;> iassumption

end Cert.Mesh

end
-- ==== Proof.Run.lean ====
/-
  The whole program's run: the launch deals every device its start, the call runs, and the end is read off.
-/
module

public import proofs.«01_k».proof.Proof.Region
public import Idealize.ShloMosaic.Harness.Basic

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Idealize.ShloMosaic.Pipeline (Dat Cfg BodyObligation cellOf Seg HostSeg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost state -/

def u₀ : UU :=
  (initOf (Pipeline.cells (Pipeline.pin (pcfgs (F := F)) adm) cellOf_inj) (Pipeline.launchToks (Pipeline.pin (pcfgs (F := F)) adm) cellOf_inj),
    launchOf barCells celCells toks)

/-- The kernel's ghost state, given whole to the first device. -/
def deal (c : Dev nD) : sProp 𝕄 := if c = 0 then BI.own (ER (launchOf barCells celCells toks)) else iprop(emp)

theorem deal_all : bigSep Finset.univ (deal (F := F)) = (BI.own (ER (launchOf barCells celCells toks)) : sProp 𝕄) := by
  rw [bigSep_univ_at _ (0 : Dev nD),
    show bigSep (Finset.univ.erase (0 : Dev nD)) (deal (F := F)) = (iprop(emp) : sProp 𝕄) from by
      rw [bigSep_congr (s := Finset.univ.erase (0 : Dev nD)) (Ψ := fun _ => (BI.emp : sProp 𝕄)) fun c hc => by unfold deal; rw [if_neg (Finset.ne_of_mem_erase hc)]; rfl]
      exact BI.bigSep_emp_const _]
  unfold deal; rw [if_pos rfl]
  exact BI.equiv_iff.mp sep_emp

theorem hu₀ : (ownU (u₀ (F := F)) : sProp 𝕄)
    ⊢ |={Set.univ}=> iprop(BI.own (EP (F := F) (initOf (Pipeline.cells (Pipeline.pin (pcfgs (F := F)) adm) cellOf_inj)
        (Pipeline.launchToks (Pipeline.pin (pcfgs (F := F)) adm) cellOf_inj))) ∗ bigSep Finset.univ (deal (F := F))) := by
  unfold u₀
  iintro Hu
  ihave H := (ownU_pair _ _) $$ Hu
  icases H with ⟨HP, HX⟩
  imodintro
  isplitl [HP]; · iexact HP
  rw [deal_all]; iexact HX

/-! ## What each device starts with -/

def start (c : Dev nD) : sProp 𝕄 := iprop(Tk m c ∗ (∃ r, prngReg c r) ∗ ow (F := F) c (O₀ c))
def stop (c : Dev nD) : sProp 𝕄 := iprop(semVal (bar c) 0 ∗ ow (F := F) c 0)
def between (j : Fin 2) (c : Dev nD) : sProp 𝕄 := if j = 0 then start m c else stop c

/-- What of a device's launch holdings is not the kernel's ghost state. -/
def purse (c : Dev nD) : sProp 𝕄 := iprop(funds (F := F) c ∗ (∃ r, prngReg c r) ∗ ow (F := F) c (O₀ c))

def known (κ : GSem nD τ sig → ℕ) : sProp 𝕄 := iprop(invs (inp m) κ ∗ ready (F := F))
instance known_persistent (κ : GSem nD τ sig → ℕ) : BI.Persistent (known m κ) := by unfold known; infer_instance

theorem start_of (κ : GSem nD τ sig → ℕ) (c : Dev nD) : iprop(known m κ ∗ (share (F := F) c ∗ purse (F := F) c)) ⊢ start m c := by
  unfold known purse start Tk
  iintro ⟨⟨#HI, #HR⟩, Hs, Hf, Hp, HO⟩
  isplitl [Hs Hf]
  · isplitr; · iexists κ; iexact HI
    isplitr; · iexact HR
    isplitl [Hs] <;> iassumption
  isplitl [Hp] <;> iassumption

theorem bars_only (c : Dev nD) : (unscopedSems0 c : sProp 𝕄) = semVal (bar c) 0 := by
  unfold unscopedSems0
  rw [show (Finset.univ.filter fun sm : SemLoc sig => ¬ sm.isScoped .tc) = {SemLoc.reg barrier0} from by decide, BI.bigSep_singleton]

theorem unscoped_eq : ∀ sm : SemLoc sig, sm.isScoped .tc = false → sm = .reg barrier0 := by decide

theorem core_of (c : Dev nD) :
    iprop(unscopedSems0 c ∗ owes (c : Thread nD τ) (O₀ c) ∅ ∗ Pipeline.launchCred O₀ c ∗ prngReg c (ρ c) ∗ deal (F := F) c)
      ⊢ (iprop(purse (F := F) c ∗ (semVal (bar c) 0 ∗ deal (F := F) c)) : sProp 𝕄) := by
  rw [bars_only]
  unfold purse ow
  iintro ⟨Hus, HO, Hcr, Hp, HG⟩
  ihave Hc := (funds_of (F := F) c) $$ Hcr
  isplitl [Hc HO Hp]
  · isplitl [Hc]; · iexact Hc
    isplitl [Hp]; · iexists (ρ c); iexact Hp
    iexists ∅; iexact HO
  isplitl [Hus] <;> iassumption

theorem deal_shares :
    iprop(bigSep barCells (fun g => (atPos ER g 0 ∅ 0 : sProp 𝕄)) ∗ bigSep celCells (fun g => (openTok ER g : sProp 𝕄))
        ∗ bigSep toks (fun x => (dutyTok ER x.1 x.2.1 x.2.2 : sProp 𝕄)))
      ⊢ bigSep Finset.univ (share (F := F)) := by
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep celCells (fun g => (openTok ER g : sProp 𝕄))
      ⊢ bigSep Finset.univ (fun c : Dev nD => bigSep Finset.univ (fun x : Fin 4 × Fin 16 => (openTok ER (cell c x.1 x.2) : sProp 𝕄))) :=
    Entails.of_eq (by rw [bigSep_map, bigSep_univ_prod]; rfl)
  have htok : bigSep toks (fun x => (dutyTok ER x.1 x.2.1 x.2.2 : sProp 𝕄))
      ⊢ iprop(bigSep (Finset.univ.map tokB0) (fun x => (dutyTok ER x.1 x.2.1 x.2.2 : sProp 𝕄))
        ∗ bigSep Finset.univ fun c : Dev nD => iprop(bigSep (iv 0 16) (fun k => pay (F := F) c k 0 1) ∗ bigSep (iv 0 16) (fun k => pay (F := F) c k 2 3))) := by
    unfold toks; rw [bigSep_union apart_toks, toks_cells]; exact Entails.refl _
  unfold share
  iintro ⟨Ha, Ho, Ht⟩
  ihave Ht := htok $$ Ht
  icases Ht with ⟨Hb, Hc⟩
  iapply bigSep_pair; isplitl [Ha]; · iapply hat $$ Ha
  iapply bigSep_pair; isplitl [Ho]; · iapply hopen $$ Ho
  iapply bigSep_pair; isplitl [Hc]; · iexact Hc
  iapply (toks_bars (F := F)); iexact Hb

theorem starts :
    iprop((bigSep Finset.univ fun c : Dev nD => iprop(unscopedSems0 c ∗ owes (c : Thread nD τ) (O₀ c) ∅ ∗ Pipeline.launchCred O₀ c
          ∗ prngReg c (ρ c) ∗ deal (F := F) c)) ∗ levAts L lv)
      ⊢ (|={Set.univ}=> bigSep Finset.univ (start m) : sProp 𝕄) := by
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ ready (F := F) :=
    Entails.of_eq (bigSep_map (s := Finset.univ) barEmb (Φ := fun g : GSem nD τ sig => (reached ER g 0 : sProp 𝕄)))
  iintro ⟨H, -⟩
  ihave H' := (show (bigSep Finset.univ fun c : Dev nD => iprop(unscopedSems0 c ∗ owes (c : Thread nD τ) (O₀ c) ∅ ∗ Pipeline.launchCred O₀ c
          ∗ prngReg c (ρ c) ∗ deal (F := F) c))
      ⊢ (bigSep Finset.univ fun c : Dev nD => iprop(purse (F := F) c ∗ (semVal (bar c) 0 ∗ deal (F := F) c)) : sProp 𝕄) from
    bigSep_mono fun c _ => core_of ρ c) $$ H
  ihave H2 := bigSep_unpair $$ H'; icases H2 with ⟨HB, H3⟩
  ihave H4 := bigSep_unpair $$ H3; icases H4 with ⟨Hv, HG⟩
  ihave Hu := (show bigSep Finset.univ (deal (F := F)) ⊢ BI.own (ER (launchOf barCells celCells toks)) from
    Entails.of_eq (deal_all (F := F))) $$ HG
  imod (Rounds.fund_launch ER (rd (inp m)) apart_cells (fun g _ h => h) toks) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(share (F := F) c ∗ purse (F := F) c)) fun c _ => start_of m κ c)
  isplitr
  · unfold known
    isplitr
    · rw [← invs_of]; iexact Hinv
    iapply hr; iexact Hr
  iapply bigSep_pair
  isplitr [HB]
  · iapply (deal_shares (F := F))
    isplitl [Hat]; · iexact Hat
    isplitl [Hopen] <;> iassumption
  · iexact HB

/-! ## The run -/

def kept (c : Dev nD) (s : ((ℓ : Loc nD τ sig) → Buf (Elt F) ℓ)) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)

/-- What the program's result buffer ends as. -/
def result (c : Dev nD) : Buf (Elt F) ((c.tc : Thread nD τ).loc main_v18) := StableHlo.after hostOps1 (W2 m c) main_v18

theorem result_eq (c : Dev nD) : V3 m (left m) c main_v18 = result m c := by
  unfold result; show StableHlo.after hostOps1 (V2 m (left m) c) _ = _; rw [W2_eq]

set_option backward.isDefEq.respectTransparency.types false in
theorem run_main : θ_run defs (onTc (τ := τ) (main (F := F))) ⟨m, fun _ => 0, ρ⟩
    (fun r => (∀ c : Dev nD, kept m c r.2.mem ∧ r.2.mem ((c.tc : Thread nD τ).loc main_v18) = result m c) ∧ r.2.sem = fun _ => 0) := by
  refine Pipeline.θ_run_regions_kit_dev_sems (pcfgs (F := F)) adm (pdats m) () cellOf_inj (EP (F := F)) defs₀ 𝒱₀ L lv m ρ main
    (segs m (left m) 𝒱₀ L lv (between m) () (pdats m) (reg m))
    (fun c Q => by
      rewrite [main_chain c, Seg.run_eq_chain,
        show (segs m (left m) 𝒱₀ L lv (between m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne (deal (F := F)) (u₀ (F := F)) hu₀
    (T₀ := fun c => iprop(StableHlo.held (c : Thread nD τ) (Pipeline.ucRefs τ sig) (V0 m c) ∗ start m c))
    (Tₙ := fun c => iprop(StableHlo.held (c : Thread nD τ) (Pipeline.ucRefs τ sig) (V3 m (left m) c) ∗ semVal (bar c) 0))
    (hch := fun c => ⟨.rfl, reg_pre m c, (reg_post m c).trans (by rw [← W2_eq]; exact .rfl), ?_⟩)
    (hinit := ?_) (QY := fun c s => (kept m c s.mem ∧ s.mem ((c.tc : Thread nD τ).loc main_v18) = result m c) ∧ s.sem (bar c) = 0)
    (hfin := fun c s' => ?_) (hQ := fun s h hs => ⟨fun c => (h c).1, sem_eq_zero hs fun c sm hsm => by
        obtain rfl := unscoped_eq sm hsm
        exact (h c).2⟩)
  · show iprop(StableHlo.held (c : Thread nD τ) (Pipeline.ucRefs τ sig) (V3 m (left m) c) ∗ stop c)
        ⊢ iprop((StableHlo.held (c : Thread nD τ) (Pipeline.ucRefs τ sig) (V3 m (left m) c) ∗ semVal (bar c) 0) ∗ ∃ W, owes (c : Thread nD τ) (0 : CellTallies nD τ sig Unit) W)
    unfold stop ow
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ deal (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c
              ∗ prngReg c (ρ c) ∗ deal (F := F) c)) : sProp 𝕄) := by
      rw [← bigSep_sep']
      exact bigSep_mono fun c _ => by rw [← Pipeline.unscopedBufs_held c (V0 m c)]; exact BI.Entails.refl _
    iintro ⟨H, Hla⟩
    ihave H' := hsplit $$ H
    icases H' with ⟨Hh, Hr⟩
    imod (starts m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (left m) c) s') $$ [Hh HSI]
    · isplitl [Hh] <;> iassumption
    icases Hr with ⟨%h, HSI⟩
    imodintro
    isplitr
    · ipureintro
      refine ⟨⟨⟨?_, ?_, ?_, ?_, ?_⟩, ?_⟩, by simpa using hb⟩
      · exact (h (Proc.devRef .tc main_arg0) (Finset.mem_filter.mpr ⟨StableHlo.devRef_mem_tcRefs main_arg0, by decide⟩)).trans (V3_main_arg0 m (left m) c)
      · exact (h (Proc.devRef .tc main_arg1) (Finset.mem_filter.mpr ⟨StableHlo.devRef_mem_tcRefs main_arg1, by decide⟩)).trans (V3_main_arg1 m (left m) c)
      · exact (h (Proc.devRef .tc main_arg2) (Finset.mem_filter.mpr ⟨StableHlo.devRef_mem_tcRefs main_arg2, by decide⟩)).trans (V3_main_arg2 m (left m) c)
      · exact (h (Proc.devRef .tc main_arg3) (Finset.mem_filter.mpr ⟨StableHlo.devRef_mem_tcRefs main_arg3, by decide⟩)).trans (V3_main_arg3 m (left m) c)
      · exact (h (Proc.devRef .tc main_arg4) (Finset.mem_filter.mpr ⟨StableHlo.devRef_mem_tcRefs main_arg4, by decide⟩)).trans (V3_main_arg4 m (left m) c)
      · exact (h (Proc.devRef .tc main_v18) (Finset.mem_filter.mpr ⟨StableHlo.devRef_mem_tcRefs main_v18, by decide⟩)).trans (result_eq m c)
    · iexact HSI

end Cert.Mesh

end
-- ==== Proof.RefRun.lean ====
/-
  The reference program's run: one device, a straight line of array operations over the whole arrays.
-/
module

public import Idealize.ShloMosaic.Lib.StableHlo.Run
public import proofs.«01_k».proof.Proof.Gen.ReferenceIdeal

@[expose] public section

noncomputable section

namespace Cert.Whole

open Cert.ReferenceIdeal Cert.ReferenceIdeal.Gen
open Idealize.ShloMosaic Idealize.ShloMosaic.TcCoe Idealize.ShloMosaic.StableHlo Idealize.SL.Sem

variable {F : FTy → Type} [FloatOps F]

/-! ## The result from the arguments, stage by stage -/

/-- The queries, one row a token, the heads side by side. -/
def qs (x : FVec F S2x256x768 .bf16) (wq : FVec F S768x4096 .bf16) : FVec F S2x256x64x64 .f32 :=
  shapeCast S2x256x64x64 (Host.dotGeneral dot_S512x768_S768x4096_S512x4096_1_0_0_1_n_n none
    (shapeCast S512x768 (extf .f32 x bitsLt_bf16_f32) shapeCasts_S2x256x768_S512x768) (extf .f32 wq bitsLt_bf16_f32)) shapeCasts_S512x4096_S2x256x64x64

/-- Keys or values, each group's repeated for its four heads. -/
def rep (k : FVec F S2x512x16x64 .bf16) : FVec F S2x512x64x64 .f32 :=
  shapeCast S2x512x64x64 (broadcastInDim S2x512x16x4x64 ![0, 1, 2, 4] bcast_S2x512x16x64_S2x512x16x4x64_0_1_2_4 (extf .f32 k bitsLt_bf16_f32))
    shapeCasts_S2x512x16x4x64_S2x512x64x64

/-- The scores. -/
def scores (q : FVec F S2x256x64x64 .f32) (k : FVec F S2x512x64x64 .f32) : FVec F S2x64x256x512 .f32 :=
  mulf (Host.dotGeneral dot_S2x256x64x64_S2x512x64x64_S2x64x256x512_3_3_1_1_02_02 none q k)
    (broadcastInDim S2x64x256x512 ![] bcast_S_S2x64x256x512 (constant S_ .f32 0x3E000000#32))

/-- The weights before they are divided by their sum: the exponentials of the scores less their row's largest. -/
def wts (s : FVec F S2x64x256x512 .f32) : FVec F S2x64x256x512 .f32 :=
  Host.exp (subf s (broadcastInDim S2x64x256x512 ![0, 1, 2, 3] bcast_S2x64x256x1_S2x64x256x512_0_1_2_3
    (broadcastInDim S2x64x256x1 ![0, 1, 2] bcast_S2x64x256_S2x64x256x1_0_1_2
      (Host.reduce FloatOps.maximumf s (constant S_ .f32 0xFF800000#32) reducesTo_S2x64x256x512_S2x64x256_d3 h_S_))))

/-- The heads' outputs, side by side. -/
def heads (p : FVec F S2x64x256x512 .f32) (v : FVec F S2x512x64x64 .f32) : FVec F S512x4096 .f32 :=
  shapeCast S512x4096 (Host.divf
    (transpose S2x256x64x64 [0, 3, 1, 2] (Host.dotGeneral dot_S2x512x64x64_S2x64x256x512_S2x64x64x256_1_3_3_2_02_01 none v p)
      transposes_S2x64x64x256_S2x256x64x64_0_3_1_2)
    (broadcastInDim S2x256x64x64 ![0, 1, 2, 3] bcast_S2x256x64x1_S2x256x64x64_0_1_2_3
      (transpose S2x256x64x1 [0, 2, 1, 3]
        (broadcastInDim S2x64x256x1 ![0, 1, 2] bcast_S2x64x256_S2x64x256x1_0_1_2
          (Host.reduceAdd p (constant S_ .f32 0x00000000#32) reducesTo_S2x64x256x512_S2x64x256_d3 h_S_))
        transposes_S2x64x256x1_S2x256x64x1_0_2_1_3))) shapeCasts_S2x256x64x64_S512x4096

/-- The heads through the output weights. -/
def proj (h : FVec F S512x4096 .f32) (wo : FVec F S4096x768 .bf16) : FVec F S2x256x768 .bf16 :=
  shapeCast S2x256x768 (truncf .bf16 (Host.dotGeneral dot_S512x4096_S4096x768_S512x768_1_0_0_1_n_n none h (extf .f32 wo bitsLt_bf16_f32))
    bitsLt_bf16_f32) shapeCasts_S512x768_S2x256x768

/-- The result. -/
def refOut (x : FVec F S2x256x768 .bf16) (wq : FVec F S768x4096 .bf16) (wo : FVec F S4096x768 .bf16) (k v : FVec F S2x512x16x64 .bf16) :
    FVec F S2x256x768 .bf16 :=
  proj (heads (wts (scores (qs x wq) (rep k))) (rep v)) wo

/-! ## The run -/

/-- The program's operations, in order. -/
abbrev ops : List (HloOp τ sig (Elt F)) :=
  [ unary main_arg0 main_v0 ((extf .f32 · bitsLt_bf16_f32) : (⟨S2x256x768, .bf16⟩ : BufTy).Contents (Elt F) → (⟨S2x256x768, .f32⟩ : BufTy).Contents (Elt F)),
    reshape main_v0 main_v1 (rfl : (.f32 : EltTy) = .f32) shapeCasts_S2x256x768_S512x768,
    unary main_arg1 main_v2 ((extf .f32 · bitsLt_bf16_f32) : (⟨S768x4096, .bf16⟩ : BufTy).Contents (Elt F) → (⟨S768x4096, .f32⟩ : BufTy).Contents (Elt F)),
    binary main_v1 main_v2 main_v3 ((fun l r => Host.dotGeneral dot_S512x768_S768x4096_S512x4096_1_0_0_1_n_n none l r) : (⟨S512x768, .f32⟩ : BufTy).Contents (Elt F) → (⟨S768x4096, .f32⟩ : BufTy).Contents (Elt F) → (⟨S512x4096, .f32⟩ : BufTy).Contents (Elt F)),
    reshape main_v3 main_v4 (rfl : (.f32 : EltTy) = .f32) shapeCasts_S512x4096_S2x256x64x64,
    unary main_arg3 main_v5 ((extf .f32 · bitsLt_bf16_f32) : (⟨S2x512x16x64, .bf16⟩ : BufTy).Contents (Elt F) → (⟨S2x512x16x64, .f32⟩ : BufTy).Contents (Elt F)),
    unary main_v5 main_v6 (broadcastInDim S2x512x16x4x64 ![0, 1, 2, 4] bcast_S2x512x16x64_S2x512x16x4x64_0_1_2_4 : (⟨S2x512x16x64, .f32⟩ : BufTy).Contents (Elt F) → (⟨S2x512x16x4x64, .f32⟩ : BufTy).Contents (Elt F)),
    reshape main_v6 main_v7 (rfl : (.f32 : EltTy) = .f32) shapeCasts_S2x512x16x4x64_S2x512x64x64,
    unary main_arg4 main_v8 ((extf .f32 · bitsLt_bf16_f32) : (⟨S2x512x16x64, .bf16⟩ : BufTy).Contents (Elt F) → (⟨S2x512x16x64, .f32⟩ : BufTy).Contents (Elt F)),
    unary main_v8 main_v9 (broadcastInDim S2x512x16x4x64 ![0, 1, 2, 4] bcast_S2x512x16x64_S2x512x16x4x64_0_1_2_4 : (⟨S2x512x16x64, .f32⟩ : BufTy).Contents (Elt F) → (⟨S2x512x16x4x64, .f32⟩ : BufTy).Contents (Elt F)),
    reshape main_v9 main_v10 (rfl : (.f32 : EltTy) = .f32) shapeCasts_S2x512x16x4x64_S2x512x64x64,
    binary main_v4 main_v7 main_v11 ((fun l r => Host.dotGeneral dot_S2x256x64x64_S2x512x64x64_S2x64x256x512_3_3_1_1_02_02 none l r) : (⟨S2x256x64x64, .f32⟩ : BufTy).Contents (Elt F) → (⟨S2x512x64x64, .f32⟩ : BufTy).Contents (Elt F) → (⟨S2x64x256x512, .f32⟩ : BufTy).Contents (Elt F)),
    nullary main_cst (constant S_ .f32 0x3E000000#32),
    unary main_cst main_v12 (broadcastInDim S2x64x256x512 ![] bcast_S_S2x64x256x512 : (⟨S_, .f32⟩ : BufTy).Contents (Elt F) → (⟨S2x64x256x512, .f32⟩ : BufTy).Contents (Elt F)),
    binary main_v11 main_v12 main_v13 (mulf : (⟨S2x64x256x512, .f32⟩ : BufTy).Contents (Elt F) → (⟨S2x64x256x512, .f32⟩ : BufTy).Contents (Elt F) → (⟨S2x64x256x512, .f32⟩ : BufTy).Contents (Elt F)),
    nullary main_cst_0 (constant S_ .f32 0xFF800000#32),
    binary main_v13 main_cst_0 main_v14 ((fun x v => Host.reduce FloatOps.maximumf x v reducesTo_S2x64x256x512_S2x64x256_d3 h_S_) : (⟨S2x64x256x512, .f32⟩ : BufTy).Contents (Elt F) → (⟨S_, .f32⟩ : BufTy).Contents (Elt F) → (⟨S2x64x256, .f32⟩ : BufTy).Contents (Elt F)),
    unary main_v14 main_v15 (broadcastInDim S2x64x256x1 ![0, 1, 2] bcast_S2x64x256_S2x64x256x1_0_1_2 : (⟨S2x64x256, .f32⟩ : BufTy).Contents (Elt F) → (⟨S2x64x256x1, .f32⟩ : BufTy).Contents (Elt F)),
    unary main_v15 main_v16 (broadcastInDim S2x64x256x512 ![0, 1, 2, 3] bcast_S2x64x256x1_S2x64x256x512_0_1_2_3 : (⟨S2x64x256x1, .f32⟩ : BufTy).Contents (Elt F) → (⟨S2x64x256x512, .f32⟩ : BufTy).Contents (Elt F)),
    binary main_v13 main_v16 main_v17 (subf : (⟨S2x64x256x512, .f32⟩ : BufTy).Contents (Elt F) → (⟨S2x64x256x512, .f32⟩ : BufTy).Contents (Elt F) → (⟨S2x64x256x512, .f32⟩ : BufTy).Contents (Elt F)),
    unary main_v17 main_v18 (Host.exp : (⟨S2x64x256x512, .f32⟩ : BufTy).Contents (Elt F) → (⟨S2x64x256x512, .f32⟩ : BufTy).Contents (Elt F)),
    nullary main_cst_1 (constant S_ .f32 0x00000000#32),
    binary main_v18 main_cst_1 main_v19 ((fun x v => Host.reduceAdd x v reducesTo_S2x64x256x512_S2x64x256_d3 h_S_) : (⟨S2x64x256x512, .f32⟩ : BufTy).Contents (Elt F) → (⟨S_, .f32⟩ : BufTy).Contents (Elt F) → (⟨S2x64x256, .f32⟩ : BufTy).Contents (Elt F)),
    unary main_v19 main_v20 (broadcastInDim S2x64x256x1 ![0, 1, 2] bcast_S2x64x256_S2x64x256x1_0_1_2 : (⟨S2x64x256, .f32⟩ : BufTy).Contents (Elt F) → (⟨S2x64x256x1, .f32⟩ : BufTy).Contents (Elt F)),
    binary main_v10 main_v18 main_v21 ((fun l r => Host.dotGeneral dot_S2x512x64x64_S2x64x256x512_S2x64x64x256_1_3_3_2_02_01 none l r) : (⟨S2x512x64x64, .f32⟩ : BufTy).Contents (Elt F) → (⟨S2x64x256x512, .f32⟩ : BufTy).Contents (Elt F) → (⟨S2x64x64x256, .f32⟩ : BufTy).Contents (Elt F)),
    unary main_v21 main_v22 ((transpose S2x256x64x64 [0, 3, 1, 2] · transposes_S2x64x64x256_S2x256x64x64_0_3_1_2) : (⟨S2x64x64x256, .f32⟩ : BufTy).Contents (Elt F) → (⟨S2x256x64x64, .f32⟩ : BufTy).Contents (Elt F)),
    unary main_v20 main_v23 ((transpose S2x256x64x1 [0, 2, 1, 3] · transposes_S2x64x256x1_S2x256x64x1_0_2_1_3) : (⟨S2x64x256x1, .f32⟩ : BufTy).Contents (Elt F) → (⟨S2x256x64x1, .f32⟩ : BufTy).Contents (Elt F)),
    unary main_v23 main_v24 (broadcastInDim S2x256x64x64 ![0, 1, 2, 3] bcast_S2x256x64x1_S2x256x64x64_0_1_2_3 : (⟨S2x256x64x1, .f32⟩ : BufTy).Contents (Elt F) → (⟨S2x256x64x64, .f32⟩ : BufTy).Contents (Elt F)),
    binary main_v22 main_v24 main_v25 (Host.divf : (⟨S2x256x64x64, .f32⟩ : BufTy).Contents (Elt F) → (⟨S2x256x64x64, .f32⟩ : BufTy).Contents (Elt F) → (⟨S2x256x64x64, .f32⟩ : BufTy).Contents (Elt F)),
    reshape main_v25 main_v26 (rfl : (.f32 : EltTy) = .f32) shapeCasts_S2x256x64x64_S512x4096,
    unary main_arg2 main_v27 ((extf .f32 · bitsLt_bf16_f32) : (⟨S4096x768, .bf16⟩ : BufTy).Contents (Elt F) → (⟨S4096x768, .f32⟩ : BufTy).Contents (Elt F)),
    binary main_v26 main_v27 main_v28 ((fun l r => Host.dotGeneral dot_S512x4096_S4096x768_S512x768_1_0_0_1_n_n none l r) : (⟨S512x4096, .f32⟩ : BufTy).Contents (Elt F) → (⟨S4096x768, .f32⟩ : BufTy).Contents (Elt F) → (⟨S512x768, .f32⟩ : BufTy).Contents (Elt F)),
    unary main_v28 main_v29 ((truncf .bf16 · bitsLt_bf16_f32) : (⟨S512x768, .f32⟩ : BufTy).Contents (Elt F) → (⟨S512x768, .bf16⟩ : BufTy).Contents (Elt F)),
    reshape main_v29 main_v30 (rfl : (.bf16 : EltTy) = .bf16) shapeCasts_S512x768_S2x256x768 ]

/-- The program is that straight line. -/
theorem main_eq (c : Dev nD) : main (F := F) c = seq ops := rfl

/-- The first operations leave the weights and the repeated values. -/
theorem out_eq (V : Valuation τ sig (Elt F)) : after ops V (main_v30 : DevRef τ sig)
    = refOut (V (main_arg0 : DevRef τ sig)) (V (main_arg1 : DevRef τ sig)) (V (main_arg2 : DevRef τ sig)) (V (main_arg3 : DevRef τ sig))
      (V (main_arg4 : DevRef τ sig)) := by
  after_results_simp
  rfl

/-- The reference each operation writes, in order. -/
abbrev outs : List (Ref sig .tc) := [main_v0, main_v1, main_v2, main_v3, main_v4, main_v5, main_v6, main_v7, main_v8, main_v9, main_v10, main_v11, main_cst, main_v12, main_v13, main_cst_0, main_v14, main_v15, main_v16, main_v17, main_v18, main_cst_1, main_v19, main_v20, main_v21, main_v22, main_v23, main_v24, main_v25, main_v26, main_v27, main_v28, main_v29, main_v30]
theorem ops_writes : (ops : List (HloOp τ sig (Elt F))).Forall fun op => op.writes ⊆ (outs.map (Proc.devRef (τ := τ) .tc)).toFinset :=
  forall_writes_sub_of_map rfl
theorem arg_eq (V : Valuation τ sig (Elt F)) (r : Ref sig .tc) (h : r ∉ outs) : after ops V r = V r :=
  after_of_writes_sub ops V ops_writes h

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., binary_bufs_sub .., reshape_bufs_sub .., unary_bufs_sub .., unary_bufs_sub .., reshape_bufs_sub .., unary_bufs_sub .., unary_bufs_sub .., reshape_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., binary_bufs_sub .., unary_bufs_sub .., unary_bufs_sub .., unary_bufs_sub .., binary_bufs_sub .., reshape_bufs_sub .., unary_bufs_sub .., binary_bufs_sub .., unary_bufs_sub .., reshape_bufs_sub ..⟩

/-- On its one device every execution terminates, with the result at `refOut` of the arguments and the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (out_eq _), (h c main_arg0).trans (arg_eq _ _ (by decide)),
      (h c main_arg1).trans (arg_eq _ _ (by decide)), (h c main_arg2).trans (arg_eq _ _ (by decide)),
      (h c main_arg3).trans (arg_eq _ _ (by decide)), (h c main_arg4).trans (arg_eq _ _ (by decide))⟩)
    (run_seq scopedRefs_eq scopedSems_eq defs main (fun _ => ops) main_eq (fun _ => ops_sub) m ρ)

end Cert.Whole

end
-- ==== Proof.Frames.lean ====
/-
  The three frames: every program runs to the end, its arguments unchanged and every counter at zero.
-/
module

public import proofs.«01_k».proof.Defs
public import proofs.«01_k».proof.Proof.Gen.Kernel
public import proofs.«01_k».proof.Proof.Same
public import proofs.«01_k».proof.Proof.Run
public import proofs.«01_k».proof.Proof.RefRun
public import Idealize.ShloMosaic.Adequacy

@[expose] public section

noncomputable section

namespace Cert.Mesh

open Idealize.ShloMosaic Idealize.ShloMosaic.TcCoe Idealize.SL.Sem

theorem frame_ideal : Cert.quiescent_KernelIdeal := fun m ρ _ =>
  (θ_run Cert.KernelIdeal.defs _ _).mono (fun _ h => ⟨fun c => (h.1 c).1, h.2⟩) (run_main (F := Ideal) m ρ)

/-- The program as printed is the same text, so its run at words is the run above at words. -/
theorem frame_kernel : Cert.quiescent_Kernel := by
  intro m ρ _
  rw [defs_eq (F := Bits), main_eq (F := Bits)]
  exact (θ_run Cert.KernelIdeal.defs _ _).mono (fun _ h => ⟨fun c => (h.1 c).1, h.2⟩) (run_main (F := Bits) m ρ)

theorem frame_ref : Cert.quiescent_ReferenceIdeal := fun m ρ _ =>
  (θ_run Cert.ReferenceIdeal.defs _ _).mono (fun r h => ⟨fun c => (h c).2, sem_eq_zero_of_no_sems (by decide) r.2⟩)
    (Cert.Whole.run_main (F := Ideal) m ρ)

end Cert.Mesh

end
-- ==== Proof.Pre.lean ====
/-
  The precondition, read: the inputs, the query weights and the keys hold real numbers only.
-/
module

public import proofs.«01_k».proof.Defs
public import Idealize.ShloMosaic.Lib.ReduceAll
public import Idealize.ShloMosaic.Lib.IdealHost

@[expose] public section

noncomputable section

namespace Cert.Mesh

open Idealize.ShloMosaic Idealize.ShloMosaic.TcCoe Idealize.SL.Sem
open Idealize.ShloMosaic.ValueIdx

theorem pre_facts : Cert.Pre_finite_scores_KernelIdeal.Facts where
  bcast_S_S2x256x768 := by decide
  reducesTo_S2x256x768_S_d0_1_2 := by decide
  h_S_ := by decide
  bcast_S_S768x512 := by decide
  reducesTo_S768x512_S_d0_1 := by decide
  bcast_S_S2x512x16x64 := by decide
  reducesTo_S2x512x16x64_S_d0_1_2_3 := by decide

theorem pre_facts_ref : Cert.Pre_finite_scores_ReferenceIdeal.Facts where
  bcast_S_S2x256x768 := by decide
  reducesTo_S2x256x768_S_d0_1_2 := by decide
  h_S_ := by decide
  bcast_S_S768x4096 := by decide
  reducesTo_S768x4096_S_d0_1 := by decide
  bcast_S_S2x512x16x64 := by decide
  reducesTo_S2x512x16x64_S_d0_1_2_3 := by decide

/-- What is below plus infinity in absolute value is a real number. -/
theorem real_of_abs (x : EReal) (h : Ideal.cmp .olt (max x (-x)) (Ideal.ofBits .bf16 0x7F80#16) = 1#1) : ∃ r : ℝ, x = r := by
  have ht : Ideal.ofBits .bf16 0x7F80#16 = (⊤ : EReal) := by simp [Ideal.ofBits, Ideal.ieee]
  rw [ht] at h
  induction x with
  | bot => simp [Ideal.cmp] at h
  | top => simp [Ideal.cmp] at h
  | coe r => exact ⟨r, rfl⟩

theorem and_one {a b : BitVec 1} (h : IntOp.andi a b = 1#1) : a = 1#1 ∧ b = 1#1 := by revert a b; decide

/-- A test that holds of a whole array holds at each element. -/
theorem all_real {s : Shape} (x : FVec Ideal s .bf16) (hb : (⟨0, ![]⟩ : Shape).BroadcastsInDim s ![]) {axes : List (Fin s.rank)}
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .bf16 0x7F80#16)))
      (constantI ⟨0, ![]⟩ 1 1#1) hr hu j = 1#1) : ∀ i, ∃ r : ℝ, x i = r := by
  haveI : Subsingleton (⟨0, ![]⟩ : Shape).Idx := ⟨fun a b => funext fun k => k.elim0⟩
  intro i
  exact real_of_abs (x i) (Host.reduce_andi_all _ _ _ _ j h i)

open Cert.KernelIdeal in
/-- The precondition's content, on each device. -/
theorem real_of_pre (m : (ℓ : Loc nD τ sig) → Buf (Elt Ideal) ℓ)
    (h : Cert.Pre_KernelIdeal_finite_scores_KernelIdeal (hPre_finite_scores_KernelIdeal := pre_facts) m) (c : Dev nD) :
    (∀ i, ∃ r : ℝ, (m ((c.tc : Thread nD τ).loc main_arg0) : FVec Ideal S2x256x768 .bf16) i = (r : EReal))
    ∧ (∀ i, ∃ r : ℝ, (m ((c.tc : Thread nD τ).loc main_arg1) : FVec Ideal S768x512 .bf16) i = (r : EReal))
    ∧ (∀ i, ∃ r : ℝ, (m ((c.tc : Thread nD τ).loc main_arg3) : FVec Ideal S2x512x16x64 .bf16) i = (r : EReal)) := by
  have e := congrFun (h c) ix0
  obtain ⟨e1, e3⟩ := and_one e
  obtain ⟨e1, e2⟩ := and_one e1
  exact ⟨all_real _ _ _ _ _ e1, all_real _ _ _ _ _ e2, all_real _ _ _ _ _ e3⟩

end Cert.Mesh

end
-- ==== Proof.ValK.lean ====
/-
  One device's partial product, read exactly: eight heads' weighted means of the values, through the device's output weights.
-/
module

public import proofs.«01_k».proof.Proof.Contents
public import Idealize.ShloMosaic.Lib.ValueLayoutCasts
public import Idealize.ShloMosaic.Lib.MatmulPlain
public import Idealize.ShloMosaic.Lib.IdealHost

@[expose] public section

noncomputable section

namespace Cert.Mesh

open Idealize.ShloMosaic Idealize.ShloMosaic.TcCoe
open Cert.KernelIdeal Cert.KernelIdeal.Gen
open Idealize.ShloMosaic.ValueIdx

/-! ## The value at a row and a column -/

/-- The factor of the scores, one eighth. -/
def sc : EReal := Ideal.ofBits .f32 0x3E000000#32

/-- A row of `x`, from its batch and its place there. -/
def row (b : Fin 2) (r : Fin 256) : Fin 512 := ⟨256 * b.val + r.val, by have := b.isLt; have := r.isLt; omega⟩
/-- A column of the queries, from its head and its place there. -/
def qc (h : Fin 8) (e : Fin 64) : Fin 512 := ⟨64 * h.val + e.val, by have := h.isLt; have := e.isLt; omega⟩
/-- A column of the keys and values, from the head that reads it and its place in the head. -/
def kc (h : Fin 8) (e : Fin 64) : Fin 128 := ⟨64 * (h.val / 4) + e.val, by have := h.isLt; have := e.isLt; omega⟩
/-- The head of a column. -/
def hd (n : Fin 512) : Fin 8 := ⟨n.val / 64, by have := n.isLt; omega⟩
/-- The column's place in its head. -/
def en (n : Fin 512) : Fin 64 := ⟨n.val % 64, Nat.mod_lt _ (by decide)⟩

variable (I : Inp Ideal) (b : Fin 2)

/-- The queries. -/
def lq (r : Fin 256) (n : Fin 512) : EReal := ∑ k : Fin 768, I.x (ix2 (row b r) k) * I.wq (ix2 k n)
/-- The scores. -/
def ls (h : Fin 8) (r : Fin 256) (j : Fin 512) : EReal := (∑ e : Fin 64, lq I b r (qc h e) * I.k (ix3 b j (kc h e))) * sc
/-- The weighted means. -/
def lo (h : Fin 8) (r : Fin 256) (e : Fin 64) : EReal :=
  Ideal.div (∑ j : Fin 512, Ideal.exp (ls I b h r j) * I.v (ix3 b j (kc h e))) (∑ j : Fin 512, Ideal.exp (ls I b h r j))

/-! ## Loads -/

theorem xB_apply (r : Fin 256) (k : Fin 768) : xB I b (ix2 r k) = I.x (ix2 (row b r) k) := by
  show I.x _ = _
  congr 1
  funext a; fin_cases a
  · exact Fin.ext (by show 256 * b.val + 1 * r.val = 256 * b.val + r.val; omega)
  · exact Fin.ext (by show 0 + 1 * k.val = k.val; omega)

theorem kB_apply (g : Fin 2) (j : Fin 512) (e : Fin 64) (z : Fin 128) (hz : z.val = 64 * g.val + e.val) :
    kB I b g (ix3 (0 : Fin 1) j e) = I.k (ix3 b j z) := by
  show I.k _ = _
  congr 1
  funext a; fin_cases a
  · exact Fin.ext (by show b.val + 1 * 0 = b.val; omega)
  · exact Fin.ext (by show 0 + 1 * j.val = j.val; omega)
  · exact Fin.ext (by show 64 * g.val + 1 * e.val = z.val; omega)

theorem vB_apply (g : Fin 2) (j : Fin 512) (e : Fin 64) (z : Fin 128) (hz : z.val = 64 * g.val + e.val) :
    vB I b g (ix3 (0 : Fin 1) j e) = I.v (ix3 b j z) := by
  show I.v _ = _
  congr 1
  funext a; fin_cases a
  · exact Fin.ext (by show b.val + 1 * 0 = b.val; omega)
  · exact Fin.ext (by show 0 + 1 * j.val = j.val; omega)
  · exact Fin.ext (by show 64 * g.val + 1 * e.val = z.val; omega)

/-! ## The queries -/

theorem pay3_apply (r : Fin 256) (n : Fin 512) : k0_pay3 I.wq (xB I b) (ix2 r n) = lq I b r n := by
  unfold k0_pay3 k0_pay1
  simp only [shapeCast_self]
  show FloatOps.matmul (φ₁ := .bf16) (φ₂ := .bf16) (DotDims.plain 256 768 512) none (xB I b) I.wq (constant (F := Ideal) S256x512 .f32 0x00000000#32) (ix2 r n) = _
  rw [Ideal.matmul_plain_apply, constant_apply, Ideal.ofBits_zero_f32, zero_add]
  exact Finset.sum_congr rfl fun k _ => by rw [xB_apply]

/-! ## One group: four heads share their keys and values -/

/-- Four blocks of rows, one below the other. -/
theorem cat4_apply (p : Fin 4 → (S256x64.Idx → Ideal .bf16)) (h : Shape.Concatenates [S256x64, S256x64, S256x64, S256x64] S1024x64 0)
    (a : Fin 4) (r : Fin 256) (e : Fin 64) (R : Fin 1024) (hR : R.val = 256 * a.val + r.val) :
    concatenate S1024x64 0 [⟨S256x64, p 0⟩, ⟨S256x64, p 1⟩, ⟨S256x64, p 2⟩, ⟨S256x64, p 3⟩] h (ix2 R e) = p a (ix2 r e) := by
  refine concatenate_ofFn_apply (t := S1024x64) (s₁ := S256x64) 0 p h rfl 256 rfl (ix2 R e) a ?_ (ix2 r e) ?_ ?_
  · show R.val / 256 = a.val; have := r.isLt; omega
  · show r.val = R.val % 256; have := r.isLt; omega
  · intro c hc
    fin_cases c
    · exact absurd rfl hc
    · rfl

/-- A group's weights. -/
def wexp (q : FVec Ideal S1024x64 .bf16) (kb : FVec Ideal S1x512x64 .bf16) : FVec Ideal S1024x512 .f32 :=
  exp (mulf (matmul dot_S1024x64_S512x64_S1024x512_1_1_0_0_n_n none q
    (shapeCast S512x64 kb shapeCasts_S1x512x64_S512x64) (constant S1024x512 .f32 0x00000000#32)) (broadcast S1024x512 (Scalar.ofBits .f32 0x3E000000#32)))

/-- A group's weighted sums. -/
def gnum (p : FVec Ideal S1024x512 .f32) (vb : FVec Ideal S1x512x64 .bf16) : FVec Ideal S1024x64 .f32 :=
  matmul dot_S1024x512_S512x64_S1024x64_1_0_0_1_n_n none (truncf .bf16 p bitsLt_bf16_f32)
    (shapeCast S512x64 vb shapeCasts_S1x512x64_S512x64) (constant S1024x64 .f32 0x00000000#32)

/-- A group's sums of weights. -/
def gden (p : FVec Ideal S1024x512 .f32) : FVec Ideal S1024x64 .f32 :=
  broadcastTo S1024x64 (shapeCast S1024x1 (multiReduction .add [1] S1024 p 0x00000000#32 reduces_S1024x512_S1024 (.inl rfl) rfl)
    shapeCasts_S1024_S1024x1) broadcasts_S1024x1_S1024x64

/-- A group's weighted means, from its heads' queries and its keys and values. -/
def grp (q : FVec Ideal S1024x64 .bf16) (kb vb : FVec Ideal S1x512x64 .bf16) : FVec Ideal S1024x64 .f32 :=
  divf (gnum (wexp q kb) vb) (gden (wexp q kb))

theorem grp_apply (q : FVec Ideal S1024x64 .bf16) (kb vb : FVec Ideal S1x512x64 .bf16) (R : Fin 1024) (e : Fin 64) :
    grp q kb vb (ix2 R e) =
      Ideal.div (∑ j : Fin 512, Ideal.exp ((∑ e' : Fin 64, q (ix2 R e') * kb (ix3 (0 : Fin 1) j e')) * sc) * vb (ix3 (0 : Fin 1) j e))
        (∑ j : Fin 512, Ideal.exp ((∑ e' : Fin 64, q (ix2 R e') * kb (ix3 (0 : Fin 1) j e')) * sc)) := by
  unfold grp
  generalize hp' : wexp q kb = p
  have hp : ∀ j : Fin 512, p (ix2 R j) = Ideal.exp ((∑ e' : Fin 64, q (ix2 R e') * kb (ix3 (0 : Fin 1) j e')) * sc) := by
    intro j
    subst hp'
    show Ideal.exp (FloatOps.matmul (φ₁ := .bf16) (φ₂ := .bf16) (DotDims.transposedRhs 1024 64 512) none q (shapeCast S512x64 kb shapeCasts_S1x512x64_S512x64)
      (constant (F := Ideal) S1024x512 .f32 0x00000000#32) (ix2 R j) * sc) = _
    rw [Ideal.matmul_transposedRhs_apply, constant_apply, Ideal.ofBits_zero_f32, zero_add]
    refine congrArg Ideal.exp (congrArg (· * sc) (Finset.sum_congr rfl fun e' _ => ?_))
    rw [shapeCast_1ab_ab_apply]
  rw [divf_apply]
  refine congrArg₂ Ideal.div ?_ ?_
  · show FloatOps.matmul (φ₁ := .bf16) (φ₂ := .bf16) (DotDims.plain 1024 512 64) none (truncf .bf16 p bitsLt_bf16_f32) (shapeCast S512x64 vb shapeCasts_S1x512x64_S512x64)
      (constant (F := Ideal) S1024x64 .f32 0x00000000#32) (ix2 R e) = _
    rw [Ideal.matmul_plain_apply, constant_apply, Ideal.ofBits_zero_f32, zero_add]
    refine Finset.sum_congr rfl fun j _ => ?_
    rw [shapeCast_1ab_ab_apply, truncf_apply, hp]
  · unfold gden
    rw [broadcastTo_apply _ _ (ix2 R e) (ix2 R (0 : Fin 1)) (by intro a; fin_cases a <;> rfl), shapeCast_a_a1_apply]
    refine (Ideal.multiReduction_add_single _ _ _ _ _ _).trans ?_
    refine Finset.sum_congr rfl fun j _ => ?_
    rw [← hp j]
    congr 1
    funext a; fin_cases a <;> rfl

/-! ## The eight heads side by side, and the output weights -/

/-- Eight blocks of columns, one beside the other. -/
theorem cat8_apply (p : Fin 8 → (S256x64.Idx → Ideal .f32))
    (h : Shape.Concatenates [S256x64, S256x64, S256x64, S256x64, S256x64, S256x64, S256x64, S256x64] S256x512 1) (r : Fin 256) (n : Fin 512) :
    concatenate S256x512 1 [⟨S256x64, p 0⟩, ⟨S256x64, p 1⟩, ⟨S256x64, p 2⟩, ⟨S256x64, p 3⟩, ⟨S256x64, p 4⟩, ⟨S256x64, p 5⟩, ⟨S256x64, p 6⟩,
      ⟨S256x64, p 7⟩] h (ix2 r n) = p (hd n) (ix2 r (en n)) := by
  refine concatenate_ofFn_apply (t := S256x512) (s₁ := S256x64) 1 p h rfl 64 rfl (ix2 r n) (hd n) rfl (ix2 r (en n)) rfl ?_
  intro c hc
  fin_cases c
  · rfl
  · exact absurd rfl hc

/-- The queries of four heads, one below the other. -/
def q0 (q : FVec Ideal S256x512 .bf16) : Fin 4 → (S256x64.Idx → Ideal .bf16) :=
  ![extractStridedSlice S256x64 ![0, 0] q slices_S256x512_o0_0_S256x64, extractStridedSlice S256x64 ![0, 64] q slices_S256x512_o0_64_S256x64,
    extractStridedSlice S256x64 ![0, 128] q slices_S256x512_o0_128_S256x64, extractStridedSlice S256x64 ![0, 192] q slices_S256x512_o0_192_S256x64]
/-- Those of the other four. -/
def q1 (q : FVec Ideal S256x512 .bf16) : Fin 4 → (S256x64.Idx → Ideal .bf16) :=
  ![extractStridedSlice S256x64 ![0, 256] q slices_S256x512_o0_256_S256x64, extractStridedSlice S256x64 ![0, 320] q slices_S256x512_o0_320_S256x64,
    extractStridedSlice S256x64 ![0, 384] q slices_S256x512_o0_384_S256x64, extractStridedSlice S256x64 ![0, 448] q slices_S256x512_o0_448_S256x64]

theorem q0_apply (q : FVec Ideal S256x512 .bf16) (a : Fin 4) (r : Fin 256) (e : Fin 64) (n : Fin 512) (hn : n.val = 64 * a.val + e.val) :
    q0 q a (ix2 r e) = q (ix2 r n) :=
  match a, hn with
  | ⟨0, _⟩, hn => slice2_axis1_apply 0 q slices_S256x512_o0_0_S256x64 r e n (hn.trans (by show _ = 0 + e.val; simp))
  | ⟨1, _⟩, hn => slice2_axis1_apply 64 q slices_S256x512_o0_64_S256x64 r e n (hn.trans (by show _ = 64 + e.val; simp))
  | ⟨2, _⟩, hn => slice2_axis1_apply 128 q slices_S256x512_o0_128_S256x64 r e n (hn.trans (by show _ = 128 + e.val; simp))
  | ⟨3, _⟩, hn => slice2_axis1_apply 192 q slices_S256x512_o0_192_S256x64 r e n (hn.trans (by show _ = 192 + e.val; simp))

theorem q1_apply (q : FVec Ideal S256x512 .bf16) (a : Fin 4) (r : Fin 256) (e : Fin 64) (n : Fin 512) (hn : n.val = 256 + 64 * a.val + e.val) :
    q1 q a (ix2 r e) = q (ix2 r n) :=
  match a, hn with
  | ⟨0, _⟩, hn => slice2_axis1_apply 256 q slices_S256x512_o0_256_S256x64 r e n (hn.trans (by show _ = 256 + e.val; simp))
  | ⟨1, _⟩, hn => slice2_axis1_apply 320 q slices_S256x512_o0_320_S256x64 r e n (hn.trans (by show _ = 320 + e.val; simp))
  | ⟨2, _⟩, hn => slice2_axis1_apply 384 q slices_S256x512_o0_384_S256x64 r e n (hn.trans (by show _ = 384 + e.val; simp))
  | ⟨3, _⟩, hn => slice2_axis1_apply 448 q slices_S256x512_o0_448_S256x64 r e n (hn.trans (by show _ = 448 + e.val; simp))

/-- Four heads' queries, stacked. -/
def stack4 (p : Fin 4 → (S256x64.Idx → Ideal .bf16)) : FVec Ideal S1024x64 .bf16 :=
  concatenate S1024x64 0 [⟨S256x64, p 0⟩, ⟨S256x64, p 1⟩, ⟨S256x64, p 2⟩, ⟨S256x64, p 3⟩]
    concatenates_S256x64_S256x64_S256x64_S256x64_S1024x64_d0

/-- Both groups' means, head by head. -/
def parts (g0 g1 : FVec Ideal S1024x64 .f32) : Fin 8 → (S256x64.Idx → Ideal .f32) :=
  ![extractStridedSlice S256x64 ![0, 0] g0 slices_S1024x64_o0_0_S256x64, extractStridedSlice S256x64 ![256, 0] g0 slices_S1024x64_o256_0_S256x64,
    extractStridedSlice S256x64 ![512, 0] g0 slices_S1024x64_o512_0_S256x64, extractStridedSlice S256x64 ![768, 0] g0 slices_S1024x64_o768_0_S256x64,
    extractStridedSlice S256x64 ![0, 0] g1 slices_S1024x64_o0_0_S256x64, extractStridedSlice S256x64 ![256, 0] g1 slices_S1024x64_o256_0_S256x64,
    extractStridedSlice S256x64 ![512, 0] g1 slices_S1024x64_o512_0_S256x64, extractStridedSlice S256x64 ![768, 0] g1 slices_S1024x64_o768_0_S256x64]

/-- The stacked row of a head's row. -/
def srow (h : Fin 8) (r : Fin 256) : Fin 1024 := ⟨256 * (h.val % 4) + r.val, by have := r.isLt; omega⟩

theorem parts_apply (g0 g1 : FVec Ideal S1024x64 .f32) (h : Fin 8) (r : Fin 256) (e : Fin 64) :
    parts g0 g1 h (ix2 r e) = (if h.val < 4 then g0 else g1) (ix2 (srow h r) e) :=
  match h with
  | ⟨0, _⟩ => slice2_axis0_apply 0 g0 slices_S1024x64_o0_0_S256x64 r e _ (by simp [srow])
  | ⟨1, _⟩ => slice2_axis0_apply 256 g0 slices_S1024x64_o256_0_S256x64 r e _ (by simp [srow])
  | ⟨2, _⟩ => slice2_axis0_apply 512 g0 slices_S1024x64_o512_0_S256x64 r e _ (by simp [srow])
  | ⟨3, _⟩ => slice2_axis0_apply 768 g0 slices_S1024x64_o768_0_S256x64 r e _ (by simp [srow])
  | ⟨4, _⟩ => slice2_axis0_apply 0 g1 slices_S1024x64_o0_0_S256x64 r e _ (by simp [srow])
  | ⟨5, _⟩ => slice2_axis0_apply 256 g1 slices_S1024x64_o256_0_S256x64 r e _ (by simp [srow])
  | ⟨6, _⟩ => slice2_axis0_apply 512 g1 slices_S1024x64_o512_0_S256x64 r e _ (by simp [srow])
  | ⟨7, _⟩ => slice2_axis0_apply 768 g1 slices_S1024x64_o768_0_S256x64 r e _ (by simp [srow])

/-- The means of all heads through the output weights. -/
def mm (p : Fin 8 → (S256x64.Idx → Ideal .f32)) (wo : FVec Ideal S512x768 .bf16) : FVec Ideal S256x768 .f32 :=
  matmul dot_S256x512_S512x768_S256x768_1_0_0_1_n_n none
    (truncf .bf16 (concatenate S256x512 1 [⟨S256x64, p 0⟩, ⟨S256x64, p 1⟩, ⟨S256x64, p 2⟩, ⟨S256x64, p 3⟩, ⟨S256x64, p 4⟩, ⟨S256x64, p 5⟩,
      ⟨S256x64, p 6⟩, ⟨S256x64, p 7⟩]
      concatenates_S256x64_S256x64_S256x64_S256x64_S256x64_S256x64_S256x64_S256x64_S256x512_d1 : FVec Ideal S256x512 .f32) bitsLt_bf16_f32)
    wo (constant S256x768 .f32 0x00000000#32)

theorem pay7_eq (wo : FVec Ideal S512x768 .bf16) (q : FVec Ideal S256x512 .bf16) (a l : FVec Ideal S1024x64 .f32)
    (kb vb : FVec Ideal S1x512x64 .bf16) : k0_pay7 wo q a l kb vb = mm (parts (divf a l) (grp (stack4 (q1 q)) kb vb)) wo := rfl

theorem pay4_eq (wq : FVec Ideal S768x512 .bf16) (x : FVec Ideal S256x768 .bf16) (kb : FVec Ideal S1x512x64 .bf16) :
    k0_pay4 wq x kb = wexp (stack4 (q0 (k0_pay3 wq x))) kb := rfl

theorem pay5_eq (wq : FVec Ideal S768x512 .bf16) (x : FVec Ideal S256x768 .bf16) (kb vb : FVec Ideal S1x512x64 .bf16) :
    k0_pay5 wq x kb vb = gnum (k0_pay4 wq x kb) vb := rfl

theorem pay6_eq (wq : FVec Ideal S768x512 .bf16) (x : FVec Ideal S256x768 .bf16) (kb : FVec Ideal S1x512x64 .bf16) :
    k0_pay6 wq x kb = gden (k0_pay4 wq x kb) := rfl

/-- The partial product, from the two groups. -/
theorem att_eq : att I b = mm (parts (grp (stack4 (q0 (k0_pay3 I.wq (xB I b)))) (kB I b 0) (vB I b 0))
    (grp (stack4 (q1 (k0_pay3 I.wq (xB I b)))) (kB I b 1) (vB I b 1))) (k0_pay2 I.wo) := by
  unfold att
  rw [pay7_eq, pay5_eq, pay6_eq, pay4_eq]
  rfl

/-- A group's means are its heads'. -/
theorem grp_lo (h : Fin 8) (g : Fin 2) (hg : h.val / 4 = g.val) (p : Fin 4 → (S256x64.Idx → Ideal .bf16))
    (hp : ∀ (a : Fin 4) (r : Fin 256) (e : Fin 64) (n : Fin 512), n.val = 256 * g.val + 64 * a.val + e.val → p a (ix2 r e) = lq I b r n)
    (r : Fin 256) (e : Fin 64) :
    grp (stack4 p) (kB I b g) (vB I b g) (ix2 (srow h r) e) = lo I b h r e := by
  have hq : ∀ e' : Fin 64, stack4 p (ix2 (srow h r) e') = lq I b r (qc h e') := fun e' =>
    (cat4_apply p _ ⟨h.val % 4, Nat.mod_lt _ (by decide)⟩ r e' (srow h r) rfl).trans
      (hp _ r e' _ (by show 64 * h.val + e'.val = 256 * g.val + 64 * (h.val % 4) + e'.val; omega))
  have hs : ∀ j : Fin 512, (∑ e' : Fin 64, stack4 p (ix2 (srow h r) e') * kB I b g (ix3 (0 : Fin 1) j e')) * sc = ls I b h r j := by
    intro j
    refine congrArg (· * sc) (Finset.sum_congr rfl fun e' _ => ?_)
    rw [hq, kB_apply I b g j e' (kc h e') (by show 64 * (h.val / 4) + e'.val = _; rw [hg])]
  rw [grp_apply]
  refine congrArg₂ Ideal.div (Finset.sum_congr rfl fun j _ => ?_) (Finset.sum_congr rfl fun j _ => congrArg Ideal.exp (hs j))
  rw [vB_apply I b g j e (kc h e) (by show 64 * (h.val / 4) + e.val = _; rw [hg])]
  exact congrArg (fun s => Ideal.exp s * _) (hs j)

/-- The partial product at a row and a column. -/
theorem att_apply (r : Fin 256) (d : Fin 768) : att I b (ix2 r d) = ∑ n : Fin 512, lo I b (hd n) r (en n) * I.wo (ix2 n d) := by
  rw [att_eq]
  unfold mm
  show FloatOps.matmul (φ₁ := .bf16) (φ₂ := .bf16) (DotDims.plain 256 512 768) none _ (k0_pay2 I.wo) (constant (F := Ideal) S256x768 .f32 0x00000000#32) (ix2 r d) = _
  rw [Ideal.matmul_plain_apply, constant_apply, Ideal.ofBits_zero_f32, zero_add]
  refine Finset.sum_congr rfl fun n _ => ?_
  refine congrArg₂ (· * ·) ?_ ?_
  · rw [truncf_apply]
    refine (cat8_apply _ _ r n).trans ?_
    rw [parts_apply]
    by_cases h : (hd n).val < 4
    · rw [if_pos h]
      refine grp_lo I b (hd n) 0 (by show (hd n).val / 4 = 0; omega) _ (fun a r e n' hn => ?_) r (en n)
      rw [q0_apply _ a r e n' (by rw [hn]; show 256 * 0 + _ + _ = _; omega), pay3_apply]
    · rw [if_neg h]
      refine grp_lo I b (hd n) 1 (by show (hd n).val / 4 = 1; have := (hd n).isLt; omega) _ (fun a r e n' hn => ?_) r (en n)
      rw [q1_apply _ a r e n' (by rw [hn]; rfl), pay3_apply]
  · unfold k0_pay2
    rw [shapeCast_self]

end Cert.Mesh

end
-- ==== Proof.ValO.lean ====
/-
  The kernel's result, read exactly: each row's total is the sum of the eight devices' partial products of its batch.
-/
module

public import proofs.«01_k».proof.Proof.ValK

@[expose] public section

noncomputable section

namespace Cert.Mesh

open Cert.KernelIdeal Cert.KernelIdeal.Gen
open Idealize.ShloMosaic Idealize.ShloMosaic.TcCoe Idealize.ShloMosaic.StableHlo Idealize.SL.Sem
open Idealize.ShloMosaic.ValueIdx

/-- What a receive slot holds at a row and a column. -/
theorem slotV_rs (I : Dev nD → Inp Ideal) (c : Dev nD) (b : Fin 2) (j : Fin 8) (r : Fin 32) (d : Fin 768) (R : Fin 256)
    (hR : R.val = 32 * c.val + r.val) :
    extf (F := Ideal) .f32 (shapeCast S32x768 (slotV (rsV I c) (sl b j) : FVec Ideal S1x32x768 .bf16) shapeCasts_S1x32x768_S32x768) bitsLt_bf16_f32 (ix2 r d)
      = att (I j) b (ix2 R d) := by
  rw [extf_apply]
  refine (shapeCast_1ab_ab_apply (a := 32) (b := 768) _ _ r d).trans ?_
  show rsV I c ((slotR (sl b j)).emb _) = _
  rw [slot_emb]
  show chunk (att (I (pk (sl b j))) (bt (own c (sl b j)))) (pk (own c (sl b j))) (ix2 r d) = _
  rw [pk_own, bt_own, pk_sl, bt_sl]
  unfold chunk
  rw [truncf_apply]
  exact slice2_axis0_apply (32 * c.val) _ _ r d R hR

/-- A device's sum, at a row and a column. -/
theorem redV_apply (I : Dev nD → Inp Ideal) (c : Dev nD) (b : Fin 2) (r : Fin 32) (d : Fin 768) (R : Fin 256)
    (hR : R.val = 32 * c.val + r.val) : redV I c b (ix2 r d) = ∑ j : Fin 8, att (I j) b (ix2 R d) := by
  have h := fun j => slotV_rs I c b j r d R hR
  rw [Fin.sum_univ_eight, ← h 0, ← h 1, ← h 2, ← h 3, ← h 4, ← h 5, ← h 6, ← h 7]
  rfl

/-- The kernel's result, at a row and a column. -/
theorem outV_apply (I : Dev nD → Inp Ideal) (b : Fin 2) (i : Fin 256) (d : Fin 768) :
    outV I (ix2 (row b i) d) = ∑ j : Fin 8, att (I j) b (ix2 i d) := by
  have hi := i.isLt
  have hb := b.isLt
  have hp : (pk (rowSlot (row b i))).val = i.val / 32 := by
    show (256 * b.val + i.val) / 32 % 8 = i.val / 32; omega
  have hbt : bt (rowSlot (row b i)) = b := Fin.ext (by show (256 * b.val + i.val) / 32 / 8 = b.val; omega)
  show redV I (pk (rowSlot (row b i))) (bt (rowSlot (row b i))) (ix2 (rowIn (row b i)) d) = _
  rw [hbt]
  refine redV_apply I _ b _ d i ?_
  rw [hp]
  show i.val = 32 * (i.val / 32) + (256 * b.val + i.val) % 32; omega

end Cert.Mesh

end
-- ==== Proof.ValI.lean ====
/-
  What one device's inputs hold, in the arguments: its columns of the query weights, its rows of the output weights, and the keys and
  values of the two groups its eight heads read.
-/
module

public import proofs.«01_k».proof.Proof.Run
public import proofs.«01_k».proof.Proof.ValO
public import Idealize.ShloMosaic.Lib.DynamicIndex

@[expose] public section

noncomputable section

namespace Cert.Mesh

open Cert.KernelIdeal Cert.KernelIdeal.Gen
open Idealize.ShloMosaic Idealize.ShloMosaic.TcCoe Idealize.ShloMosaic.StableHlo Idealize.SL.Sem
open Idealize.ShloMosaic.ValueIdx

variable {F : FTy → Type} [FloatOps F]

/-! ## Where a device's keys begin -/

/-- The device's place times the columns a device takes. -/
def kw (c : Dev nD) : IVec S_ 32 := muli (Host.remui (Host.divui (constantI S_ 32 (Dev.word c)) (constantI S_ 32 1#32)) (constantI S_ 32 8#32)) (constantI S_ 32 128#32)
/-- The column its keys begin at. -/
def kst (c : Dev nD) : IVec S_ 32 := select (cmpi .slt (kw c) (constantI S_ 32 0#32)) (addi (kw c) (constantI S_ 32 1024#32)) (kw c)

theorem kst_toInt : ∀ c : Dev nD, (kst c (Shape.Idx.first h_S_)).toInt = ((128 * c.val : ℕ) : Int) := by
  intro c
  show (Scalar.select _ _ _ : BitVec 32).toInt = _
  fin_cases c <;> rfl

theorem kv_slices (c : Dev nD) : S2x512x1024.Slices ![0, 0, 128 * c.val] S2x512x128 := by
  refine ⟨rfl, fun a => ?_⟩
  have h : c.val < 8 := c.isLt
  fin_cases a
  · show 0 + 2 ≤ 2; omega
  · show 0 + 512 ≤ 512; omega
  · show 128 * c.val + 128 ≤ 1024; omega

/-- A device's columns of keys or values. -/
def kvOf (k : Vec F S2x512x16x64 .bf16) (c : Dev nD) : Vec F S2x512x128 .bf16 :=
  Host.dynamicSlice S2x512x128 (shapeCast S2x512x1024 k shapeCasts_S2x512x16x64_S2x512x1024 : Vec F S2x512x1024 .bf16)
    (fun a => ((![constantI S_ 32 0#32, constantI S_ 32 0#32, kst c] : Fin 3 → IVec S_ 32) a (Shape.Idx.first h_S_)).toInt) sliceFits_S2x512x1024_S2x512x128

theorem kvOf_apply (k : Vec F S2x512x16x64 .bf16) (c : Dev nD) (b : Fin 2) (j : Fin 512) (z : Fin 128) (g : Fin 16) (e : Fin 64)
    (h : 128 * c.val + z.val = 64 * g.val + e.val) : kvOf k c (ix3 b j z) = k (ix4 b j g e) := by
  have hc : c.val < 8 := c.isLt
  have hz := z.isLt
  unfold kvOf
  rw [Host.dynamicSlice_eq_extractStridedSlice S2x512x128 _ _ ![0, 0, 128 * c.val] _ (kv_slices c) (fun a => by
    fin_cases a
    · rfl
    · rfl
    · exact kst_toInt c)]
  refine (extractStridedSlice_apply _ _ _ (ix3 b j z) (ix3 b j (⟨128 * c.val + z.val, by omega⟩ : Fin 1024)) fun a => ?_).trans ?_
  · fin_cases a
    · exact (Nat.zero_add _).symm
    · exact (Nat.zero_add _).symm
    · rfl
  · refine shapeCast_apply _ _ _ (ix4 b j g e) ?_
    rw [Shape.rowMajor_val_three, Shape.rowMajor_val_four]
    show ((b.val * 512 + j.val) * 16 + g.val) * 64 + e.val = (b.val * 512 + j.val) * 1024 + (128 * c.val + z.val)
    omega

/-! ## The five inputs -/

variable (m : (ℓ : Loc nD τ sig) → Buf (Elt F) ℓ)

theorem inp_wq (c : Dev nD) : (inp m c).wq = m ((c.tc : Thread nD τ).loc main_arg1) := V1_of m c main_arg1 (by decide)
theorem inp_wo (c : Dev nD) : (inp m c).wo = m ((c.tc : Thread nD τ).loc main_arg2) := V1_of m c main_arg2 (by decide)
theorem inp_x (c : Dev nD) : (inp m c).x = shapeCast S512x768 (m ((c.tc : Thread nD τ).loc main_arg0)) shapeCasts_S2x256x768_S512x768 := by
  show StableHlo.after (hostOps0 c) (V0 m c) (main_v16 : DevRef τ sig) = _
  after_results_simp
  rfl
theorem inp_k (c : Dev nD) : (inp m c).k = kvOf (m ((c.tc : Thread nD τ).loc main_arg3)) c := by
  show StableHlo.after (hostOps0 c) (V0 m c) (main_v11 : DevRef τ sig) = _
  after_results_simp
  unfold kvOf
  refine congrArg₂ (fun x f => Host.dynamicSlice S2x512x128 x f sliceFits_S2x512x1024_S2x512x128) rfl (funext fun k => ?_)
  match k with
  | ⟨0, _⟩ => simp only [Fin.zero_eta, Matrix.cons_val_zero]; after_results_simp; rfl
  | ⟨1, _⟩ => simp only [Fin.mk_one, Matrix.cons_val_one, Matrix.cons_val_zero]; after_results_simp; rfl
  | ⟨2, _⟩ => simp only [Fin.reduceFinMk, Matrix.cons_val]; after_results_simp; rfl
theorem inp_v (c : Dev nD) : (inp m c).v = kvOf (m ((c.tc : Thread nD τ).loc main_arg4)) c := by
  show StableHlo.after (hostOps0 c) (V0 m c) (main_v15 : DevRef τ sig) = _
  after_results_simp
  unfold kvOf
  refine congrArg₂ (fun x f => Host.dynamicSlice S2x512x128 x f sliceFits_S2x512x1024_S2x512x128) rfl (funext fun k => ?_)
  match k with
  | ⟨0, _⟩ => simp only [Fin.zero_eta, Matrix.cons_val_zero]; after_results_simp; rfl
  | ⟨1, _⟩ => simp only [Fin.mk_one, Matrix.cons_val_one, Matrix.cons_val_zero]; after_results_simp; rfl
  | ⟨2, _⟩ => simp only [Fin.reduceFinMk, Matrix.cons_val]; after_results_simp; rfl

theorem x_at (c : Dev nD) (b : Fin 2) (i : Fin 256) (k : Fin 768) :
    (inp m c).x (ix2 (row b i) k) = (m ((c.tc : Thread nD τ).loc main_arg0) : Vec F S2x256x768 .bf16) (ix3 b i k) := by
  rw [inp_x]
  refine shapeCast_apply _ _ _ (ix3 b i k) ?_
  rw [Shape.rowMajor_val_three, Shape.rowMajor_val_two]
  show (b.val * 256 + i.val) * 768 + k.val = (256 * b.val + i.val) * 768 + k.val
  omega

/-- The result buffer, from the kernel's. -/
theorem result_at (c : Dev nD) (b : Fin 2) (i : Fin 256) (d : Fin 768) :
    (result m c : Vec F S2x256x768 .bf16) (ix3 b i d) = outV (inp m) (ix2 (row b i) d) := by
  have h : (result m c : Vec F S2x256x768 .bf16) = shapeCast S2x256x768 (W2 m c main_v17 : Vec F S512x768 .bf16) shapeCasts_S512x768_S2x256x768 := rfl
  rw [h, W2_out]
  refine shapeCast_apply _ _ _ (ix2 (row b i) d) ?_
  rw [Shape.rowMajor_val_three, Shape.rowMajor_val_two]
  show (256 * b.val + i.val) * 768 + d.val = (b.val * 256 + i.val) * 768 + d.val
  omega

end Cert.Mesh

end
-- ==== Proof.Soft.lean ====
/-
  A weighted mean by exponentials does not change when one real number is taken from every score.
-/
module

public import Idealize.ShloMosaic.PureOps.Ideal.Laws

@[expose] public section

noncomputable section

namespace Cert.Mesh

open Idealize.ShloMosaic

/-- A real number that is not negative comes out of a sum of extended reals. -/
theorem mul_sum_real {ι : Type} [DecidableEq ι] (c : ℝ) (hc : 0 ≤ c) (S : Finset ι) (f : ι → EReal) :
    ∑ i ∈ S, (c : EReal) * f i = (c : EReal) * ∑ i ∈ S, f i := by
  induction S using Finset.induction_on with
  | empty => simp
  | insert a S ha ih =>
    rw [Finset.sum_insert ha, Finset.sum_insert ha, ih,
      EReal.left_distrib_of_nonneg_of_ne_top (by exact_mod_cast hc) (EReal.coe_ne_top c)]

/-- A sum of reals, taken as extended reals. -/
theorem coe_sum_real {ι : Type} [DecidableEq ι] (S : Finset ι) (f : ι → ℝ) : ∑ i ∈ S, (f i : EReal) = ((∑ i ∈ S, f i : ℝ) : EReal) := by
  induction S using Finset.induction_on with
  | empty => simp
  | insert a S ha ih => rw [Finset.sum_insert ha, Finset.sum_insert ha, ih, EReal.coe_add]

/-- The mean of `v` weighted by the exponentials of real scores, from which a real `m` has been taken or not. The values
    `v` may be any extended reals. -/
theorem mean_shift {n : ℕ} (hn : 0 < n) (s : Fin n → ℝ) (m : ℝ) (v : Fin n → EReal) :
    Ideal.div (∑ j, v j * Ideal.exp ((s j : EReal) - (m : EReal))) (∑ j, Ideal.exp ((s j : EReal) - (m : EReal)))
      = Ideal.div (∑ j, Ideal.exp (s j : EReal) * v j) (∑ j, Ideal.exp (s j : EReal)) := by
  have hw : ∀ j, Ideal.exp ((s j : EReal) - (m : EReal)) = ((Real.exp (-m) * Real.exp (s j) : ℝ) : EReal) := by
    intro j
    rw [← EReal.coe_sub]
    show ((Real.exp (s j - m) : ℝ) : EReal) = _
    rw [← Real.exp_add]
    congr 2
    rw [sub_eq_add_neg, add_comm]
  have he : ∀ j, Ideal.exp (s j : EReal) = ((Real.exp (s j) : ℝ) : EReal) := fun _ => rfl
  have hc : (0 : ℝ) < Real.exp (-m) := Real.exp_pos _
  have hL : (0 : ℝ) < ∑ j, Real.exp (s j) :=
    Finset.sum_pos (fun j _ => Real.exp_pos _) ⟨⟨0, hn⟩, Finset.mem_univ _⟩
  have hnum : ∑ j, v j * Ideal.exp ((s j : EReal) - (m : EReal))
      = ((Real.exp (-m) : ℝ) : EReal) * ∑ j, Ideal.exp (s j : EReal) * v j := by
    rw [← mul_sum_real _ hc.le]
    refine Finset.sum_congr rfl fun j _ => ?_
    rw [hw j, he j, EReal.coe_mul, mul_comm, mul_assoc]
  have hden : ∑ j, Ideal.exp ((s j : EReal) - (m : EReal)) = ((Real.exp (-m) * ∑ j, Real.exp (s j) : ℝ) : EReal) := by
    rw [Finset.mul_sum, ← coe_sum_real]
    exact Finset.sum_congr rfl fun j _ => hw j
  have hden' : ∑ j, Ideal.exp (s j : EReal) = ((∑ j, Real.exp (s j) : ℝ) : EReal) := by
    rw [← coe_sum_real]
    exact Finset.sum_congr rfl fun j _ => he j
  rw [hnum, hden, hden', Ideal.div_coe (mul_pos hc hL).ne', Ideal.div_coe hL.ne', mul_comm ((Real.exp (-m) : ℝ) : EReal), mul_assoc,
    ← EReal.coe_mul]
  congr 2
  field_simp

/-- The largest of at least one real scores, and the least extended real, is real. -/
theorem max_real {n : ℕ} (hn : 0 < n) (f : Fin n → EReal) (hf : ∀ j, ∃ r : ℝ, f j = r) :
    ∃ m : ℝ, (Finset.univ : Finset (Fin n)).fold max (⊥ : EReal) f = m := by
  obtain ⟨r0, h0⟩ := hf ⟨0, hn⟩
  have hlt : (Finset.univ : Finset (Fin n)).fold max (⊥ : EReal) f < ⊤ := by
    rw [Finset.fold_max_lt]
    refine ⟨bot_lt_top, fun j _ => ?_⟩
    obtain ⟨r, hr⟩ := hf j
    rw [hr]; exact EReal.coe_lt_top r
  have hgt : (⊥ : EReal) < (Finset.univ : Finset (Fin n)).fold max (⊥ : EReal) f := by
    rw [Finset.lt_fold_max]
    exact Or.inr ⟨⟨0, hn⟩, Finset.mem_univ _, by rw [h0]; exact EReal.bot_lt_coe r0⟩
  exact ⟨_, (EReal.coe_toReal hlt.ne hgt.ne').symm⟩

/-- A sum of products of reals is real. -/
theorem sum_mul_real {n : ℕ} (f g : Fin n → EReal) (hf : ∀ j, ∃ r : ℝ, f j = r) (hg : ∀ j, ∃ r : ℝ, g j = r) :
    ∃ m : ℝ, ∑ j, f j * g j = m := by
  choose a ha using hf
  choose b hb using hg
  refine ⟨∑ j, a j * b j, ?_⟩
  rw [← coe_sum_real]
  exact Finset.sum_congr rfl fun j _ => by rw [ha j, hb j, EReal.coe_mul]

end Cert.Mesh

end
-- ==== Proof.ValR.lean ====
/-
  The reference's result, read exactly, stage by stage.
-/
module

public import proofs.«01_k».proof.Proof.RefRun
public import proofs.«01_k».proof.Proof.Soft
public import Idealize.ShloMosaic.Lib.StackMember
public import Idealize.ShloMosaic.Lib.IdealHost
public import Idealize.ShloMosaic.Lib.ValueLayout

@[expose] public section

noncomputable section

namespace Cert.Whole

open Cert.ReferenceIdeal Cert.ReferenceIdeal.Gen
open Idealize.ShloMosaic Idealize.ShloMosaic.TcCoe Idealize.ShloMosaic.StableHlo Idealize.SL.Sem
open Idealize.ShloMosaic.ValueIdx

/-! ## Places -/

/-- The factor of the scores, one eighth. -/
def sc : EReal := Ideal.ofBits .f32 0x3E000000#32

theorem sc_real : ∃ r : ℝ, sc = r := ⟨1 / 8, by unfold sc; simp [Ideal.ofBits, Ideal.ieee]; rw [← EReal.coe_mul]; norm_num⟩

/-- A token's row. -/
def tok (b : Fin 2) (i : Fin 256) : Fin 512 := ⟨256 * b.val + i.val, by have := b.isLt; have := i.isLt; omega⟩
/-- A column of the queries, from its head and its place there. -/
def col (h e : Fin 64) : Fin 4096 := ⟨64 * h.val + e.val, by have := h.isLt; have := e.isLt; omega⟩
/-- The head of a column. -/
def hdW (n : Fin 4096) : Fin 64 := ⟨n.val / 64, by have := n.isLt; omega⟩
/-- Its place in the head. -/
def enW (n : Fin 4096) : Fin 64 := ⟨n.val % 64, Nat.mod_lt _ (by decide)⟩
/-- The group whose keys and values a head reads. -/
def kvh (h : Fin 64) : Fin 16 := ⟨h.val / 4, by have := h.isLt; omega⟩

/-! ## The stages -/

theorem qs_apply (x : FVec Ideal S2x256x768 .bf16) (wq : FVec Ideal S768x4096 .bf16) (b : Fin 2) (i : Fin 256) (h e : Fin 64) :
    qs x wq (ix4 b i h e) = ∑ k : Fin 768, x (ix3 b i k) * wq (ix2 k (col h e)) := by
  unfold qs
  refine (shapeCast_apply _ _ (ix4 b i h e) (ix2 (tok b i) (col h e)) ?_).trans ?_
  · rw [Shape.rowMajor_val_two, Shape.rowMajor_val_four]
    show (256 * b.val + i.val) * 4096 + (64 * h.val + e.val) = ((b.val * 256 + i.val) * 64 + h.val) * 64 + e.val
    omega
  refine (StackMember.dotGeneral_plain_apply (m := 512) (k := 768) (n := 4096) none _ _ (tok b i) (col h e)).trans ?_
  refine Finset.sum_congr rfl fun k _ => congrArg₂ (· * ·) ?_ rfl
  refine (shapeCast_apply _ _ (ix2 (tok b i) k) (ix3 b i k) ?_)
  rw [Shape.rowMajor_val_two, Shape.rowMajor_val_three]
  show (b.val * 256 + i.val) * 768 + k.val = (256 * b.val + i.val) * 768 + k.val
  omega

theorem rep_apply (k : FVec Ideal S2x512x16x64 .bf16) (b : Fin 2) (j : Fin 512) (h e : Fin 64) :
    rep k (ix4 b j h e) = k (ix4 b j (kvh h) e) := by
  unfold rep
  have hh : h.val % 4 < 4 := Nat.mod_lt _ (by decide)
  refine (shapeCast_apply _ _ (ix4 b j h e) (ix5 b j (kvh h) (⟨h.val % 4, hh⟩ : Fin 4) e) ?_).trans ?_
  · rw [Shape.rowMajor_val_five, Shape.rowMajor_val_four]
    show (((b.val * 512 + j.val) * 16 + h.val / 4) * 4 + h.val % 4) * 64 + e.val = ((b.val * 512 + j.val) * 64 + h.val) * 64 + e.val
    omega
  · refine broadcastInDim_apply _ _ _ _ (ix4 b j (kvh h) e) fun a => ?_
    fin_cases a <;> rfl

theorem scores_apply (q : FVec Ideal S2x256x64x64 .f32) (k : FVec Ideal S2x512x64x64 .f32) (b : Fin 2) (h : Fin 64) (i : Fin 256) (j : Fin 512) :
    scores q k (ix4 b h i j) = (∑ e : Fin 64, q (ix4 b i h e) * k (ix4 b j h e)) * sc := by
  unfold scores
  rw [mulf_apply]
  refine congrArg₂ (· * ·) ?_ (broadcastInDim_scalar_apply _ _ _)
  show FloatOps.dotGeneral (φ₁ := .f32) (φ₂ := .f32) dot_S2x256x64x64_S2x512x64x64_S2x64x256x512_3_3_1_1_02_02 none _ q k (ix4 b h i j) = _
  rw [Ideal.dotGeneral_apply,
    ← Equiv.sum_comp (contrEquiv1 dot_S2x256x64x64_S2x512x64x64_S2x64x256x512_3_3_1_1_02_02 64 rfl rfl).symm]
  refine Finset.sum_congr rfl fun e _ => ?_
  have c := contrEquiv1_symm_val dot_S2x256x64x64_S2x512x64x64_S2x64x256x512_3_3_1_1_02_02 64 rfl rfl e
  refine congrArg₂ (· * ·) (congrArg q ?_) (congrArg k ?_)
  · funext ax; apply Fin.ext
    match ax with
    | ⟨0, _⟩ => rfl
    | ⟨1, _⟩ => rfl
    | ⟨2, _⟩ => rfl
    | ⟨3, _⟩ => exact c
  · funext ax; apply Fin.ext
    match ax with
    | ⟨0, _⟩ => rfl
    | ⟨1, _⟩ => rfl
    | ⟨2, _⟩ => rfl
    | ⟨3, _⟩ => exact c

/-- The row's largest score. -/
def top (s : FVec Ideal S2x64x256x512 .f32) (b : Fin 2) (h : Fin 64) (i : Fin 256) : EReal :=
  (Finset.univ : Finset (Fin 512)).fold max ⊥ fun j => s (ix4 b h i j)

theorem red3 : Shape.Reduces S2x64x256x512 [3] S2x64x256 := by decide

theorem lift3 (b : Fin 2) (h : Fin 64) (i : Fin 256) (j : Fin 512) : red3.lift (ix3 b h i) j = ix4 b h i j := by
  funext a; fin_cases a <;> rfl

theorem wts_apply (s : FVec Ideal S2x64x256x512 .f32) (b : Fin 2) (h : Fin 64) (i : Fin 256) (j : Fin 512) :
    wts s (ix4 b h i j) = Ideal.exp (s (ix4 b h i j) - top s b h i) := by
  unfold wts
  refine congrArg Ideal.exp ?_
  rw [subf_apply]
  refine congrArg (s (ix4 b h i j) - ·) ?_
  refine (broadcastInDim_apply _ _ _ _ (ix4 b h i (0 : Fin 1)) fun a => by fin_cases a <;> rfl).trans ?_
  refine (broadcastInDim_apply _ _ _ _ (ix3 b h i) fun a => by fin_cases a <;> rfl).trans ?_
  rw [Host.reduce_eq_fold_single FloatOps.maximumf s _ _ red3]
  have hb : (constant (F := Ideal) S_ .f32 0xFF800000#32) (Shape.Idx.first h_S_) = (⊥ : EReal) := by
    rw [constant_apply]; simp [Ideal.ofBits, Ideal.ieee]
  rw [hb]
  unfold top
  refine congrArg (Finset.fold max (⊥ : EReal) · Finset.univ) (funext fun j => ?_)
  exact congrArg s (lift3 b h i j)

theorem heads_apply (p : FVec Ideal S2x64x256x512 .f32) (v : FVec Ideal S2x512x64x64 .f32) (b : Fin 2) (i : Fin 256) (n : Fin 4096) :
    heads p v (ix2 (tok b i) n) = Ideal.div (∑ j : Fin 512, v (ix4 b j (hdW n) (enW n)) * p (ix4 b (hdW n) i j)) (∑ j : Fin 512, p (ix4 b (hdW n) i j)) := by
  unfold heads
  refine (shapeCast_apply _ _ (ix2 (tok b i) n) (ix4 b i (hdW n) (enW n)) ?_).trans ?_
  · rw [Shape.rowMajor_val_two, Shape.rowMajor_val_four]
    show ((b.val * 256 + i.val) * 64 + n.val / 64) * 64 + n.val % 64 = (256 * b.val + i.val) * 4096 + n.val
    omega
  rw [hostDivf_apply]
  generalize hdW n = h
  generalize enW n = e
  refine congrArg₂ Ideal.div ?_ ?_
  · refine (transpose_apply _ _ _ (ix4 b i h e) (ix4 b h e i) fun a => by fin_cases a <;> rfl).trans ?_
    show FloatOps.dotGeneral (φ₁ := .f32) (φ₂ := .f32) dot_S2x512x64x64_S2x64x256x512_S2x64x64x256_1_3_3_2_02_01 none _ v p (ix4 b h e i) = _
    rw [Ideal.dotGeneral_apply,
      ← Equiv.sum_comp (contrEquiv1 dot_S2x512x64x64_S2x64x256x512_S2x64x64x256_1_3_3_2_02_01 512 rfl rfl).symm]
    refine Finset.sum_congr rfl fun j _ => ?_
    have c := contrEquiv1_symm_val dot_S2x512x64x64_S2x64x256x512_S2x64x64x256_1_3_3_2_02_01 512 rfl rfl j
    refine congrArg₂ (· * ·) (congrArg v ?_) (congrArg p ?_)
    · funext ax; apply Fin.ext
      match ax with
      | ⟨0, _⟩ => rfl
      | ⟨1, _⟩ => exact c
      | ⟨2, _⟩ => rfl
      | ⟨3, _⟩ => rfl
    · funext ax; apply Fin.ext
      match ax with
      | ⟨0, _⟩ => rfl
      | ⟨1, _⟩ => rfl
      | ⟨2, _⟩ => rfl
      | ⟨3, _⟩ => exact c
  · refine (broadcastInDim_apply _ _ _ _ (ix4 b i h (0 : Fin 1)) fun a => by fin_cases a <;> rfl).trans ?_
    refine (transpose_apply _ _ _ (ix4 b i h (0 : Fin 1)) (ix4 b h i (0 : Fin 1)) fun a => by fin_cases a <;> rfl).trans ?_
    refine (broadcastInDim_apply _ _ _ _ (ix3 b h i) fun a => by fin_cases a <;> rfl).trans ?_
    rw [hostReduceAdd_apply, Ideal.hostReduceAdd_single _ red3, constant_apply, Ideal.ofBits_zero_f32, zero_add]
    exact Finset.sum_congr rfl fun j _ => congrArg p (lift3 b h i j)

theorem proj_apply (h : FVec Ideal S512x4096 .f32) (wo : FVec Ideal S4096x768 .bf16) (b : Fin 2) (i : Fin 256) (d : Fin 768) :
    proj h wo (ix3 b i d) = ∑ n : Fin 4096, h (ix2 (tok b i) n) * wo (ix2 n d) := by
  unfold proj
  refine (shapeCast_apply _ _ (ix3 b i d) (ix2 (tok b i) d) ?_).trans ?_
  · rw [Shape.rowMajor_val_two, Shape.rowMajor_val_three]
    show (256 * b.val + i.val) * 768 + d.val = (b.val * 256 + i.val) * 768 + d.val
    omega
  rw [truncf_apply]
  exact StackMember.dotGeneral_plain_apply (m := 512) (k := 4096) (n := 768) none _ _ (tok b i) d

/-! ## The result, with no number taken from the scores -/

/-- A query. -/
def Q (x : FVec Ideal S2x256x768 .bf16) (wq : FVec Ideal S768x4096 .bf16) (b : Fin 2) (i : Fin 256) (h e : Fin 64) : EReal :=
  ∑ k : Fin 768, x (ix3 b i k) * wq (ix2 k (col h e))

/-- A score. -/
def S (x : FVec Ideal S2x256x768 .bf16) (wq : FVec Ideal S768x4096 .bf16) (k : FVec Ideal S2x512x16x64 .bf16) (b : Fin 2) (h : Fin 64)
    (i : Fin 256) (j : Fin 512) : EReal :=
  (∑ e : Fin 64, Q x wq b i h e * k (ix4 b j (kvh h) e)) * sc

/-- An array whose elements are all real numbers. -/
def Fin' {s : Shape} (x : s.Idx → EReal) : Prop := ∀ i, ∃ r : ℝ, x i = r

theorem S_real (x : FVec Ideal S2x256x768 .bf16) (wq : FVec Ideal S768x4096 .bf16) (k : FVec Ideal S2x512x16x64 .bf16)
    (hx : Fin' x) (hq : Fin' wq) (hk : Fin' k) (b : Fin 2) (h : Fin 64) (i : Fin 256) (j : Fin 512) : ∃ r : ℝ, S x wq k b h i j = r := by
  obtain ⟨a, ha⟩ := Cert.Mesh.sum_mul_real (fun e : Fin 64 => Q x wq b i h e) (fun e => k (ix4 b j (kvh h) e))
    (fun e => Cert.Mesh.sum_mul_real _ _ (fun n => hx _) (fun n => hq _)) (fun e => hk _)
  obtain ⟨c, hc⟩ := sc_real
  refine ⟨a * c, ?_⟩
  unfold S
  rw [ha, hc, EReal.coe_mul]

theorem refOut_apply (x : FVec Ideal S2x256x768 .bf16) (wq : FVec Ideal S768x4096 .bf16) (wo : FVec Ideal S4096x768 .bf16)
    (k v : FVec Ideal S2x512x16x64 .bf16) (hx : Fin' x) (hq : Fin' wq) (hk : Fin' k) (b : Fin 2) (i : Fin 256) (d : Fin 768) :
    refOut x wq wo k v (ix3 b i d) = ∑ n : Fin 4096,
      Ideal.div (∑ j : Fin 512, Ideal.exp (S x wq k b (hdW n) i j) * v (ix4 b j (kvh (hdW n)) (enW n)))
        (∑ j : Fin 512, Ideal.exp (S x wq k b (hdW n) i j)) * wo (ix2 n d) := by
  unfold refOut
  rw [proj_apply]
  refine Finset.sum_congr rfl fun n _ => congrArg (· * wo (ix2 n d)) ?_
  rw [heads_apply]
  generalize hdW n = h
  generalize enW n = e
  have hs : ∀ j, scores (qs x wq) (rep k) (ix4 b h i j) = S x wq k b h i j := fun j => by
    rw [scores_apply]
    refine congrArg (· * sc) (Finset.sum_congr rfl fun e _ => ?_)
    rw [qs_apply, rep_apply]
    rfl
  choose r hr using S_real x wq k hx hq hk b h i
  obtain ⟨m, hm⟩ := Cert.Mesh.max_real (n := 512) (by decide) (fun j => S x wq k b h i j) (fun j => ⟨r j, hr j⟩)
  have ht : top (scores (qs x wq) (rep k)) b h i = m := by
    rw [← hm]
    exact congrArg (Finset.fold max (⊥ : EReal) · Finset.univ) (funext hs)
  have hw : ∀ j, wts (scores (qs x wq) (rep k)) (ix4 b h i j) = Ideal.exp ((r j : EReal) - m) := fun j => by
    rw [wts_apply, hs, ht, hr]
  have := Cert.Mesh.mean_shift (n := 512) (by decide) r m fun j => v (ix4 b j (kvh h) e)
  simp only [hr, hw, rep_apply]
  exact this

end Cert.Whole

end
-- ==== Proof.Value.lean ====
/-
  The value: the kernel's result on every device is the reference's, whenever the inputs, the query weights and the keys are real.
-/
module

public import proofs.«01_k».proof.Proof.Pre
public import proofs.«01_k».proof.Proof.Frames
public import proofs.«01_k».proof.Proof.ValI
public import proofs.«01_k».proof.Proof.ValK
public import proofs.«01_k».proof.Proof.ValR

@[expose] public section

noncomputable section

namespace Cert.Mesh

open Cert.KernelIdeal Cert.KernelIdeal.Gen
open Idealize.ShloMosaic Idealize.ShloMosaic.TcCoe Idealize.SL.Sem
open Idealize.ShloMosaic.ValueIdx

/-- A device's head, among all. -/
def hw (c : Fin 8) (h : Fin 8) : Fin 64 := ⟨8 * c.val + h.val, by have := c.isLt; have := h.isLt; omega⟩
/-- A device's column, among all. -/
def cw (c : Fin 8) (n : Fin 512) : Fin 4096 := ⟨512 * c.val + n.val, by have := c.isLt; have := n.isLt; omega⟩

theorem hd_cw (c : Fin 8) (n : Fin 512) : Cert.Whole.hdW (cw c n) = hw c (hd n) :=
  Fin.ext (by show (512 * c.val + n.val) / 64 = 8 * c.val + n.val / 64; omega)
theorem en_cw (c : Fin 8) (n : Fin 512) : Cert.Whole.enW (cw c n) = en n :=
  Fin.ext (by show (512 * c.val + n.val) % 64 = n.val % 64; omega)
theorem col_hw (c : Fin 8) (h : Fin 8) (e : Fin 64) : Cert.Whole.col (hw c h) e = cw c (qc h e) :=
  Fin.ext (by show 64 * (8 * c.val + h.val) + e.val = 512 * c.val + (64 * h.val + e.val); omega)
theorem kv_hw (c : Fin 8) (h : Fin 8) (e : Fin 64) : 128 * c.val + (kc h e).val = 64 * (Cert.Whole.kvh (hw c h)).val + e.val := by
  show 128 * c.val + (64 * (h.val / 4) + e.val) = 64 * ((8 * c.val + h.val) / 4) + e.val
  omega

/-- A sum over all columns, device by device. -/
theorem sum_cw (f : Fin 4096 → EReal) : ∑ N : Fin 4096, f N = ∑ c : Fin 8, ∑ n : Fin 512, f (cw c n) := by
  rw [← Fintype.sum_prod_type' (fun (c : Fin 8) (n : Fin 512) => f (cw c n))]
  refine (Equiv.sum_comp (finProdFinEquiv (m := 8) (n := 512)) f).symm.trans (Finset.sum_congr rfl fun p _ => congrArg f (Fin.ext ?_))
  show p.2.val + 512 * p.1.val = 512 * p.1.val + p.2.val
  omega

/-- A device's columns of the query weights. -/
theorem wq_at (w : FVec Ideal ⟨2, ![768, 4096]⟩ .bf16) (c : Fin 8) (k : Fin 768) (n : Fin 512) :
    (Layout.block ⟨2, ![768, 512]⟩ ⟨2, ![768, 4096]⟩ 1 8 c w : FVec Ideal ⟨2, ![768, 512]⟩ .bf16) (ix2 k n) = w (ix2 k (cw c n)) := by
  rw [Layout.block_apply]
  congr 1
  funext a; fin_cases a
  · exact Fin.ext rfl
  · exact Fin.ext (by show c.val * 512 + n.val = 512 * c.val + n.val; omega)

/-- A device's rows of the output weights. -/
theorem wo_at (w : FVec Ideal ⟨2, ![4096, 768]⟩ .bf16) (c : Fin 8) (n : Fin 512) (d : Fin 768) :
    (Layout.block ⟨2, ![512, 768]⟩ ⟨2, ![4096, 768]⟩ 0 8 c w : FVec Ideal ⟨2, ![512, 768]⟩ .bf16) (ix2 n d) = w (ix2 (cw c n) d) := by
  rw [Layout.block_apply]
  congr 1
  funext a; fin_cases a
  · exact Fin.ext (by show c.val * 512 + n.val = 512 * c.val + n.val; omega)
  · exact Fin.ext rfl

section
variable (m : (ℓ : Loc nD τ sig) → Buf (Elt Ideal) ℓ)
  (x : FVec Ideal S2x256x768 .bf16) (wq : FVec Ideal ⟨2, ![768, 4096]⟩ .bf16) (wo : FVec Ideal ⟨2, ![4096, 768]⟩ .bf16)
  (k v : FVec Ideal S2x512x16x64 .bf16)
  (h0 : ∀ c : Dev nD, m ((c.tc : Thread nD τ).loc main_arg0) = x)
  (h1 : ∀ c : Dev nD, m ((c.tc : Thread nD τ).loc main_arg1) = Layout.block ⟨2, ![768, 512]⟩ ⟨2, ![768, 4096]⟩ 1 8 c wq)
  (h2 : ∀ c : Dev nD, m ((c.tc : Thread nD τ).loc main_arg2) = Layout.block ⟨2, ![512, 768]⟩ ⟨2, ![4096, 768]⟩ 0 8 c wo)
  (h3 : ∀ c : Dev nD, m ((c.tc : Thread nD τ).loc main_arg3) = k)
  (h4 : ∀ c : Dev nD, m ((c.tc : Thread nD τ).loc main_arg4) = v)

include h0 h1 in
theorem lq_eq (c : Dev nD) (b : Fin 2) (i : Fin 256) (h : Fin 8) (e : Fin 64) :
    lq (inp m c) b i (qc h e) = Cert.Whole.Q x wq b i (hw c h) e := by
  unfold lq Cert.Whole.Q
  refine Finset.sum_congr rfl fun z _ => ?_
  rw [x_at, h0, inp_wq, h1, wq_at, col_hw]

include h0 h1 h3 in
theorem ls_eq (c : Dev nD) (b : Fin 2) (i : Fin 256) (h : Fin 8) (j : Fin 512) :
    ls (inp m c) b h i j = Cert.Whole.S x wq k b (hw c h) i j := by
  unfold ls Cert.Whole.S
  refine congrArg (· * sc) (Finset.sum_congr rfl fun e _ => ?_)
  rw [lq_eq m x wq h0 h1, inp_k, h3]
  exact congrArg (_ * ·) (kvOf_apply (F := Ideal) k c b j (kc h e) (Cert.Whole.kvh (hw c h)) e (kv_hw c h e))

include h0 h1 h2 h3 h4 in
theorem result_whole (hx : Cert.Whole.Fin' x) (hq : Cert.Whole.Fin' wq) (hk : Cert.Whole.Fin' k) (c : Dev nD) :
    (result m c : FVec Ideal S2x256x768 .bf16) = Cert.Whole.refOut x wq wo k v := by
  funext t
  obtain ⟨b, i, d, rfl⟩ : ∃ b i d, t = ix3 b i d := ⟨_, _, _, eq_ix3 t⟩
  have key : (outV (inp m) (ix2 (row b i) d) : EReal) = (Cert.Whole.refOut x wq wo k v (ix3 b i d) : EReal) := by
    refine (outV_apply (inp m) b i d).trans (Eq.trans ?_ ((Cert.Whole.refOut_apply x wq wo k v hx hq hk b i d).trans (sum_cw _)).symm)
    refine Finset.sum_congr rfl fun c _ => ?_
    refine (att_apply (inp m c) b i d).trans ?_
    refine Finset.sum_congr rfl fun n _ => ?_
    rw [hd_cw, en_cw, inp_wo, h2, wo_at]
    refine congrArg (· * wo (ix2 (cw c n) d)) ?_
    unfold lo
    simp only [ls_eq m x wq k h0 h1 h3, inp_v, h4]
    refine congrArg (Ideal.div · _) (Finset.sum_congr rfl fun j _ => congrArg (fun y => Ideal.exp (Cert.Whole.S x wq k b (hw c (hd n)) i j) * y) ?_)
    exact kvOf_apply (F := Ideal) v c b j (kc (hd n) (en n)) _ (en n) (kv_hw c (hd n) (en n))
  exact (result_at (F := Ideal) m c b i d).trans key

end

/-- Weights whose every device's block is real are real. -/
theorem real_of_blocks (w : FVec Ideal ⟨2, ![768, 4096]⟩ .bf16)
    (h : ∀ (c : Fin 8) (i : (⟨2, ![768, 512]⟩ : Shape).Idx), ∃ r : ℝ,
      (Layout.block ⟨2, ![768, 512]⟩ ⟨2, ![768, 4096]⟩ 1 8 c w : FVec Ideal ⟨2, ![768, 512]⟩ .bf16) i = (r : EReal)) :
    Cert.Whole.Fin' w := by
  intro t
  obtain ⟨k, N, rfl⟩ : ∃ (k : Fin 768) (N : Fin 4096), t = ix2 k N := ⟨_, _, eq_ix2 t⟩
  have hN := N.isLt
  have e : N = cw ⟨N.val / 512, by omega⟩ ⟨N.val % 512, Nat.mod_lt _ (by decide)⟩ :=
    Fin.ext (by show N.val = 512 * (N.val / 512) + N.val % 512; omega)
  obtain ⟨r, hr⟩ := h ⟨N.val / 512, by omega⟩ (ix2 k ⟨N.val % 512, Nat.mod_lt _ (by decide)⟩)
  rw [wq_at, ← e] at hr
  exact ⟨r, hr⟩

theorem value : Cert.algebraic_KernelIdeal_ReferenceIdeal_pre_finite_scores_KernelIdeal (hPre_finite_scores_KernelIdeal := pre_facts) := by
  intro m g m' g' hp ha
  have hf := real_of_pre m hp
  have hx : Cert.Whole.Fin' (m' (((0 : Dev Cert.ReferenceIdeal.nD).tc : Thread Cert.ReferenceIdeal.nD Cert.ReferenceIdeal.τ).loc Cert.ReferenceIdeal.main_arg0)) := by
    rw [← (ha 0).1]; exact (hf 0).1
  have hk : Cert.Whole.Fin' (m' (((0 : Dev Cert.ReferenceIdeal.nD).tc : Thread Cert.ReferenceIdeal.nD Cert.ReferenceIdeal.τ).loc Cert.ReferenceIdeal.main_arg3)) := by
    rw [← (ha 0).2.2.2.1]; exact (hf 0).2.2
  have hq : Cert.Whole.Fin' (m' (((0 : Dev Cert.ReferenceIdeal.nD).tc : Thread Cert.ReferenceIdeal.nD Cert.ReferenceIdeal.τ).loc Cert.ReferenceIdeal.main_arg1)) :=
    real_of_blocks _ fun c i => by
      have := (hf c).2.1 i
      rw [(ha c).2.1] at this
      exact this
  refine ⟨_, (θ_run Cert.KernelIdeal.defs _ _).mono (fun r h c => ⟨(h.1 c).2.trans ?_, (h.1 c).1⟩) (run_main (F := Ideal) m g),
    (θ_run Cert.ReferenceIdeal.defs _ _).mono (fun r h => h 0) (Cert.Whole.run_main (F := Ideal) m' g')⟩
  exact result_whole m _ _ _ _ _ (fun c => (ha c).1) (fun c => (ha c).2.1) (fun c => (ha c).2.2.1) (fun c => (ha c).2.2.2.1)
    (fun c => (ha c).2.2.2.2) hx hq hk c

end Cert.Mesh

end
-- ==== Proof.lean ====
/-
  The certificate: the three programs run to the end, the ideal kernel is the kernel, and the ideal kernel's result on every device is
  the reference's, where the inputs, the query weights and the keys are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mesh.pre_facts, Cert.Mesh.pre_facts_ref,
  Cert.Mesh.frame_kernel, Cert.Mesh.frame_ideal, fun m ρ _ => Cert.Mesh.frame_ideal m ρ trivial,
  Cert.Mesh.frame_ref, fun m ρ _ => Cert.Mesh.frame_ref m ρ trivial, trivial, Cert.Mesh.value⟩

end Cert.Proof

end
